-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54_0) = v0 c
          ∧ r.2.mem ((c.tc : Thread Cert.ReferenceIdeal.nD Cert.ReferenceIdeal.τ).loc Cert.ReferenceIdeal.main_v54_1) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x2 : Shape := ⟨2, ![1536, 2]⟩
abbrev S1536x8 : Shape := ⟨2, ![1536, 8]⟩
abbrev S1536x6144 : Shape := ⟨2, ![1536, 6144]⟩
abbrev S1536 : Shape := ⟨1, ![1536]⟩
abbrev S6144x8 : Shape := ⟨2, ![6144, 8]⟩
abbrev S8 : Shape := ⟨1, ![8]⟩
abbrev S1 : Shape := ⟨1, ![1]⟩
abbrev S8x6144 : Shape := ⟨2, ![8, 6144]⟩
abbrev S_ : Shape := ⟨0, ![]⟩
abbrev S16x6144 : Shape := ⟨2, ![16, 6144]⟩
abbrev S2x1536 : Shape := ⟨2, ![2, 1536]⟩
abbrev S8x1536 : Shape := ⟨2, ![8, 1536]⟩
abbrev S12x128 : Shape := ⟨2, ![12, 128]⟩
abbrev S6x128x6144 : Shape := ⟨3, ![6, 128, 6144]⟩
abbrev S3x128x6144 : Shape := ⟨3, ![3, 128, 6144]⟩
abbrev S1536x128 : Shape := ⟨2, ![1536, 128]⟩
abbrev S16x1536 : Shape := ⟨2, ![16, 1536]⟩
abbrev S12 : Shape := ⟨1, ![12]⟩
abbrev S3 : Shape := ⟨1, ![3]⟩
abbrev S6 : Shape := ⟨1, ![6]⟩
abbrev S1x128x6144 : Shape := ⟨3, ![1, 128, 6144]⟩
abbrev S128x6144 : Shape := ⟨2, ![128, 6144]⟩
abbrev S1x1536 : Shape := ⟨2, ![1, 1536]⟩
abbrev S8x128 : Shape := ⟨2, ![8, 128]⟩
abbrev S120x128 : Shape := ⟨2, ![120, 128]⟩
abbrev S128x128 : Shape := ⟨2, ![128, 128]⟩
abbrev S16x128 : Shape := ⟨2, ![16, 128]⟩
abbrev S128x16 : Shape := ⟨2, ![128, 16]⟩
abbrev S128x144 : Shape := ⟨2, ![128, 144]⟩
abbrev S16x16 : Shape := ⟨2, ![16, 16]⟩
abbrev S16x144 : Shape := ⟨2, ![16, 144]⟩
abbrev S144x144 : Shape := ⟨2, ![144, 144]⟩
abbrev S1x128 : Shape := ⟨2, ![1, 128]⟩
abbrev S128x256 : Shape := ⟨2, ![128, 256]⟩
abbrev S1x128x256 : Shape := ⟨3, ![1, 128, 256]⟩
abbrev S16x256 : Shape := ⟨2, ![16, 256]⟩
abbrev S144x256 : Shape := ⟨2, ![144, 256]⟩
abbrev S8x256 : Shape := ⟨2, ![8, 256]⟩

abbrev nBuf : Space → Nat
  | .hbm => 19
  | .vmem => 11
  | .smem => 2
  | _ => 0

abbrev bufTy : (tb : Table) → Fin (tcTables nBuf tb) → BufTy
  | .hbm, ⟨0, _⟩ => ⟨S1536x2, .f32⟩
  | .hbm, ⟨1, _⟩ => ⟨S1536x2, .i32⟩
  | .hbm, ⟨2, _⟩ => ⟨S1536x8, .f32⟩
  | .hbm, ⟨3, _⟩ => ⟨S1536x6144, .fp8e4m3⟩
  | .hbm, ⟨4, _⟩ => ⟨S1536, .f32⟩
  | .hbm, ⟨5, _⟩ => ⟨S6144x8, .bf16⟩
  | .hbm, ⟨6, _⟩ => ⟨S8, .f32⟩
  | .hbm, ⟨7, _⟩ => ⟨S1, .f32⟩
  | .hbm, ⟨8, _⟩ => ⟨S8x6144, .bf16⟩
  | .hbm, ⟨9, _⟩ => ⟨S_, .bf16⟩
  | .hbm, ⟨10, _⟩ => ⟨S8x6144, .bf16⟩
  | .hbm, ⟨11, _⟩ => ⟨S16x6144, .bf16⟩
  | .hbm, ⟨12, _⟩ => ⟨S2x1536, .f32⟩
  | .hbm, ⟨13, _⟩ => ⟨S2x1536, .i32⟩
  | .hbm, ⟨14, _⟩ => ⟨S8x1536, .f32⟩
  | .hbm, ⟨15, _⟩ => ⟨S12x128, .f32⟩
  | .hbm, ⟨16, _⟩ => ⟨S1536x6144, .bf16⟩
  | .hbm, ⟨17, _⟩ => ⟨S8x6144, .f32⟩
  | .hbm, ⟨18, _⟩ => ⟨S8x1536, .f32⟩
  | .local _ .vmem, ⟨0, _⟩ => ⟨S2x1536, .i32⟩
  | .local _ .vmem, ⟨1, _⟩ => ⟨S8x1536, .f32⟩
  | .local _ .vmem, ⟨2, _⟩ => ⟨S12x128, .f32⟩
  | .local _ .vmem, ⟨3, _⟩ => ⟨S16x6144, .bf16⟩
  | .local _ .vmem, ⟨4, _⟩ => ⟨S8x6144, .f32⟩
  | .local _ .vmem, ⟨5, _⟩ => ⟨S8x1536, .f32⟩
  | .local _ .vmem, ⟨6, _⟩ => ⟨S2x1536, .f32⟩
  | .local _ .vmem, ⟨7, _⟩ => ⟨S6x128x6144, .bf16⟩
  | .local _ .vmem, ⟨8, _⟩ => ⟨S3x128x6144, .fp8e4m3⟩
  | .local _ .vmem, ⟨9, _⟩ => ⟨S1536x128, .bf16⟩
  | .local _ .vmem, ⟨10, _⟩ => ⟨S16x1536, .bf16⟩
  | .local _ .smem, ⟨0, _⟩ => ⟨S8, .f32⟩
  | .local _ .smem, ⟨1, _⟩ => ⟨S1, .f32⟩
  | _, _ => ⟨S1536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [FloatOps F]

abbrev grid0 : Pipeline.Grid := .none

def k0_mult1 : BitVec 32 :=
  let c0_i32_9 : BitVec 32 := 0#32
  c0_i32_9
def k0_off1 (c0_i32_7 : BitVec 32) : Fin 1 → Nat :=
  let c3_i32_8 : BitVec 32 := 3#32
  let v28 : BitVec 32 := Scalar.remsi c0_i32_7 c3_i32_8
  ![v28.toNat]
def k0_off2 (c0_i32_7 : BitVec 32) : Fin 3 → Nat :=
  let c3_i32_8 : BitVec 32 := 3#32
  let v28 : BitVec 32 := Scalar.remsi c0_i32_7 c3_i32_8
  let c0_i32_10 : BitVec 32 := 0#32
  let c0_i32_11 : BitVec 32 := 0#32
  ![v28.toNat, 0, 0]
def k0_mult2 : BitVec 32 :=
  let c128_i32 : BitVec 32 := 128#32
  c128_i32
def k0_mult3 : BitVec 32 :=
  let c256_i32 : BitVec 32 := 256#32
  c256_i32
@[reducible] def k0_t1_loop : Scf.Loop 32 :=
  let c0_i32_108 : BitVec 32 := 0#32
  let c12_i32 : BitVec 32 := 12#32
  let v317 : BitVec 32 := Scalar.addi c0_i32_108 c12_i32
  let c1_i32_109 : BitVec 32 := 1#32
  ⟨c0_i32_108, v317, c1_i32_109⟩
def k0_mult4 (k0_t1 : Fin k0_t1_loop.trips) : BitVec 32 :=
  let c0_i32_108 : BitVec 32 := 0#32
  let c1_i32_109 : BitVec 32 := 1#32
  let arg27 : BitVec 32 := Scf.iv c0_i32_108 c1_i32_109 k0_t1
  let c128_i32_142 : BitVec 32 := 128#32
  let v367 : BitVec 32 := Scalar.muli arg27 c128_i32_142
  v367
def k0_off3 (k0_t1 : Fin k0_t1_loop.trips) : Fin 1 → Nat :=
  let c0_i32_108 : BitVec 32 := 0#32
  let c1_i32_109 : BitVec 32 := 1#32
  let arg27 : BitVec 32 := Scf.iv c0_i32_108 c1_i32_109 k0_t1
  let c3_i32_141 : BitVec 32 := 3#32
  let v366 : BitVec 32 := Scalar.remsi arg27 c3_i32_141
  ![v366.toNat]
def k0_off4 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_141 : BitVec 32 := 3#32
  let v366 : BitVec 32 := Scalar.remsi arg27 c3_i32_141
  let c0_i32_143 : BitVec 32 := 0#32
  let c0_i32_144 : BitVec 32 := 0#32
  ![v366.toNat, 0, 0]
def k0_off5 (k0_t1 : Fin k0_t1_loop.trips) : Fin 2 → Nat :=
  let c0_i32_108 : BitVec 32 := 0#32
  let c1_i32_109 : BitVec 32 := 1#32
  let arg27 : BitVec 32 := Scf.iv c0_i32_108 c1_i32_109 k0_t1
  let c128_i32_142 : BitVec 32 := 128#32
  let v367 : BitVec 32 := Scalar.muli arg27 c128_i32_142
  let v368 : BitVec 32 := v367
  let c0_i32_145 : BitVec 32 := 0#32
  ![v368.toNat, 0]
def k0_cond1 (k0_t1 : Fin k0_t1_loop.trips) : BitVec 1 :=
  let c0_i32_108 : BitVec 32 := 0#32
  let c1_i32_109 : BitVec 32 := 1#32
  let arg27 : BitVec 32 := Scf.iv c0_i32_108 c1_i32_109 k0_t1
  let c6_i32_148 : BitVec 32 := 6#32
  let v376 : BitVec 1 := Scalar.cmpi .sge arg27 c6_i32_148
  let v377 : BitVec 32 := Scalar.extui v376
  let c0_i32_149 : BitVec 32 := 0#32
  let v378 : BitVec 1 := Scalar.cmpi .ne v377 c0_i32_149
  v378

def k0_mult5 (k0_t1 : Fin k0_t1_loop.trips) : BitVec 32 :=
  let c0_i32_108 : BitVec 32 := 0#32
  let c1_i32_109 : BitVec 32 := 1#32
  let arg27 : BitVec 32 := Scf.iv c0_i32_108 c1_i32_109 k0_t1
  let c6_i32_411 : BitVec 32 := 6#32
  let v892 : BitVec 32 := Scalar.subi arg27 c6_i32_411
  let c128_i32_413 : BitVec 32 := 128#32
  let v894 : BitVec 32 := Scalar.muli v892 c128_i32_413
  v894
def k0_off6 (k0_t1 : Fin k0_t1_loop.trips) : Fin 1 → Nat :=
  let c0_i32_108 : BitVec 32 := 0#32
  let c1_i32_109 : BitVec 32 := 1#32
  let arg27 : BitVec 32 := Scf.iv c0_i32_108 c1_i32_109 k0_t1
  let c6_i32_411 : BitVec 32 := 6#32
  let v892 : BitVec 32 := Scalar.subi arg27 c6_i32_411
  let c6_i32_412 : BitVec 32 := 6#32
  let v893 : BitVec 32 := Scalar.remsi v892 c6_i32_412
  ![v893.toNat]
def k0_off7 (k0_t1 : Fin k0_t1_loop.trips) : Fin 2 → Nat :=
  let c0_i32_108 : BitVec 32 := 0#32
  let c1_i32_109 : BitVec 32 := 1#32
  let arg27 : BitVec 32 := Scf.iv c0_i32_108 c1_i32_109 k0_t1
  let c6_i32_411 : BitVec 32 := 6#32
  let v892 : BitVec 32 := Scalar.subi arg27 c6_i32_411
  let c128_i32_413 : BitVec 32 := 128#32
  let v894 : BitVec 32 := Scalar.muli v892 c128_i32_413
  let v895 : BitVec 32 := v894
  let c0_i32_414 : BitVec 32 := 0#32
  ![v895.toNat, 0]
def k0_off8 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_411 : BitVec 32 := 6#32
  let v892 : BitVec 32 := Scalar.subi arg27 c6_i32_411
  let c6_i32_412 : BitVec 32 := 6#32
  let v893 : BitVec 32 := Scalar.remsi v892 c6_i32_412
  let c0_i32_415 : BitVec 32 := 0#32
  let c0_i32_416 : BitVec 32 := 0#32
  ![v893.toNat, 0, 0]
def k0_mult6 (k0_t1 : Fin k0_t1_loop.trips) : BitVec 32 :=
  let c0_i32_108 : BitVec 32 := 0#32
  let c1_i32_109 : BitVec 32 := 1#32
  let arg27 : BitVec 32 := Scf.iv c0_i32_108 c1_i32_109 k0_t1
  let c128_i32_151 : BitVec 32 := 128#32
  let v380 : BitVec 32 := Scalar.muli arg27 c128_i32_151
  v380
def k0_off9 (k0_t1 : Fin k0_t1_loop.trips) : Fin 2 → Nat :=
  let c0_i32_108 : BitVec 32 := 0#32
  let c1_i32_109 : BitVec 32 := 1#32
  let arg27 : BitVec 32 := Scf.iv c0_i32_108 c1_i32_109 k0_t1
  let c128_i32_151 : BitVec 32 := 128#32
  let v380 : BitVec 32 := Scalar.muli arg27 c128_i32_151
  let v381 : BitVec 32 := v380
  let v382 : Index := Scalar.indexCast v381
  let c0_152 : Index := 0#32
  ![v382.toNat, 0]
def k0_mult7 (k0_t1 : Fin k0_t1_loop.trips) : BitVec 32 :=
  let c0_i32_108 : BitVec 32 := 0#32
  let c1_i32_109 : BitVec 32 := 1#32
  let arg27 : BitVec 32 := Scf.iv c0_i32_108 c1_i32_109 k0_t1
  let c128_i32_153 : BitVec 32 := 128#32
  let v386 : BitVec 32 := Scalar.muli arg27 c128_i32_153
  v386
def k0_off10 (k0_t1 : Fin k0_t1_loop.trips) : Fin 2 → Nat :=
  let c0_154 : Index := 0#32
  let c0_i32_108 : BitVec 32 := 0#32
  let c1_i32_109 : BitVec 32 := 1#32
  let arg27 : BitVec 32 := Scf.iv c0_i32_108 c1_i32_109 k0_t1
  let c128_i32_153 : BitVec 32 := 128#32
  let v386 : BitVec 32 := Scalar.muli arg27 c128_i32_153
  let v387 : BitVec 32 := v386
  let v388 : Index := Scalar.indexCast v387
  ![0, v388.toNat]
def k0_off11 (k0_t1 : Fin k0_t1_loop.trips) : Fin 2 → Nat :=
  let c0_i32_108 : BitVec 32 := 0#32
  let c1_i32_109 : BitVec 32 := 1#32
  let arg27 : BitVec 32 := Scf.iv c0_i32_108 c1_i32_109 k0_t1
  let v393 : Index := Scalar.indexCast arg27
  let c0_156 : Index := 0#32
  ![v393.toNat, 0]
def k0_off12 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v400 : Index := Scalar.indexCast v374
  let c0_157 : Index := 0#32
  let c0_158 : Index := 0#32
  ![v400.toNat, 0, 0]
def k0_off13 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v410 : Index := Scalar.indexCast v375
  let c0_162 : Index := 0#32
  let c0_163 : Index := 0#32
  ![v410.toNat, 0, 0]
def k0_off14 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v420 : Index := Scalar.indexCast v374
  let c0_168 : Index := 0#32
  let c256_169 : Index := 256#32
  ![v420.toNat, 0, 256]
def k0_off15 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v430 : Index := Scalar.indexCast v375
  let c0_173 : Index := 0#32
  let c256_174 : Index := 256#32
  ![v430.toNat, 0, 256]
def k0_off16 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v440 : Index := Scalar.indexCast v374
  let c0_179 : Index := 0#32
  let c512_180 : Index := 512#32
  ![v440.toNat, 0, 512]
def k0_off17 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v450 : Index := Scalar.indexCast v375
  let c0_184 : Index := 0#32
  let c512_185 : Index := 512#32
  ![v450.toNat, 0, 512]
def k0_off18 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v460 : Index := Scalar.indexCast v374
  let c0_190 : Index := 0#32
  let c768_191 : Index := 768#32
  ![v460.toNat, 0, 768]
def k0_off19 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v470 : Index := Scalar.indexCast v375
  let c0_195 : Index := 0#32
  let c768_196 : Index := 768#32
  ![v470.toNat, 0, 768]
def k0_off20 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v480 : Index := Scalar.indexCast v374
  let c0_201 : Index := 0#32
  let c1024_202 : Index := 1024#32
  ![v480.toNat, 0, 1024]
def k0_off21 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v490 : Index := Scalar.indexCast v375
  let c0_206 : Index := 0#32
  let c1024_207 : Index := 1024#32
  ![v490.toNat, 0, 1024]
def k0_off22 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v500 : Index := Scalar.indexCast v374
  let c0_212 : Index := 0#32
  let c1280_213 : Index := 1280#32
  ![v500.toNat, 0, 1280]
def k0_off23 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v510 : Index := Scalar.indexCast v375
  let c0_217 : Index := 0#32
  let c1280_218 : Index := 1280#32
  ![v510.toNat, 0, 1280]
def k0_off24 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v520 : Index := Scalar.indexCast v374
  let c0_223 : Index := 0#32
  let c1536 : Index := 1536#32
  ![v520.toNat, 0, 1536]
def k0_off25 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v530 : Index := Scalar.indexCast v375
  let c0_227 : Index := 0#32
  let c1536_228 : Index := 1536#32
  ![v530.toNat, 0, 1536]
def k0_off26 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v540 : Index := Scalar.indexCast v374
  let c0_233 : Index := 0#32
  let c1792 : Index := 1792#32
  ![v540.toNat, 0, 1792]
def k0_off27 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v550 : Index := Scalar.indexCast v375
  let c0_237 : Index := 0#32
  let c1792_238 : Index := 1792#32
  ![v550.toNat, 0, 1792]
def k0_off28 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v560 : Index := Scalar.indexCast v374
  let c0_243 : Index := 0#32
  let c2048 : Index := 2048#32
  ![v560.toNat, 0, 2048]
def k0_off29 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v570 : Index := Scalar.indexCast v375
  let c0_247 : Index := 0#32
  let c2048_248 : Index := 2048#32
  ![v570.toNat, 0, 2048]
def k0_off30 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v580 : Index := Scalar.indexCast v374
  let c0_253 : Index := 0#32
  let c2304 : Index := 2304#32
  ![v580.toNat, 0, 2304]
def k0_off31 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v590 : Index := Scalar.indexCast v375
  let c0_257 : Index := 0#32
  let c2304_258 : Index := 2304#32
  ![v590.toNat, 0, 2304]
def k0_off32 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v600 : Index := Scalar.indexCast v374
  let c0_263 : Index := 0#32
  let c2560 : Index := 2560#32
  ![v600.toNat, 0, 2560]
def k0_off33 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v610 : Index := Scalar.indexCast v375
  let c0_267 : Index := 0#32
  let c2560_268 : Index := 2560#32
  ![v610.toNat, 0, 2560]
def k0_off34 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v620 : Index := Scalar.indexCast v374
  let c0_273 : Index := 0#32
  let c2816 : Index := 2816#32
  ![v620.toNat, 0, 2816]
def k0_off35 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v630 : Index := Scalar.indexCast v375
  let c0_277 : Index := 0#32
  let c2816_278 : Index := 2816#32
  ![v630.toNat, 0, 2816]
def k0_off36 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v640 : Index := Scalar.indexCast v374
  let c0_283 : Index := 0#32
  let c3072 : Index := 3072#32
  ![v640.toNat, 0, 3072]
def k0_off37 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v650 : Index := Scalar.indexCast v375
  let c0_287 : Index := 0#32
  let c3072_288 : Index := 3072#32
  ![v650.toNat, 0, 3072]
def k0_off38 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v660 : Index := Scalar.indexCast v374
  let c0_293 : Index := 0#32
  let c3328 : Index := 3328#32
  ![v660.toNat, 0, 3328]
def k0_off39 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v670 : Index := Scalar.indexCast v375
  let c0_297 : Index := 0#32
  let c3328_298 : Index := 3328#32
  ![v670.toNat, 0, 3328]
def k0_off40 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v680 : Index := Scalar.indexCast v374
  let c0_303 : Index := 0#32
  let c3584 : Index := 3584#32
  ![v680.toNat, 0, 3584]
def k0_off41 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v690 : Index := Scalar.indexCast v375
  let c0_307 : Index := 0#32
  let c3584_308 : Index := 3584#32
  ![v690.toNat, 0, 3584]
def k0_off42 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v700 : Index := Scalar.indexCast v374
  let c0_313 : Index := 0#32
  let c3840 : Index := 3840#32
  ![v700.toNat, 0, 3840]
def k0_off43 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v710 : Index := Scalar.indexCast v375
  let c0_317 : Index := 0#32
  let c3840_318 : Index := 3840#32
  ![v710.toNat, 0, 3840]
def k0_off44 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v720 : Index := Scalar.indexCast v374
  let c0_323 : Index := 0#32
  let c4096 : Index := 4096#32
  ![v720.toNat, 0, 4096]
def k0_off45 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v730 : Index := Scalar.indexCast v375
  let c0_327 : Index := 0#32
  let c4096_328 : Index := 4096#32
  ![v730.toNat, 0, 4096]
def k0_off46 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v740 : Index := Scalar.indexCast v374
  let c0_333 : Index := 0#32
  let c4352 : Index := 4352#32
  ![v740.toNat, 0, 4352]
def k0_off47 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v750 : Index := Scalar.indexCast v375
  let c0_337 : Index := 0#32
  let c4352_338 : Index := 4352#32
  ![v750.toNat, 0, 4352]
def k0_off48 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v760 : Index := Scalar.indexCast v374
  let c0_343 : Index := 0#32
  let c4608 : Index := 4608#32
  ![v760.toNat, 0, 4608]
def k0_off49 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v770 : Index := Scalar.indexCast v375
  let c0_347 : Index := 0#32
  let c4608_348 : Index := 4608#32
  ![v770.toNat, 0, 4608]
def k0_off50 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v780 : Index := Scalar.indexCast v374
  let c0_353 : Index := 0#32
  let c4864 : Index := 4864#32
  ![v780.toNat, 0, 4864]
def k0_off51 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v790 : Index := Scalar.indexCast v375
  let c0_357 : Index := 0#32
  let c4864_358 : Index := 4864#32
  ![v790.toNat, 0, 4864]
def k0_off52 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v800 : Index := Scalar.indexCast v374
  let c0_363 : Index := 0#32
  let c5120 : Index := 5120#32
  ![v800.toNat, 0, 5120]
def k0_off53 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v810 : Index := Scalar.indexCast v375
  let c0_367 : Index := 0#32
  let c5120_368 : Index := 5120#32
  ![v810.toNat, 0, 5120]
def k0_off54 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v820 : Index := Scalar.indexCast v374
  let c0_373 : Index := 0#32
  let c5376 : Index := 5376#32
  ![v820.toNat, 0, 5376]
def k0_off55 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v830 : Index := Scalar.indexCast v375
  let c0_377 : Index := 0#32
  let c5376_378 : Index := 5376#32
  ![v830.toNat, 0, 5376]
def k0_off56 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v840 : Index := Scalar.indexCast v374
  let c0_383 : Index := 0#32
  let c5632 : Index := 5632#32
  ![v840.toNat, 0, 5632]
def k0_off57 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v850 : Index := Scalar.indexCast v375
  let c0_387 : Index := 0#32
  let c5632_388 : Index := 5632#32
  ![v850.toNat, 0, 5632]
def k0_off58 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_146 : BitVec 32 := 3#32
  let v374 : BitVec 32 := Scalar.remsi arg27 c3_i32_146
  let v860 : Index := Scalar.indexCast v374
  let c0_393 : Index := 0#32
  let c5888 : Index := 5888#32
  ![v860.toNat, 0, 5888]
def k0_off59 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_147 : BitVec 32 := 6#32
  let v375 : BitVec 32 := Scalar.remsi arg27 c6_i32_147
  let v870 : Index := Scalar.indexCast v375
  let c0_397 : Index := 0#32
  let c5888_398 : Index := 5888#32
  ![v870.toNat, 0, 5888]
def k0_mult8 (k0_t1 : Fin k0_t1_loop.trips) : BitVec 32 :=
  let c0_i32_108 : BitVec 32 := 0#32
  let c1_i32_109 : BitVec 32 := 1#32
  let arg27 : BitVec 32 := Scf.iv c0_i32_108 c1_i32_109 k0_t1
  let c128_i32_404 : BitVec 32 := 128#32
  let v881 : BitVec 32 := Scalar.muli arg27 c128_i32_404
  v881
def k0_off60 (k0_t1 : Fin k0_t1_loop.trips) : Fin 1 → Nat :=
  let c0_i32_108 : BitVec 32 := 0#32
  let c1_i32_109 : BitVec 32 := 1#32
  let arg27 : BitVec 32 := Scf.iv c0_i32_108 c1_i32_109 k0_t1
  let c6_i32_403 : BitVec 32 := 6#32
  let v880 : BitVec 32 := Scalar.remsi arg27 c6_i32_403
  ![v880.toNat]
def k0_off61 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c6_i32_403 : BitVec 32 := 6#32
  let v880 : BitVec 32 := Scalar.remsi arg27 c6_i32_403
  let c0_i32_406 : BitVec 32 := 0#32
  let c0_i32_407 : BitVec 32 := 0#32
  ![v880.toNat, 0, 0]
def k0_cond2 (k0_t1 : Fin k0_t1_loop.trips) : BitVec 1 :=
  let c0_i32_108 : BitVec 32 := 0#32
  let c1_i32_109 : BitVec 32 := 1#32
  let arg27 : BitVec 32 := Scf.iv c0_i32_108 c1_i32_109 k0_t1
  let c3_i32_408 : BitVec 32 := 3#32
  let v888 : BitVec 32 := Scalar.addi arg27 c3_i32_408
  let c12_i32_409 : BitVec 32 := 12#32
  let v889 : BitVec 1 := Scalar.cmpi .slt v888 c12_i32_409
  let v890 : BitVec 32 := Scalar.extui v889
  let c0_i32_410 : BitVec 32 := 0#32
  let v891 : BitVec 1 := Scalar.cmpi .ne v890 c0_i32_410
  v891

def k0_mult9 (k0_t1 : Fin k0_t1_loop.trips) : BitVec 32 :=
  let c0_i32_108 : BitVec 32 := 0#32
  let c1_i32_109 : BitVec 32 := 1#32
  let arg27 : BitVec 32 := Scf.iv c0_i32_108 c1_i32_109 k0_t1
  let c3_i32_411 : BitVec 32 := 3#32
  let v892 : BitVec 32 := Scalar.addi arg27 c3_i32_411
  let c128_i32_413 : BitVec 32 := 128#32
  let v894 : BitVec 32 := Scalar.muli v892 c128_i32_413
  v894
def k0_off62 (k0_t1 : Fin k0_t1_loop.trips) : Fin 1 → Nat :=
  let c0_i32_108 : BitVec 32 := 0#32
  let c1_i32_109 : BitVec 32 := 1#32
  let arg27 : BitVec 32 := Scf.iv c0_i32_108 c1_i32_109 k0_t1
  let c3_i32_411 : BitVec 32 := 3#32
  let v892 : BitVec 32 := Scalar.addi arg27 c3_i32_411
  let c3_i32_412 : BitVec 32 := 3#32
  let v893 : BitVec 32 := Scalar.remsi v892 c3_i32_412
  ![v893.toNat]
def k0_off63 (k0_t1 : Fin k0_t1_loop.trips) : Fin 3 → Nat :=
  let c0_i32_108 : BitVec 32 := 0#32
  let c1_i32_109 : BitVec 32 := 1#32
  let arg27 : BitVec 32 := Scf.iv c0_i32_108 c1_i32_109 k0_t1
  let c3_i32_411 : BitVec 32 := 3#32
  let v892 : BitVec 32 := Scalar.addi arg27 c3_i32_411
  let c3_i32_412 : BitVec 32 := 3#32
  let v893 : BitVec 32 := Scalar.remsi v892 c3_i32_412
  let c0_i32_414 : BitVec 32 := 0#32
  let c0_i32_415 : BitVec 32 := 0#32
  ![v893.toNat, 0, 0]
def k0_off64 (k0_t1 : Fin k0_t1_loop.trips) : Fin 2 → Nat :=
  let c0_i32_108 : BitVec 32 := 0#32
  let c1_i32_109 : BitVec 32 := 1#32
  let arg27 : BitVec 32 := Scf.iv c0_i32_108 c1_i32_109 k0_t1
  let c3_i32_411 : BitVec 32 := 3#32
  let v892 : BitVec 32 := Scalar.addi arg27 c3_i32_411
  let c128_i32_413 : BitVec 32 := 128#32
  let v894 : BitVec 32 := Scalar.muli v892 c128_i32_413
  let v895 : BitVec 32 := v894
  let c0_i32_416 : BitVec 32 := 0#32
  ![v895.toNat, 0]
def k0_mult10 : BitVec 32 :=
  let c768_i32 : BitVec 32 := 768#32
  c768_i32
def k0_off65 (c6_i32_111 : BitVec 32) : Fin 1 → Nat :=
  let c6_i32_112 : BitVec 32 := 6#32
  let v320 : BitVec 32 := Scalar.remsi c6_i32_111 c6_i32_112
  ![v320.toNat]
def k0_off66 (c6_i32_111 : BitVec 32) : Fin 3 → Nat :=
  let c6_i32_112 : BitVec 32 := 6#32
  let v320 : BitVec 32 := Scalar.remsi c6_i32_111 c6_i32_112
  let c0_i32_114 : BitVec 32 := 0#32
  let c0_i32_115 : BitVec 32 := 0#32
  ![v320.toNat, 0, 0]
def k0_mult11 : BitVec 32 :=
  let c896_i32 : BitVec 32 := 896#32
  c896_i32
def k0_mult12 : BitVec 32 :=
  let c1024_i32 : BitVec 32 := 1024#32
  c1024_i32
def k0_mult13 : BitVec 32 :=
  let c1152_i32 : BitVec 32 := 1152#32
  c1152_i32
def k0_mult14 : BitVec 32 :=
  let c1280_i32 : BitVec 32 := 1280#32
  c1280_i32
def k0_mult15 : BitVec 32 :=
  let c1408_i32 : BitVec 32 := 1408#32
  c1408_i32
-- ==== ReferenceIdeal.lean ====
abbrev S1536x2 : Shape := ⟨2, ![1536, 2]⟩
abbrev S1536x8 : Shape := ⟨2, ![1536, 8]⟩
abbrev S1536x6144 : Shape := ⟨2, ![1536, 6144]⟩
abbrev S1536 : Shape := ⟨1, ![1536]⟩
abbrev S6144x8 : Shape := ⟨2, ![6144, 8]⟩
abbrev S8 : Shape := ⟨1, ![8]⟩
abbrev S1 : Shape := ⟨1, ![1]⟩
abbrev S2x1536 : Shape := ⟨2, ![2, 1536]⟩
abbrev S8x1536 : Shape := ⟨2, ![8, 1536]⟩
abbrev S_ : Shape := ⟨0, ![]⟩
abbrev S1x1536 : Shape := ⟨2, ![1, 1536]⟩
abbrev S2x1x1536 : Shape := ⟨3, ![2, 1, 1536]⟩
abbrev S1x8x1 : Shape := ⟨3, ![1, 8, 1]⟩
abbrev S2x8x1536 : Shape := ⟨3, ![2, 8, 1536]⟩
abbrev S1x8x1536 : Shape := ⟨3, ![1, 8, 1536]⟩
abbrev S8x1 : Shape := ⟨2, ![8, 1]⟩
abbrev S1536x1 : Shape := ⟨2, ![1536, 1]⟩
abbrev S8x6144 : Shape := ⟨2, ![8, 6144]⟩

abbrev nBuf : Space → Nat
  | .hbm => 83
  | .vmem => 6
  | .smem => 0
  | _ => 0

abbrev bufTy : (tb : Table) → Fin (tcTables nBuf tb) → BufTy
  | .hbm, ⟨0, _⟩ => ⟨S1536x2, .f32⟩
  | .hbm, ⟨1, _⟩ => ⟨S1536x2, .i32⟩
  | .hbm, ⟨2, _⟩ => ⟨S1536x8, .f32⟩
  | .hbm, ⟨3, _⟩ => ⟨S1536x6144, .fp8e4m3⟩
  | .hbm, ⟨4, _⟩ => ⟨S1536, .f32⟩
  | .hbm, ⟨5, _⟩ => ⟨S6144x8, .bf16⟩
  | .hbm, ⟨6, _⟩ => ⟨S8, .f32⟩
  | .hbm, ⟨7, _⟩ => ⟨S1, .f32⟩
  | .hbm, ⟨8, _⟩ => ⟨S2x1536, .f32⟩
  | .hbm, ⟨9, _⟩ => ⟨S8x1536, .f32⟩
  | .hbm, ⟨10, _⟩ => ⟨S_, .f32⟩
  | .hbm, ⟨11, _⟩ => ⟨S1536, .f32⟩
  | .hbm, ⟨12, _⟩ => ⟨S_, .f32⟩
  | .hbm, ⟨13, _⟩ => ⟨S1536, .f32⟩
  | .hbm, ⟨14, _⟩ => ⟨S1536, .f32⟩
  | .hbm, ⟨15, _⟩ => ⟨S1x1536, .f32⟩
  | .hbm, ⟨16, _⟩ => ⟨S8x1536, .f32⟩
  | .hbm, ⟨17, _⟩ => ⟨S8x1536, .f32⟩
  | .hbm, ⟨18, _⟩ => ⟨S8x1536, .f32⟩
  | .hbm, ⟨19, _⟩ => ⟨S_, .f32⟩
  | .hbm, ⟨20, _⟩ => ⟨S1536, .f32⟩
  | .hbm, ⟨21, _⟩ => ⟨S1x1536, .f32⟩
  | .hbm, ⟨22, _⟩ => ⟨S8x1536, .f32⟩
  | .hbm, ⟨23, _⟩ => ⟨S8x1536, .f32⟩
  | .hbm, ⟨24, _⟩ => ⟨S2x1536, .i32⟩
  | .hbm, ⟨25, _⟩ => ⟨S2x1x1536, .i32⟩
  | .hbm, ⟨26, _⟩ => ⟨S8, .i32⟩
  | .hbm, ⟨27, _⟩ => ⟨S1x8x1, .i32⟩
  | .hbm, ⟨28, _⟩ => ⟨S2x8x1536, .i32⟩
  | .hbm, ⟨29, _⟩ => ⟨S2x8x1536, .i32⟩
  | .hbm, ⟨30, _⟩ => ⟨S2x8x1536, .i1⟩
  | .hbm, ⟨31, _⟩ => ⟨S1x8x1536, .f32⟩
  | .hbm, ⟨32, _⟩ => ⟨S_, .f32⟩
  | .hbm, ⟨33, _⟩ => ⟨S_, .f32⟩
  | .hbm, ⟨34, _⟩ => ⟨S2x8x1536, .f32⟩
  | .hbm, ⟨35, _⟩ => ⟨S2x8x1536, .f32⟩
  | .hbm, ⟨36, _⟩ => ⟨S2x8x1536, .f32⟩
  | .hbm, ⟨37, _⟩ => ⟨S_, .f32⟩
  | .hbm, ⟨38, _⟩ => ⟨S2x1536, .f32⟩
  | .hbm, ⟨39, _⟩ => ⟨S_, .f32⟩
  | .hbm, ⟨40, _⟩ => ⟨S1536, .f32⟩
  | .hbm, ⟨41, _⟩ => ⟨S1x1536, .f32⟩
  | .hbm, ⟨42, _⟩ => ⟨S_, .f32⟩
  | .hbm, ⟨43, _⟩ => ⟨S1x1536, .f32⟩
  | .hbm, ⟨44, _⟩ => ⟨S1x1536, .f32⟩
  | .hbm, ⟨45, _⟩ => ⟨S2x1536, .f32⟩
  | .hbm, ⟨46, _⟩ => ⟨S_, .f32⟩
  | .hbm, ⟨47, _⟩ => ⟨S1536, .f32⟩
  | .hbm, ⟨48, _⟩ => ⟨S1x1536, .f32⟩
  | .hbm, ⟨49, _⟩ => ⟨S1x1536, .f32⟩
  | .hbm, ⟨50, _⟩ => ⟨S2x1536, .f32⟩
  | .hbm, ⟨51, _⟩ => ⟨S2x1536, .f32⟩
  | .hbm, ⟨52, _⟩ => ⟨S2x1536, .f32⟩
  | .hbm, ⟨53, _⟩ => ⟨S2x1536, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S2x1x1536, .f32⟩
  | .hbm, ⟨63, _⟩ => ⟨S_, .f32⟩
  | .hbm, ⟨64, _⟩ => ⟨S_, .f32⟩
  | .hbm, ⟨65, _⟩ => ⟨S2x8x1536, .f32⟩
  | .hbm, ⟨66, _⟩ => ⟨S2x8x1536, .f32⟩
  | .hbm, ⟨67, _⟩ => ⟨S2x8x1536, .f32⟩
  | .hbm, ⟨68, _⟩ => ⟨S_, .f32⟩
  | .hbm, ⟨69, _⟩ => ⟨S8x1536, .f32⟩
  | .hbm, ⟨70, _⟩ => ⟨S8x1, .f32⟩
  | .hbm, ⟨71, _⟩ => ⟨S8x1536, .f32⟩
  | .hbm, ⟨72, _⟩ => ⟨S8x1536, .f32⟩
  | .hbm, ⟨73, _⟩ => ⟨S8x1536, .f32⟩
  | .hbm, ⟨74, _⟩ => ⟨S_, .f32⟩
  | .hbm, ⟨75, _⟩ => ⟨S1536, .f32⟩
  | .hbm, ⟨76, _⟩ => ⟨S1x1536, .f32⟩
  | .hbm, ⟨77, _⟩ => ⟨S8x1536, .f32⟩
  | .hbm, ⟨78, _⟩ => ⟨S8x1536, .f32⟩
  | .hbm, ⟨79, _⟩ => ⟨S8x1536, .f32⟩
  | .hbm, ⟨80, _⟩ => ⟨S1536x1, .f32⟩
  | .hbm, ⟨81, _⟩ => ⟨S1536x6144, .bf16⟩
  | .hbm, ⟨82, _⟩ => ⟨S8x6144, .f32⟩
  | .local _ .vmem, ⟨0, _⟩ => ⟨S8x1536, .f32⟩
  | .local _ .vmem, ⟨1, _⟩ => ⟨S1536x6144, .fp8e4m3⟩
  | .local _ .vmem, ⟨2, _⟩ => ⟨S1536x1, .f32⟩
  | .local _ .vmem, ⟨3, _⟩ => ⟨S6144x8, .bf16⟩
  | .local _ .vmem, ⟨4, _⟩ => ⟨S1536x6144, .bf16⟩
  | .local _ .vmem, ⟨5, _⟩ => ⟨S8x6144, .f32⟩
  | _, _ => ⟨S1536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Ring.lean ====
/-
  The names the proof works under: the twelve row blocks of `x` and of `dx`, the three slots of the ring that brings
  blocks of `x` in, the six slots of the ring that takes blocks of `dx` out, the two rings' DMA semaphores. The kernel
  writes each of them as a slice at an offset it computes from the loop's counter; every such offset is one of the
  closed forms below, and the equations marked `@[sl_canon]` name the slices by them.
-/
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameValue
public import Idealize.ShloMosaic.Lib.Ring
public import Idealize.ShloMosaic.Lib.Ring.Trips
public import Idealize.ShloMosaic.Lib.Tactic

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's, with the counters of the kernel's own transfers. -/
abbrev UU (nD : Nat) (τ : Topo) : Type := Pipeline.UD sig nD τ
local notation "𝕄" => MT nD τ sig Unit (Elt F) ℕ (UU nD τ) ℕ
abbrev 𝒱₀ : Variants := Variants.none

/-! ## The buffers and their pieces -/

abbrev xM : Memref sig .tc .hbm S1536x6144 .fp8e4m3 := Memref.whole main_arg3
abbrev dxM : Memref sig .tc .hbm S1536x6144 .bf16 := Memref.whole main_v7_0
abbrev xringM : Memref sig .tc .vmem S3x128x6144 .fp8e4m3 := Memref.whole cc0_scratch10
abbrev oringM : Memref sig .tc .vmem S6x128x6144 .bf16 := Memref.whole cc0_scratch9

abbrev blkOff (b : Fin 12) : Fin 2 → Nat := ![128 * b.val, 0]
theorem blkOff_inb (b : Fin 12) : ∀ a, blkOff b a + S128x6144.size a ≤ S1536x6144.size a := by
  have := b.isLt; intro a; fin_cases a
  · show 128 * b.val + 128 ≤ 1536; omega
  · show 0 + 6144 ≤ 6144; omega
abbrev xsOff (s : Fin 3) : Fin 3 → Nat := ![s.val, 0, 0]
theorem xsOff_inb (s : Fin 3) : ∀ a, xsOff s a + S1x128x6144.size a ≤ S3x128x6144.size a := by
  have := s.isLt; intro a; fin_cases a
  · show s.val + 1 ≤ 3; omega
  · show 0 + 128 ≤ 128; omega
  · show 0 + 6144 ≤ 6144; omega
abbrev osOff (s : Fin 6) : Fin 3 → Nat := ![s.val, 0, 0]
theorem osOff_inb (s : Fin 6) : ∀ a, osOff s a + S1x128x6144.size a ≤ S6x128x6144.size a := by
  have := s.isLt; intro a; fin_cases a
  · show s.val + 1 ≤ 6; omega
  · show 0 + 128 ≤ 128; omega
  · show 0 + 6144 ≤ 6144; omega
abbrev xcOff (s : Fin 3) : Fin 1 → Nat := ![s.val]
theorem xcOff_inb (s : Fin 3) : ∀ a, xcOff s a + S1.size a ≤ S3.size a := by
  have := s.isLt; intro a; fin_cases a; show s.val + 1 ≤ 3; omega
abbrev ocOff (s : Fin 6) : Fin 1 → Nat := ![s.val]
theorem ocOff_inb (s : Fin 6) : ∀ a, ocOff s a + S1.size a ≤ S6.size a := by
  have := s.isLt; intro a; fin_cases a; show s.val + 1 ≤ 6; omega

/-- Row block `b` of `x`. -/
def xblk (b : Fin 12) : Memref sig .tc .hbm S128x6144 .fp8e4m3 :=
  xM.slice (Rect.unit (s := S1536x6144) (blkOff b) S128x6144.size (blkOff_inb b)) (fun _ => rfl)
/-- Row block `b` of `dx`. -/
def oblk (b : Fin 12) : Memref sig .tc .hbm S128x6144 .bf16 :=
  dxM.slice (Rect.unit (s := S1536x6144) (blkOff b) S128x6144.size (blkOff_inb b)) (fun _ => rfl)
/-- Slot `s` of the ring for `x`. -/
def xslot (s : Fin 3) : Memref sig .tc .vmem S128x6144 .fp8e4m3 :=
  (xringM.slice (Rect.unit (s := S3x128x6144) (xsOff s) S1x128x6144.size (xsOff_inb s)) (fun _ => rfl)).squeeze S128x6144 squeezes_S1x128x6144_S128x6144
/-- Slot `s` of the ring for `dx`. -/
def oslot (s : Fin 6) : Memref sig .tc .vmem S128x6144 .bf16 :=
  (oringM.slice (Rect.unit (s := S6x128x6144) (osOff s) S1x128x6144.size (osOff_inb s)) (fun _ => rfl)).squeeze S128x6144 squeezes_S1x128x6144_S128x6144
/-- The two rings' DMA semaphores. -/
def xcell (s : Fin 3) : DmaSems sig S_ := (cc0_scratch14.slice (Rect.unit (s := S3) (xcOff s) S1.size (xcOff_inb s))).squeeze S_ squeezes_S1_S_
def ocell (s : Fin 6) : DmaSems sig S_ := (cc0_scratch15.slice (Rect.unit (s := S6) (ocOff s) S1.size (ocOff_inb s))).squeeze S_ squeezes_S1_S_

instance (s : Fin 3) : ClosedOff (xsOff s) := ⟨xsOff s, rfl⟩
instance (s : Fin 6) : ClosedOff (osOff s) := ⟨osOff s, rfl⟩
instance (b : Fin 12) : ClosedOff (blkOff b) := ⟨blkOff b, rfl⟩

/-! ## The computed offsets in closed form: twelve trips, each offset evaluated at each -/

abbrev Trip := Fin k0_t1_loop.trips
theorem trips_eq : k0_t1_loop.trips = 12 := by decide
theorem trip_lt (k : Trip) : k.val < 12 := trips_eq ▸ k.isLt

/-- The column tile at lane `n` of the slot a block of `x` has at trip `k`; the same for `dx`. -/
abbrev xTile (k : Trip) (n : Nat) : Fin 3 → Nat := ![(Ring.sl 3 k.val).val, 0, n]
abbrev oTile (k : Trip) (n : Nat) : Fin 3 → Nat := ![(Ring.sl 6 k.val).val, 0, n]

theorem off3_eq : ∀ k : Trip, k0_off3 k = xcOff (Ring.sl 3 k.val) := by decide +kernel
theorem off4_eq : ∀ k : Trip, k0_off4 k = xsOff (Ring.sl 3 k.val) := by decide +kernel
theorem off5_eq : ∀ k : Trip, k0_off5 k = blkOff (Ring.bk 12 k.val) := by decide +kernel
theorem off6_eq : ∀ k : Trip, 6 ≤ k.val → k0_off6 k = ocOff (Ring.sl 6 k.val) := by decide +kernel
theorem off7_eq : ∀ k : Trip, 6 ≤ k.val → k0_off7 k = blkOff (Ring.bk 12 (k.val - 6)) := by decide +kernel
theorem off8_eq : ∀ k : Trip, 6 ≤ k.val → k0_off8 k = osOff (Ring.sl 6 k.val) := by decide +kernel
theorem off9_eq : ∀ k : Trip, k0_off9 k = ![128 * k.val, 0] := by decide +kernel
theorem off10_eq : ∀ k : Trip, k0_off10 k = ![0, 128 * k.val] := by decide +kernel
theorem off11_eq : ∀ k : Trip, k0_off11 k = ![k.val, 0] := by decide +kernel
theorem off60_eq : ∀ k : Trip, k0_off60 k = ocOff (Ring.sl 6 k.val) := by decide +kernel
theorem off61_eq : ∀ k : Trip, k0_off61 k = osOff (Ring.sl 6 k.val) := by decide +kernel
theorem off62_eq : ∀ k : Trip, k.val + 3 < 12 → k0_off62 k = xcOff (Ring.sl 3 k.val) := by decide +kernel
theorem off63_eq : ∀ k : Trip, k.val + 3 < 12 → k0_off63 k = xsOff (Ring.sl 3 k.val) := by decide +kernel
theorem off64_eq : ∀ k : Trip, k.val + 3 < 12 → k0_off64 k = blkOff (Ring.bk 12 (k.val + 3)) := by decide +kernel
theorem cond1_of : ∀ k : Trip, 6 ≤ k.val → k0_cond1 k = 1#1 := by decide +kernel
theorem cond1_not : ∀ k : Trip, k.val < 6 → ¬ k0_cond1 k = 1#1 := by decide +kernel
theorem cond2_of : ∀ k : Trip, k.val + 3 < 12 → k0_cond2 k = 1#1 := by decide +kernel
theorem cond2_not : ∀ k : Trip, 12 ≤ k.val + 3 → ¬ k0_cond2 k = 1#1 := by decide +kernel

instance (k : Trip) : ClosedOff (k0_off12 k) := ⟨xTile k 0, by revert k; decide +kernel⟩
instance (k : Trip) : ClosedOff (k0_off14 k) := ⟨xTile k 256, by revert k; decide +kernel⟩
instance (k : Trip) : ClosedOff (k0_off16 k) := ⟨xTile k 512, by revert k; decide +kernel⟩
instance (k : Trip) : ClosedOff (k0_off18 k) := ⟨xTile k 768, by revert k; decide +kernel⟩
instance (k : Trip) : ClosedOff (k0_off20 k) := ⟨xTile k 1024, by revert k; decide +kernel⟩
instance (k : Trip) : ClosedOff (k0_off22 k) := ⟨xTile k 1280, by revert k; decide +kernel⟩
instance (k : Trip) : ClosedOff (k0_off24 k) := ⟨xTile k 1536, by revert k; decide +kernel⟩
instance (k : Trip) : ClosedOff (k0_off26 k) := ⟨xTile k 1792, by revert k; decide +kernel⟩
instance (k : Trip) : ClosedOff (k0_off28 k) := ⟨xTile k 2048, by revert k; decide +kernel⟩
instance (k : Trip) : ClosedOff (k0_off30 k) := ⟨xTile k 2304, by revert k; decide +kernel⟩
instance (k : Trip) : ClosedOff (k0_off32 k) := ⟨xTile k 2560, by revert k; decide +kernel⟩
instance (k : Trip) : ClosedOff (k0_off34 k) := ⟨xTile k 2816, by revert k; decide +kernel⟩
instance (k : Trip) : ClosedOff (k0_off36 k) := ⟨xTile k 3072, by revert k; decide +kernel⟩
instance (k : Trip) : ClosedOff (k0_off38 k) := ⟨xTile k 3328, by revert k; decide +kernel⟩
instance (k : Trip) : ClosedOff (k0_off40 k) := ⟨xTile k 3584, by revert k; decide +kernel⟩
instance (k : Trip) : ClosedOff (k0_off42 k) := ⟨xTile k 3840, by revert k; decide +kernel⟩
instance (k : Trip) : ClosedOff (k0_off44 k) := ⟨xTile k 4096, by revert k; decide +kernel⟩
instance (k : Trip) : ClosedOff (k0_off46 k) := ⟨xTile k 4352, by revert k; decide +kernel⟩
instance (k : Trip) : ClosedOff (k0_off48 k) := ⟨xTile k 4608, by revert k; decide +kernel⟩
instance (k : Trip) : ClosedOff (k0_off50 k) := ⟨xTile k 4864, by revert k; decide +kernel⟩
instance (k : Trip) : ClosedOff (k0_off52 k) := ⟨xTile k 5120, by revert k; decide +kernel⟩
instance (k : Trip) : ClosedOff (k0_off54 k) := ⟨xTile k 5376, by revert k; decide +kernel⟩
instance (k : Trip) : ClosedOff (k0_off56 k) := ⟨xTile k 5632, by revert k; decide +kernel⟩
instance (k : Trip) : ClosedOff (k0_off58 k) := ⟨xTile k 5888, by revert k; decide +kernel⟩
instance (k : Trip) : ClosedOff (k0_off13 k) := ⟨oTile k 0, by revert k; decide +kernel⟩
instance (k : Trip) : ClosedOff (k0_off15 k) := ⟨oTile k 256, by revert k; decide +kernel⟩
instance (k : Trip) : ClosedOff (k0_off17 k) := ⟨oTile k 512, by revert k; decide +kernel⟩
instance (k : Trip) : ClosedOff (k0_off19 k) := ⟨oTile k 768, by revert k; decide +kernel⟩
instance (k : Trip) : ClosedOff (k0_off21 k) := ⟨oTile k 1024, by revert k; decide +kernel⟩
instance (k : Trip) : ClosedOff (k0_off23 k) := ⟨oTile k 1280, by revert k; decide +kernel⟩
instance (k : Trip) : ClosedOff (k0_off25 k) := ⟨oTile k 1536, by revert k; decide +kernel⟩
instance (k : Trip) : ClosedOff (k0_off27 k) := ⟨oTile k 1792, by revert k; decide +kernel⟩
instance (k : Trip) : ClosedOff (k0_off29 k) := ⟨oTile k 2048, by revert k; decide +kernel⟩
instance (k : Trip) : ClosedOff (k0_off31 k) := ⟨oTile k 2304, by revert k; decide +kernel⟩
instance (k : Trip) : ClosedOff (k0_off33 k) := ⟨oTile k 2560, by revert k; decide +kernel⟩
instance (k : Trip) : ClosedOff (k0_off35 k) := ⟨oTile k 2816, by revert k; decide +kernel⟩
instance (k : Trip) : ClosedOff (k0_off37 k) := ⟨oTile k 3072, by revert k; decide +kernel⟩
instance (k : Trip) : ClosedOff (k0_off39 k) := ⟨oTile k 3328, by revert k; decide +kernel⟩
instance (k : Trip) : ClosedOff (k0_off41 k) := ⟨oTile k 3584, by revert k; decide +kernel⟩
instance (k : Trip) : ClosedOff (k0_off43 k) := ⟨oTile k 3840, by revert k; decide +kernel⟩
instance (k : Trip) : ClosedOff (k0_off45 k) := ⟨oTile k 4096, by revert k; decide +kernel⟩
instance (k : Trip) : ClosedOff (k0_off47 k) := ⟨oTile k 4352, by revert k; decide +kernel⟩
instance (k : Trip) : ClosedOff (k0_off49 k) := ⟨oTile k 4608, by revert k; decide +kernel⟩
instance (k : Trip) : ClosedOff (k0_off51 k) := ⟨oTile k 4864, by revert k; decide +kernel⟩
instance (k : Trip) : ClosedOff (k0_off53 k) := ⟨oTile k 5120, by revert k; decide +kernel⟩
instance (k : Trip) : ClosedOff (k0_off55 k) := ⟨oTile k 5376, by revert k; decide +kernel⟩
instance (k : Trip) : ClosedOff (k0_off57 k) := ⟨oTile k 5632, by revert k; decide +kernel⟩
instance (k : Trip) : ClosedOff (k0_off59 k) := ⟨oTile k 5888, by revert k; decide +kernel⟩
instance (k : Trip) : ClosedOff (k0_off9 k) := ⟨_, off9_eq k⟩
instance (k : Trip) : ClosedOff (k0_off10 k) := ⟨_, off10_eq k⟩
instance (k : Trip) : ClosedOff (k0_off11 k) := ⟨_, off11_eq k⟩

/-! ## The slices named -/

theorem xcell_congr {off : Fin 1 → Nat} {s : Fin 3} (e : off = xcOff s) (hh) :
    (cc0_scratch14.slice (Rect.unit (s := S3) off S1.size hh)).squeeze S_ squeezes_S1_S_ = xcell s :=
  congrArg (fun A : DmaSems sig S1 => A.squeeze S_ squeezes_S1_S_) (SemArray.slice_unit_congr _ e _ _)
theorem ocell_congr {off : Fin 1 → Nat} {s : Fin 6} (e : off = ocOff s) (hh) :
    (cc0_scratch15.slice (Rect.unit (s := S6) off S1.size hh)).squeeze S_ squeezes_S1_S_ = ocell s :=
  congrArg (fun A : DmaSems sig S1 => A.squeeze S_ squeezes_S1_S_) (SemArray.slice_unit_congr _ e _ _)
theorem xslot_congr {off : Fin 3 → Nat} {s : Fin 3} (e : off = xsOff s) (hh hs) :
    (xringM.slice (Rect.unit (s := S3x128x6144) off S1x128x6144.size hh) hs).squeeze S128x6144 squeezes_S1x128x6144_S128x6144 = xslot s :=
  congrArg (fun M : Memref sig .tc .vmem S1x128x6144 .fp8e4m3 => M.squeeze S128x6144 squeezes_S1x128x6144_S128x6144) (Memref.slice_unit_congr _ e _ _ _ _)
theorem oslot_congr {off : Fin 3 → Nat} {s : Fin 6} (e : off = osOff s) (hh hs) :
    (oringM.slice (Rect.unit (s := S6x128x6144) off S1x128x6144.size hh) hs).squeeze S128x6144 squeezes_S1x128x6144_S128x6144 = oslot s :=
  congrArg (fun M : Memref sig .tc .vmem S1x128x6144 .bf16 => M.squeeze S128x6144 squeezes_S1x128x6144_S128x6144) (Memref.slice_unit_congr _ e _ _ _ _)
theorem xblk_congr {off : Fin 2 → Nat} {b : Fin 12} (e : off = blkOff b) (hh hs) :
    xM.slice (Rect.unit (s := S1536x6144) off S128x6144.size hh) hs = xblk b := Memref.slice_unit_congr _ e _ _ _ (fun _ => rfl)
theorem oblk_congr {off : Fin 2 → Nat} {b : Fin 12} (e : off = blkOff b) (hh hs) :
    dxM.slice (Rect.unit (s := S1536x6144) off S128x6144.size hh) hs = oblk b := Memref.slice_unit_congr _ e _ _ _ (fun _ => rfl)

/-- A trip's: the block of `x` waited, the one issued, the block of `dx` waited, the one issued. -/
@[sl_canon] theorem xcellW (k : Trip) (hh) : (cc0_scratch14.slice (Rect.unit (s := S3) (k0_off3 k) S1.size hh)).squeeze S_ squeezes_S1_S_ = xcell (Ring.sl 3 k.val) := xcell_congr (off3_eq k) _
@[sl_canon] theorem xslotW (k : Trip) (hh hs) : (xringM.slice (Rect.unit (s := S3x128x6144) (k0_off4 k) S1x128x6144.size hh) hs).squeeze S128x6144 squeezes_S1x128x6144_S128x6144 = xslot (Ring.sl 3 k.val) := xslot_congr (off4_eq k) _ _
@[sl_canon] theorem xblkW (k : Trip) (hh hs) : xM.slice (Rect.unit (s := S1536x6144) (k0_off5 k) S128x6144.size hh) hs = xblk (Ring.bk 12 k.val) := xblk_congr (off5_eq k) _ _
@[sl_canon] theorem xcellI (k : Trip) (h : k.val + 3 < 12) (hh) : (cc0_scratch14.slice (Rect.unit (s := S3) (k0_off62 k) S1.size hh)).squeeze S_ squeezes_S1_S_ = xcell (Ring.sl 3 k.val) := xcell_congr (off62_eq k h) _
@[sl_canon] theorem xslotI (k : Trip) (h : k.val + 3 < 12) (hh hs) : (xringM.slice (Rect.unit (s := S3x128x6144) (k0_off63 k) S1x128x6144.size hh) hs).squeeze S128x6144 squeezes_S1x128x6144_S128x6144 = xslot (Ring.sl 3 k.val) := xslot_congr (off63_eq k h) _ _
@[sl_canon] theorem xblkI (k : Trip) (h : k.val + 3 < 12) (hh hs) : xM.slice (Rect.unit (s := S1536x6144) (k0_off64 k) S128x6144.size hh) hs = xblk (Ring.bk 12 (k.val + 3)) := xblk_congr (off64_eq k h) _ _
@[sl_canon] theorem ocellW (k : Trip) (h : 6 ≤ k.val) (hh) : (cc0_scratch15.slice (Rect.unit (s := S6) (k0_off6 k) S1.size hh)).squeeze S_ squeezes_S1_S_ = ocell (Ring.sl 6 k.val) := ocell_congr (off6_eq k h) _
@[sl_canon] theorem oblkW (k : Trip) (h : 6 ≤ k.val) (hh hs) : dxM.slice (Rect.unit (s := S1536x6144) (k0_off7 k) S128x6144.size hh) hs = oblk (Ring.bk 12 (k.val - 6)) := oblk_congr (off7_eq k h) _ _
@[sl_canon] theorem oslotW (k : Trip) (h : 6 ≤ k.val) (hh hs) : (oringM.slice (Rect.unit (s := S6x128x6144) (k0_off8 k) S1x128x6144.size hh) hs).squeeze S128x6144 squeezes_S1x128x6144_S128x6144 = oslot (Ring.sl 6 k.val) := oslot_congr (off8_eq k h) _ _
@[sl_canon] theorem ocellI (k : Trip) (hh) : (cc0_scratch15.slice (Rect.unit (s := S6) (k0_off60 k) S1.size hh)).squeeze S_ squeezes_S1_S_ = ocell (Ring.sl 6 k.val) := ocell_congr (off60_eq k) _
@[sl_canon] theorem oblkI (k : Trip) (hh hs) : dxM.slice (Rect.unit (s := S1536x6144) (k0_off5 k) S128x6144.size hh) hs = oblk (Ring.bk 12 k.val) := oblk_congr (off5_eq k) _ _
@[sl_canon] theorem oslotI (k : Trip) (hh hs) : (oringM.slice (Rect.unit (s := S6x128x6144) (k0_off61 k) S1x128x6144.size hh) hs).squeeze S128x6144 squeezes_S1x128x6144_S128x6144 = oslot (Ring.sl 6 k.val) := oslot_congr (off61_eq k) _ _

/-- Before the loop: the first three blocks of `x` issued. -/
@[sl_canon] theorem xcellP0 (hh) : (cc0_scratch14.slice (Rect.unit (s := S3) (k0_off1 0#32) S1.size hh)).squeeze S_ squeezes_S1_S_ = xcell 0 := xcell_congr (by decide +kernel) _
@[sl_canon] theorem xslotP0 (hh hs) : (xringM.slice (Rect.unit (s := S3x128x6144) (k0_off2 0#32) S1x128x6144.size hh) hs).squeeze S128x6144 squeezes_S1x128x6144_S128x6144 = xslot 0 := xslot_congr (by decide +kernel) _ _
@[sl_canon] theorem xblkP0 (hh hs) : xM.slice (Rect.unit (s := S1536x6144) ![0, 0] S128x6144.size hh) hs = xblk 0 := xblk_congr (by decide +kernel) _ _
@[sl_canon] theorem xcellP1 (hh) : (cc0_scratch14.slice (Rect.unit (s := S3) (k0_off1 1#32) S1.size hh)).squeeze S_ squeezes_S1_S_ = xcell 1 := xcell_congr (by decide +kernel) _
@[sl_canon] theorem xslotP1 (hh hs) : (xringM.slice (Rect.unit (s := S3x128x6144) (k0_off2 1#32) S1x128x6144.size hh) hs).squeeze S128x6144 squeezes_S1x128x6144_S128x6144 = xslot 1 := xslot_congr (by decide +kernel) _ _
@[sl_canon] theorem xblkP1 (hh hs) : xM.slice (Rect.unit (s := S1536x6144) ![128, 0] S128x6144.size hh) hs = xblk 1 := xblk_congr (by decide +kernel) _ _
@[sl_canon] theorem xcellP2 (hh) : (cc0_scratch14.slice (Rect.unit (s := S3) (k0_off1 2#32) S1.size hh)).squeeze S_ squeezes_S1_S_ = xcell 2 := xcell_congr (by decide +kernel) _
@[sl_canon] theorem xslotP2 (hh hs) : (xringM.slice (Rect.unit (s := S3x128x6144) (k0_off2 2#32) S1x128x6144.size hh) hs).squeeze S128x6144 squeezes_S1x128x6144_S128x6144 = xslot 2 := xslot_congr (by decide +kernel) _ _
@[sl_canon] theorem xblkP2 (hh hs) : xM.slice (Rect.unit (s := S1536x6144) ![256, 0] S128x6144.size hh) hs = xblk 2 := xblk_congr (by decide +kernel) _ _
/-- After the loop: the last six blocks of `dx` waited. -/
@[sl_canon] theorem ocellE0 (hh) : (cc0_scratch15.slice (Rect.unit (s := S6) (k0_off65 6#32) S1.size hh)).squeeze S_ squeezes_S1_S_ = ocell 0 := ocell_congr (by decide +kernel) _
@[sl_canon] theorem oslotE0 (hh hs) : (oringM.slice (Rect.unit (s := S6x128x6144) (k0_off66 6#32) S1x128x6144.size hh) hs).squeeze S128x6144 squeezes_S1x128x6144_S128x6144 = oslot 0 := oslot_congr (by decide +kernel) _ _
@[sl_canon] theorem oblkE0 (hh hs) : dxM.slice (Rect.unit (s := S1536x6144) ![768, 0] S128x6144.size hh) hs = oblk 6 := oblk_congr (by decide +kernel) _ _
@[sl_canon] theorem ocellE1 (hh) : (cc0_scratch15.slice (Rect.unit (s := S6) (k0_off65 7#32) S1.size hh)).squeeze S_ squeezes_S1_S_ = ocell 1 := ocell_congr (by decide +kernel) _
@[sl_canon] theorem oslotE1 (hh hs) : (oringM.slice (Rect.unit (s := S6x128x6144) (k0_off66 7#32) S1x128x6144.size hh) hs).squeeze S128x6144 squeezes_S1x128x6144_S128x6144 = oslot 1 := oslot_congr (by decide +kernel) _ _
@[sl_canon] theorem oblkE1 (hh hs) : dxM.slice (Rect.unit (s := S1536x6144) ![896, 0] S128x6144.size hh) hs = oblk 7 := oblk_congr (by decide +kernel) _ _
@[sl_canon] theorem ocellE2 (hh) : (cc0_scratch15.slice (Rect.unit (s := S6) (k0_off65 8#32) S1.size hh)).squeeze S_ squeezes_S1_S_ = ocell 2 := ocell_congr (by decide +kernel) _
@[sl_canon] theorem oslotE2 (hh hs) : (oringM.slice (Rect.unit (s := S6x128x6144) (k0_off66 8#32) S1x128x6144.size hh) hs).squeeze S128x6144 squeezes_S1x128x6144_S128x6144 = oslot 2 := oslot_congr (by decide +kernel) _ _
@[sl_canon] theorem oblkE2 (hh hs) : dxM.slice (Rect.unit (s := S1536x6144) ![1024, 0] S128x6144.size hh) hs = oblk 8 := oblk_congr (by decide +kernel) _ _
@[sl_canon] theorem ocellE3 (hh) : (cc0_scratch15.slice (Rect.unit (s := S6) (k0_off65 9#32) S1.size hh)).squeeze S_ squeezes_S1_S_ = ocell 3 := ocell_congr (by decide +kernel) _
@[sl_canon] theorem oslotE3 (hh hs) : (oringM.slice (Rect.unit (s := S6x128x6144) (k0_off66 9#32) S1x128x6144.size hh) hs).squeeze S128x6144 squeezes_S1x128x6144_S128x6144 = oslot 3 := oslot_congr (by decide +kernel) _ _
@[sl_canon] theorem oblkE3 (hh hs) : dxM.slice (Rect.unit (s := S1536x6144) ![1152, 0] S128x6144.size hh) hs = oblk 9 := oblk_congr (by decide +kernel) _ _
@[sl_canon] theorem ocellE4 (hh) : (cc0_scratch15.slice (Rect.unit (s := S6) (k0_off65 10#32) S1.size hh)).squeeze S_ squeezes_S1_S_ = ocell 4 := ocell_congr (by decide +kernel) _
@[sl_canon] theorem oslotE4 (hh hs) : (oringM.slice (Rect.unit (s := S6x128x6144) (k0_off66 10#32) S1x128x6144.size hh) hs).squeeze S128x6144 squeezes_S1x128x6144_S128x6144 = oslot 4 := oslot_congr (by decide +kernel) _ _
@[sl_canon] theorem oblkE4 (hh hs) : dxM.slice (Rect.unit (s := S1536x6144) ![1280, 0] S128x6144.size hh) hs = oblk 10 := oblk_congr (by decide +kernel) _ _
@[sl_canon] theorem ocellE5 (hh) : (cc0_scratch15.slice (Rect.unit (s := S6) (k0_off65 11#32) S1.size hh)).squeeze S_ squeezes_S1_S_ = ocell 5 := ocell_congr (by decide +kernel) _
@[sl_canon] theorem oslotE5 (hh hs) : (oringM.slice (Rect.unit (s := S6x128x6144) (k0_off66 11#32) S1x128x6144.size hh) hs).squeeze S128x6144 squeezes_S1x128x6144_S128x6144 = oslot 5 := oslot_congr (by decide +kernel) _ _
@[sl_canon] theorem oblkE5 (hh hs) : dxM.slice (Rect.unit (s := S1536x6144) ![1408, 0] S128x6144.size hh) hs = oblk 11 := oblk_congr (by decide +kernel) _ _

end Cert.Proof.Ideal

end
-- ==== Proof.Tile.lean ====
/-
  What one trip computes: the payloads of its 24 column tiles as functions of the arguments, and the contents the stores
  of those tiles leave in the ring slot of `dx` and in the accumulator of `dWr`.
-/
module

public import proofs.«01_k».proof.Proof.Ring
public import Idealize.ShloMosaic.Lib.WritesUnit
public import Idealize.ShloMosaic.Lib.Pointwise.Index
public import Idealize.ShloMosaic.Lib.Pipeline.Value

@[expose] public section

noncomputable section

namespace Cert.Proof.Ideal

open Cert.KernelIdeal Cert.KernelIdeal.Gen
open Idealize.ShloMosaic
open Idealize.ShloMosaic.TcCoe Idealize.ShloMosaic.Tactic

variable {F : FTy → Type} [FloatOps F]

abbrev dbM : Memref sig .tc .vmem S1536x128 .bf16 := Memref.whole cc0_scratch11
abbrev dbtM : Memref sig .tc .vmem S16x1536 .bf16 := Memref.whole cc0_scratch12
abbrev xsM : Memref sig .tc .vmem S12x128 .f32 := Memref.whole cc0_scratch4
abbrev wrM : Memref sig .tc .vmem S16x6144 .bf16 := Memref.whole cc0_scratch5
abbrev dwrM : Memref sig .tc .vmem S8x6144 .f32 := Memref.whole cc0_scratch6

/-! ## Reading a slot -/

theorem xslot_read (s : Fin 3) (g : xringM.view.ty.Contents (Elt F)) (a : Fin 128) (b : Fin 6144) :
    (xslot s).view.read (Elt F) g (ix2 a b) = xringM.view.read (Elt F) g (ix3 s a b) := by
  refine (congrFun (Memref.read_squeeze_slice (Val := Elt F) xringM (Rect.unit (s := S3x128x6144) (xsOff s) S1x128x6144.size (xsOff_inb s)) (fun _ => rfl) squeezes_S1x128x6144_S128x6144 squeezes_S1x128x6144_S128x6144.numel_eq g) (ix2 a b)).trans ?_
  refine (shapeCast_apply _ _ (ix2 a b) (ix3 (0 : Fin 1) a b) ?_).trans ?_
  · rw [Shape.rowMajor_val_three, Shape.rowMajor_val_two]
    show ((0 * 128 + a.val) * 6144 + b.val) = a.val * 6144 + b.val
    omega
  · refine congrArg (xringM.view.read (Elt F) g) (funext fun i => Fin.ext ?_)
    match i with
    | ⟨0, _⟩ => show s.val + 1 * 0 = s.val; omega
    | ⟨1, _⟩ => show 0 + 1 * a.val = a.val; omega
    | ⟨2, _⟩ => show 0 + 1 * b.val = b.val; omega

theorem oslot_read (s : Fin 6) (g : oringM.view.ty.Contents (Elt F)) (a : Fin 128) (b : Fin 6144) :
    (oslot s).view.read (Elt F) g (ix2 a b) = oringM.view.read (Elt F) g (ix3 s a b) := by
  refine (congrFun (Memref.read_squeeze_slice (Val := Elt F) oringM (Rect.unit (s := S6x128x6144) (osOff s) S1x128x6144.size (osOff_inb s)) (fun _ => rfl) squeezes_S1x128x6144_S128x6144 squeezes_S1x128x6144_S128x6144.numel_eq g) (ix2 a b)).trans ?_
  refine (shapeCast_apply _ _ (ix2 a b) (ix3 (0 : Fin 1) a b) ?_).trans ?_
  · rw [Shape.rowMajor_val_three, Shape.rowMajor_val_two]
    show ((0 * 128 + a.val) * 6144 + b.val) = a.val * 6144 + b.val
    omega
  · refine congrArg (oringM.view.read (Elt F) g) (funext fun i => Fin.ext ?_)
    match i with
    | ⟨0, _⟩ => show s.val + 1 * 0 = s.val; omega
    | ⟨1, _⟩ => show 0 + 1 * a.val = a.val; omega
    | ⟨2, _⟩ => show 0 + 1 * b.val = b.val; omega

/-- A view whose whole was just written reads what was written. -/
theorem read_writes_whole {κ : Kind} {sp : Space} {s : Shape} {e : EltTy} (v : View sig κ sp s e) (f : v.ty.Contents (Elt F))
    (w : s.Idx → Elt F e) : v.read (Elt F) (v.writes (Elt F) f [⟨Rect.whole s, w⟩]) = w := by
  funext y
  have h := View.read_writes_cons_emb v f (Rect.whole s) w [] y
  have e : (Rect.whole s).emb y = y := funext fun a => Fin.ext (by
    show 0 + 1 * (y a).val = (y a).val
    omega)
  rw [e] at h
  exact h

/-! ## The payloads -/

section Vals
variable (X : xM.view.ty.Contents (Elt F)) (fdb : dbM.view.ty.Contents (Elt F)) (fdbt : dbtM.view.ty.Contents (Elt F))
  (fxs : xsM.view.ty.Contents (Elt F)) (fwr : wrM.view.ty.Contents (Elt F))

/-- The left operand of trip `k`'s products. -/
def lhsV (k : Trip) : FVec F S144x144 .bf16 :=
  k0_pay1 (dbM.view.readAt (Elt F) (Rect.unit (s := S1536x128) (k0_off9 k) S128x128.size (k0_off9_inb k)).toLoadRect fdb)
    (dbtM.view.readAt (Elt F) (Rect.unit (s := S16x1536) (k0_off10 k) S16x128.size (k0_off10_inb k)).toLoadRect fdbt)
/-- The scales of trip `k`'s rows. -/
def xsV (k : Trip) : Vec F S1x128 .f32 := xsM.view.readAt (Elt F) (Rect.unit (s := S12x128) (k0_off11 k) S1x128.size (k0_off11_inb k)).toLoadRect fxs
/-- Column tile `n` of the block of `x`. -/
def xtV (b : Fin 12) (n : Fin 24) : Vec F S1x128x256 .fp8e4m3 :=
  fun j => (xblk b).view.read (Elt F) X (ix2 (n0 := 128) (n1 := 6144) (j 1) ⟨256 * n.val + (j 2).val, by have h : (j 2).val < 256 := (j 2).isLt; have := n.isLt; omega⟩)
theorem wr_inb (n : Fin 24) : ∀ a, (![0, 256 * n.val] : Fin 2 → ℕ) a + S16x256.size a ≤ S16x6144.size a := by
  have := n.isLt; intro a; fin_cases a
  · show 0 + 16 ≤ 16; omega
  · show 256 * n.val + 256 ≤ 6144; omega
/-- Column tile `n` of the router's weights. -/
def wtV (n : Fin 24) : Vec F S16x256 .bf16 :=
  wrM.view.readAt (Elt F) (Rect.unit (s := S16x6144) ![0, 256 * n.val] S16x256.size (wr_inb n)).toLoadRect fwr
/-- What trip `k` stores at column tile `n` of its slot of `dx`. -/
def oTileV (k : Trip) (n : Fin 24) : Vec F S1x128x256 .bf16 := k0_pay8 (lhsV fdb fdbt k) (k0_pay2 (xsV fxs k)) (xtV X (Ring.bk 12 k.val) n) (wtV fwr n)
/-- The block of `dx` that trip `k` computes. -/
def dxv (k : Trip) : S128x6144.Idx → Elt F .bf16 := fun j =>
  oTileV X fdb fdbt fxs fwr k ⟨(j 1).val / 256, by have h : (j 1).val < 6144 := (j 1).isLt; omega⟩ (ix3 (n0 := 1) (n1 := 128) (n2 := 256) 0 (j 0) ⟨(j 1).val % 256, Nat.mod_lt _ (by omega)⟩)

theorem dwr_inb (n : Fin 24) : ∀ a, (![0, 256 * n.val] : Fin 2 → ℕ) a + S8x256.size a ≤ S8x6144.size a := by
  have := n.isLt; intro a; fin_cases a
  · show 0 + 8 ≤ 8; omega
  · show 256 * n.val + 256 ≤ 6144; omega
/-- What trip `k` stores at column tile `n` of the accumulator. -/
def dTileV (k : Trip) (fd : dwrM.view.ty.Contents (Elt F)) (n : Fin 24) : Vec F S8x256 .f32 :=
  k0_pay9 (lhsV fdb fdbt k) (k0_pay2 (xsV fxs k)) (xtV X (Ring.bk 12 k.val) n) (wtV fwr n)
    (dwrM.view.readAt (Elt F) (Rect.unit (s := S8x6144) ![0, 256 * n.val] S8x256.size (dwr_inb n)).toLoadRect fd)
/-- The accumulator of `dWr` after trip `k`. -/
def dwrStep (k : Trip) (fd : dwrM.view.ty.Contents (Elt F)) : dwrM.view.ty.Contents (Elt F) := fun j : S8x6144.Idx =>
  dTileV X fdb fdbt fxs fwr k fd ⟨(j 1).val / 256, by have h : (j 1).val < 6144 := (j 1).isLt; omega⟩ (ix2 (n0 := 8) (n1 := 256) (j 0) ⟨(j 1).val % 256, Nat.mod_lt _ (by omega)⟩)

/-! ## The tiles put in place -/

/-- The slot that holds the landed block of `x`, read at column tile `n`. -/
theorem xtile_eq (k : Trip) (n : Fin 24) (f0 : (xslot (Ring.sl 3 k.val)).view.ty.Contents (Elt F)) {off : Fin 3 → Nat}
    (hoff : off = xTile k (256 * n.val)) (inb : ∀ a, off a + S1x128x256.size a ≤ S3x128x6144.size a) :
    xringM.view.readAt (Elt F) (Rect.unit (s := S3x128x6144) off S1x128x256.size inb).toLoadRect
      ((xslot (Ring.sl 3 k.val)).view.writes (Elt F) f0 [⟨Rect.whole S128x6144, ReadAs.same.apply ((xblk (Ring.bk 12 k.val)).view.read (Elt F) X)⟩])
    = xtV X (Ring.bk 12 k.val) n := by
  subst hoff
  funext j
  have hb : 256 * n.val + (j 2).val < 6144 := by have h : (j 2).val < 256 := (j 2).isLt; have := n.isLt; omega
  have h1 := xslot_read (F := F) (Ring.sl 3 k.val) ((xslot (Ring.sl 3 k.val)).view.writes (Elt F) f0 [⟨Rect.whole S128x6144, ReadAs.same.apply ((xblk (Ring.bk 12 k.val)).view.read (Elt F) X)⟩]) (j 1) ⟨256 * n.val + (j 2).val, hb⟩
  rw [read_writes_whole] at h1
  refine Eq.trans ?_ h1.symm
  refine congrArg (xringM.view.read (Elt F) _) (funext fun i => Fin.ext ?_)
  match i with
  | ⟨0, _⟩ => show (Ring.sl 3 k.val).val + 1 * (j 0).val = (Ring.sl 3 k.val).val; have h : (j 0).val < 1 := (j 0).isLt; omega
  | ⟨1, _⟩ => show 0 + 1 * (j 1).val = (j 1).val; omega
  | ⟨2, _⟩ => show 256 * n.val + 1 * (j 2).val = 256 * n.val + (j 2).val; omega

/-- The first `n` column tiles of the slot of `dx` are in place. -/
def oReady (k : Trip) (n : Nat) (g : oringM.view.ty.Contents (Elt F)) : Prop :=
  ∀ (a : Fin 128) (b : Fin 6144), b.val < 256 * n →
    oringM.view.read (Elt F) g (ix3 (Ring.sl 6 k.val) a b) = dxv X fdb fdbt fxs fwr k (ix2 a b)

theorem oReady_zero (k : Trip) (g) : oReady X fdb fdbt fxs fwr k 0 g := fun a b h => absurd h (by omega)

theorem oReady_step (k : Trip) (n : Nat) (hn : n < 24) (g : oringM.view.ty.Contents (Elt F)) {off offx : Fin 3 → Nat}
    (inb : ∀ a, off a + S1x128x256.size a ≤ S6x128x6144.size a) (inbx : ∀ a, offx a + S1x128x256.size a ≤ S3x128x6144.size a)
    (w : (Rect.unit (s := S6x128x6144) off S1x128x256.size inb).shape.Idx → Elt F .bf16)
    (f0 : (xslot (Ring.sl 3 k.val)).view.ty.Contents (Elt F))
    (hoff : off = oTile k (256 * n)) (hoffx : offx = xTile k (256 * n))
    (hw : w = k0_pay8 (lhsV fdb fdbt k) (k0_pay2 (xsV fxs k))
      (xringM.view.readAt (Elt F) (Rect.unit (s := S3x128x6144) offx S1x128x256.size inbx).toLoadRect
        ((xslot (Ring.sl 3 k.val)).view.writes (Elt F) f0 [⟨Rect.whole S128x6144, ReadAs.same.apply ((xblk (Ring.bk 12 k.val)).view.read (Elt F) X)⟩]))
      (wtV fwr ⟨n, hn⟩))
    (ih : oReady X fdb fdbt fxs fwr k n g) :
    oReady X fdb fdbt fxs fwr k (n + 1) (View.write (Elt F) (oringM.access (Rect.unit (s := S6x128x6144) off S1x128x256.size inb)) g w Finset.univ) := by
  show oReady X fdb fdbt fxs fwr k (n + 1) (oringM.view.writes (Elt F) g [⟨Rect.unit (s := S6x128x6144) off S1x128x256.size inb, w⟩])
  intro a b hb
  by_cases h : b.val < 256 * n
  · refine (View.read_writes_cons_unit_of_not_mem oringM.view g inb w [] (ix3 (Ring.sl 6 k.val) a b) hoff 2 (Or.inl h)).trans (ih a b h)
  · refine (View.read_writes_cons_unit_of_mem oringM.view g inb w [] (ix3 (Ring.sl 6 k.val) a b) (ix3 (n0 := 1) (n1 := 128) (n2 := 256) 0 a ⟨b.val - 256 * n, by omega⟩) hoff ?_).trans ?_
    · intro i
      match i with
      | ⟨0, _⟩ => show (Ring.sl 6 k.val).val = (Ring.sl 6 k.val).val + 0; omega
      | ⟨1, _⟩ => show a.val = 0 + a.val; omega
      | ⟨2, _⟩ => show b.val = 256 * n + (b.val - 256 * n); omega
    · rw [hw, xtile_eq X k ⟨n, hn⟩ f0 hoffx inbx]
      have e1 : b.val / 256 = n := by omega
      have e2 : b.val % 256 = b.val - 256 * n := by omega
      unfold dxv oTileV
      simp only [ix2_0, ix2_1, e1, e2]

theorem oReady_done (k : Trip) (g) (h : oReady X fdb fdbt fxs fwr k 24 g) :
    ReadAs.same.apply ((oslot (Ring.sl 6 k.val)).view.read (Elt F) g) = dxv X fdb fdbt fxs fwr k := by
  funext j
  show (oslot (Ring.sl 6 k.val)).view.read (Elt F) g j = _
  have e : j = ix2 (n0 := 128) (n1 := 6144) (j 0) (j 1) := eq_ix2 j
  rw [e]
  exact (oslot_read _ g _ _).trans (h _ _ (by have h : (j 1).val < 6144 := (j 1).isLt; omega))

/-- The first `n` column tiles of the accumulator are this trip's. -/
def dReady (k : Trip) (fd : dwrM.view.ty.Contents (Elt F)) (n : Nat) (g : dwrM.view.ty.Contents (Elt F)) : Prop :=
  ∀ (a : Fin 8) (b : Fin 6144), b.val < 256 * n → dwrM.view.read (Elt F) g (ix2 a b) = dwrM.view.read (Elt F) (dwrStep X fdb fdbt fxs fwr k fd) (ix2 a b)

theorem dReady_zero (k : Trip) (fd g) : dReady X fdb fdbt fxs fwr k fd 0 g := fun a b h => absurd h (by omega)

theorem dReady_step (k : Trip) (n : Nat) (hn : n < 24) (fd : dwrM.view.ty.Contents (Elt F)) (L : List (View.Piece (Elt F) S8x6144 .f32)) {offx : Fin 3 → Nat}
    {off : Fin 2 → Nat}
    (inb : ∀ a, off a + S8x256.size a ≤ S8x6144.size a) (inbx : ∀ a, offx a + S1x128x256.size a ≤ S3x128x6144.size a)
    (w : (Rect.unit (s := S8x6144) off S8x256.size inb).shape.Idx → Elt F .f32)
    (f0 : (xslot (Ring.sl 3 k.val)).view.ty.Contents (Elt F))
    (hoff : off = ![0, 256 * n]) (hoffx : offx = xTile k (256 * n))
    (hw : w = k0_pay9 (lhsV fdb fdbt k) (k0_pay2 (xsV fxs k))
      (xringM.view.readAt (Elt F) (Rect.unit (s := S3x128x6144) offx S1x128x256.size inbx).toLoadRect
        ((xslot (Ring.sl 3 k.val)).view.writes (Elt F) f0 [⟨Rect.whole S128x6144, ReadAs.same.apply ((xblk (Ring.bk 12 k.val)).view.read (Elt F) X)⟩]))
      (wtV fwr ⟨n, hn⟩)
      (dwrM.view.readAt (Elt F) (Rect.unit (s := S8x6144) ![0, 256 * n] S8x256.size (dwr_inb ⟨n, hn⟩)).toLoadRect fd))
    (ih : dReady X fdb fdbt fxs fwr k fd n (dwrM.view.writes (Elt F) fd L)) :
    dReady X fdb fdbt fxs fwr k fd (n + 1) (dwrM.view.writes (Elt F) fd (⟨Rect.unit (s := S8x6144) off S8x256.size inb, w⟩ :: L)) := by
  intro a b hb
  by_cases h : b.val < 256 * n
  · refine (View.read_writes_cons_unit_of_not_mem dwrM.view fd inb w L (ix2 a b) hoff 1 (Or.inl h)).trans (ih a b h)
  · refine (View.read_writes_cons_unit_of_mem dwrM.view fd inb w L (ix2 a b) (ix2 (n0 := 8) (n1 := 256) a ⟨b.val - 256 * n, by omega⟩) hoff ?_).trans ?_
    · intro i
      match i with
      | ⟨0, _⟩ => show a.val = 0 + a.val; omega
      | ⟨1, _⟩ => show b.val = 256 * n + (b.val - 256 * n); omega
    · rw [hw, xtile_eq X k ⟨n, hn⟩ f0 hoffx inbx]
      have e1 : b.val / 256 = n := by omega
      have e2 : b.val % 256 = b.val - 256 * n := by omega
      show dTileV X fdb fdbt fxs fwr k fd ⟨n, hn⟩ (ix2 (n0 := 8) (n1 := 256) a ⟨b.val - 256 * n, by omega⟩)
        = dTileV X fdb fdbt fxs fwr k fd ⟨b.val / 256, by omega⟩ (ix2 (n0 := 8) (n1 := 256) a ⟨b.val % 256, Nat.mod_lt _ (by omega)⟩)
      exact congr (congrArg (dTileV X fdb fdbt fxs fwr k fd) (Fin.ext e1.symm)) (congrArg (ix2 (n0 := 8) (n1 := 256) a) (Fin.ext e2.symm))

theorem dReady_done (k : Trip) (fd g : dwrM.view.ty.Contents (Elt F)) (h : dReady X fdb fdbt fxs fwr k fd 24 g) : g = dwrStep X fdb fdbt fxs fwr k fd := by
  funext j
  have e : j = ix2 (n0 := 8) (n1 := 6144) (j 0) (j 1) := eq_ix2 (n0 := 8) (n1 := 6144) j
  have := h (j 0) (j 1) (by have h : (j 1).val < 6144 := (j 1).isLt; omega)
  rw [← e] at this
  exact this

end Vals

end Cert.Proof.Ideal

end
-- ==== Proof.Pieces.lean ====
/-
  The pieces of the buffers that the transfers carry, and the body of one trip.
-/
module

public import proofs.«01_k».proof.Proof.Tile

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The pieces -/

section Pieces
variable (c : Dev nD) (X : Buf (Elt F) (xM.view.loc (c : Thread nD τ)))

abbrev xcellP (s : Fin 3) : sProp 𝕄 := semVal ((c : Thread nD τ), SemLoc.dma (xcell s).sem) 0
abbrev ocellP (s : Fin 6) : sProp 𝕄 := semVal ((c : Thread nD τ), SemLoc.dma (ocell s).sem) 0
abbrev xslotP (s : Fin 3) (f : Buf (Elt F) ((xslot s).view.loc (c : Thread nD τ))) : sProp 𝕄 :=
  (xslot s).view.loc (c : Thread nD τ) ↦[(xslot s).view.set]{fullShare} f
abbrev oslotP (s : Fin 6) (f : Buf (Elt F) ((oslot s).view.loc (c : Thread nD τ))) : sProp 𝕄 :=
  (oslot s).view.loc (c : Thread nD τ) ↦[(oslot s).view.set]{fullShare} f
abbrev xblkP (b : Fin 12) : sProp 𝕄 := (xblk b).view.loc (c : Thread nD τ) ↦[(xblk b).view.set]{fullShare} X
abbrev oblkP (b : Fin 12) (f : Buf (Elt F) ((oblk b).view.loc (c : Thread nD τ))) : sProp 𝕄 :=
  (oblk b).view.loc (c : Thread nD τ) ↦[(oblk b).view.set]{fullShare} f
abbrev wholeP {sp : Space} {s : Shape} {t : EltTy} (M : Memref sig .tc sp s t) (f : Buf (Elt F) (M.view.loc (c : Thread nD τ))) : sProp 𝕄 :=
  M.view.loc (c : Thread nD τ) ↦[M.view.set]{fullShare} f

/-- What the copy of block `b` of `x` leaves in slot `s`. -/
abbrev xlanded (s : Fin 3) (b : Fin 12) (f : Buf (Elt F) ((xslot s).view.loc (c : Thread nD τ))) : Buf (Elt F) ((xslot s).view.loc (c : Thread nD τ)) :=
  (xslot s).view.writes (Elt F) f [⟨Rect.whole S128x6144, ReadAs.same.apply ((xblk b).view.read (Elt F) X)⟩]
abbrev xflightP (s : Fin 3) (b : Fin 12) (f : Buf (Elt F) ((xslot s).view.loc (c : Thread nD τ))) : sProp 𝕄 :=
  Transfers.Flight countersEmb (c : Thread nD τ) (SemLoc.dma (xcell s).sem) () 24576 iprop(xslotP c s (xlanded c X s b f) ∗ xblkP c X b)

/-- Block `b` of `dx` with the value `v` in it. -/
def landedP (b : Fin 12) (v : S128x6144.Idx → Elt F .bf16) : sProp 𝕄 :=
  iprop(∃ fo : Buf (Elt F) ((oblk b).view.loc (c : Thread nD τ)), ∃ v' : S128x6144.Idx → Elt F .bf16, oblkP c b ((oblk b).view.writes (Elt F) fo [⟨Rect.whole S128x6144, v'⟩]) ∗ ⌜v' = v⌝)
/-- The value `v` on its way from slot `s` to block `b` of `dx`. -/
def oflightP (s : Fin 6) (b : Fin 12) (v : S128x6144.Idx → Elt F .bf16) : sProp 𝕄 :=
  iprop(∃ fo : Buf (Elt F) ((oblk b).view.loc (c : Thread nD τ)), ∃ fs : Buf (Elt F) ((oslot s).view.loc (c : Thread nD τ)), ∃ v' : S128x6144.Idx → Elt F .bf16,
    Transfers.Flight countersEmb (c : Thread nD τ) (SemLoc.dma (ocell s).sem) () 49152 iprop(oblkP c b ((oblk b).view.writes (Elt F) fo [⟨Rect.whole S128x6144, v'⟩]) ∗ oslotP c s fs) ∗ ⌜v' = v⌝)

end Pieces

abbrev tripG (v300 : FVec F S128x128 .f32) (k : Trip) : Prog (TpuEff nD τ sig (Elt F) Λ₀ .tc) Unit :=
  k0_t1_body (F := F) (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 v300 k ()

end Cert.Proof.Ideal

end
-- ==== Proof.Trip.lean ====
/-
  One trip of the kernel's loop over the row blocks.
-/
module

public import proofs.«01_k».proof.Proof.Pieces

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Trip
variable (c : Dev nD) (X : Buf (Elt F) (xM.view.loc (c : Thread nD τ)))
  (fdb : Buf (Elt F) (dbM.view.loc (c : Thread nD τ))) (fdbt : Buf (Elt F) (dbtM.view.loc (c : Thread nD τ)))
  (fxs : Buf (Elt F) (xsM.view.loc (c : Thread nD τ))) (fwr : Buf (Elt F) (wrM.view.loc (c : Thread nD τ)))

set_option maxRecDepth 20000 in
set_option maxHeartbeats 20000000 in
/-- The first six trips: the slot of `dx` is free, and the next block of `x` is asked for. -/
theorem trip1 (v300 : FVec F S128x128 .f32) (k : Trip) (h6 : k.val < 6) (h3 : k.val + 3 < 12)
   (fd : Buf (Elt F) (dwrM.view.loc (c : Thread nD τ))) (f0) (f1) (fo) W :
   iprop(wholeP c dbM fdb ∗ wholeP c dbtM fdbt ∗ wholeP c xsM fxs ∗ wholeP c wrM fwr ∗ wholeP c dwrM fd
     ∗ xflightP c X (Ring.sl 3 k.val) (Ring.bk 12 k.val) f0 ∗ oslotP c (Ring.sl 6 k.val) f1 ∗ ocellP c (Ring.sl 6 k.val)
     ∗ oblkP c (Ring.bk 12 k.val) fo ∗ xblkP c X (Ring.bk 12 (k.val + 3)) ∗ owes (c : Thread nD τ) 0 W)
   ⊢ wp frame (wpE (defs₀ (F := F)) 𝒱₀ (c : Thread nD τ) none) Set.univ (tripG v300 k) (fun _ =>
     iprop(wholeP c dbM fdb ∗ wholeP c dbtM fdbt ∗ wholeP c xsM fxs ∗ wholeP c wrM fwr
     ∗ (∃ fd' : Buf (Elt F) (dwrM.view.loc (c : Thread nD τ)), wholeP c dwrM fd' ∗ ⌜fd' = dwrStep X fdb fdbt fxs fwr k fd⌝)
     ∗ oflightP c (Ring.sl 6 k.val) (Ring.bk 12 k.val) (dxv X fdb fdbt fxs fwr k)
     ∗ xblkP c X (Ring.bk 12 k.val) ∗ (∃ f, xflightP c X (Ring.sl 3 k.val) (Ring.bk 12 (k.val + 3)) f) ∗ ∃ W', owes (c : Thread nD τ) 0 W')) := by
  have hc1 := cond1_not k h6
  have hc2 := cond2_of k h3
  iintro ⟨Hdb, Hdbt, Hxs, Hwr, Hd, HFx, Ho, Hoc, Hob, Hxb, HW⟩
  dsimp only [tripG]
  sl_unfold [k0_t1_body]
  sl_exec
  sl_step
  ihave HX := HFx_src
  isplitl [Hdb]; · iexact Hdb
  isplitl [Hdbt]; · iexact Hdbt
  isplitl [Hxs]; · iexact Hxs
  isplitl [Hwr]; · iexact Hwr
  isplitl [Hd]
  · iexists _
    isplitl [Hd]; · iexact Hd
    ipureintro
    refine dReady_done X fdb fdbt fxs fwr k fd _ ?_
    refine dReady_step X fdb fdbt fxs fwr k 23 (by omega) fd _ _ (k0_off58_inb k) _ _ rfl (ClosedOff.eq (off := k0_off58 k)) rfl ?_
    refine dReady_step X fdb fdbt fxs fwr k 22 (by omega) fd _ _ (k0_off56_inb k) _ _ rfl (ClosedOff.eq (off := k0_off56 k)) rfl ?_
    refine dReady_step X fdb fdbt fxs fwr k 21 (by omega) fd _ _ (k0_off54_inb k) _ _ rfl (ClosedOff.eq (off := k0_off54 k)) rfl ?_
    refine dReady_step X fdb fdbt fxs fwr k 20 (by omega) fd _ _ (k0_off52_inb k) _ _ rfl (ClosedOff.eq (off := k0_off52 k)) rfl ?_
    refine dReady_step X fdb fdbt fxs fwr k 19 (by omega) fd _ _ (k0_off50_inb k) _ _ rfl (ClosedOff.eq (off := k0_off50 k)) rfl ?_
    refine dReady_step X fdb fdbt fxs fwr k 18 (by omega) fd _ _ (k0_off48_inb k) _ _ rfl (ClosedOff.eq (off := k0_off48 k)) rfl ?_
    refine dReady_step X fdb fdbt fxs fwr k 17 (by omega) fd _ _ (k0_off46_inb k) _ _ rfl (ClosedOff.eq (off := k0_off46 k)) rfl ?_
    refine dReady_step X fdb fdbt fxs fwr k 16 (by omega) fd _ _ (k0_off44_inb k) _ _ rfl (ClosedOff.eq (off := k0_off44 k)) rfl ?_
    refine dReady_step X fdb fdbt fxs fwr k 15 (by omega) fd _ _ (k0_off42_inb k) _ _ rfl (ClosedOff.eq (off := k0_off42 k)) rfl ?_
    refine dReady_step X fdb fdbt fxs fwr k 14 (by omega) fd _ _ (k0_off40_inb k) _ _ rfl (ClosedOff.eq (off := k0_off40 k)) rfl ?_
    refine dReady_step X fdb fdbt fxs fwr k 13 (by omega) fd _ _ (k0_off38_inb k) _ _ rfl (ClosedOff.eq (off := k0_off38 k)) rfl ?_
    refine dReady_step X fdb fdbt fxs fwr k 12 (by omega) fd _ _ (k0_off36_inb k) _ _ rfl (ClosedOff.eq (off := k0_off36 k)) rfl ?_
    refine dReady_step X fdb fdbt fxs fwr k 11 (by omega) fd _ _ (k0_off34_inb k) _ _ rfl (ClosedOff.eq (off := k0_off34 k)) rfl ?_
    refine dReady_step X fdb fdbt fxs fwr k 10 (by omega) fd _ _ (k0_off32_inb k) _ _ rfl (ClosedOff.eq (off := k0_off32 k)) rfl ?_
    refine dReady_step X fdb fdbt fxs fwr k 9 (by omega) fd _ _ (k0_off30_inb k) _ _ rfl (ClosedOff.eq (off := k0_off30 k)) rfl ?_
    refine dReady_step X fdb fdbt fxs fwr k 8 (by omega) fd _ _ (k0_off28_inb k) _ _ rfl (ClosedOff.eq (off := k0_off28 k)) rfl ?_
    refine dReady_step X fdb fdbt fxs fwr k 7 (by omega) fd _ _ (k0_off26_inb k) _ _ rfl (ClosedOff.eq (off := k0_off26 k)) rfl ?_
    refine dReady_step X fdb fdbt fxs fwr k 6 (by omega) fd _ _ (k0_off24_inb k) _ _ rfl (ClosedOff.eq (off := k0_off24 k)) rfl ?_
    refine dReady_step X fdb fdbt fxs fwr k 5 (by omega) fd _ _ (k0_off22_inb k) _ _ rfl (ClosedOff.eq (off := k0_off22 k)) rfl ?_
    refine dReady_step X fdb fdbt fxs fwr k 4 (by omega) fd _ _ (k0_off20_inb k) _ _ rfl (ClosedOff.eq (off := k0_off20 k)) rfl ?_
    refine dReady_step X fdb fdbt fxs fwr k 3 (by omega) fd _ _ (k0_off18_inb k) _ _ rfl (ClosedOff.eq (off := k0_off18 k)) rfl ?_
    refine dReady_step X fdb fdbt fxs fwr k 2 (by omega) fd _ _ (k0_off16_inb k) _ _ rfl (ClosedOff.eq (off := k0_off16 k)) rfl ?_
    refine dReady_step X fdb fdbt fxs fwr k 1 (by omega) fd _ _ (k0_off14_inb k) _ _ rfl (ClosedOff.eq (off := k0_off14 k)) rfl ?_
    refine dReady_step X fdb fdbt fxs fwr k 0 (by omega) fd _ _ (k0_off12_inb k) _ _ rfl (ClosedOff.eq (off := k0_off12 k)) rfl ?_
    exact dReady_zero X fdb fdbt fxs fwr k fd _
  isplitl [Hoc]
  · unfold oflightP
    iexists _
    iexists _
    iexists _
    isplitl [Hoc]; · iexact Hoc
    ipureintro
    refine oReady_done X fdb fdbt fxs fwr k _ ?_
    refine oReady_step X fdb fdbt fxs fwr k 23 (by omega) _ _ (k0_off58_inb k) _ _ (ClosedOff.eq (off := k0_off59 k)) (ClosedOff.eq (off := k0_off58 k)) rfl ?_
    refine oReady_step X fdb fdbt fxs fwr k 22 (by omega) _ _ (k0_off56_inb k) _ _ (ClosedOff.eq (off := k0_off57 k)) (ClosedOff.eq (off := k0_off56 k)) rfl ?_
    refine oReady_step X fdb fdbt fxs fwr k 21 (by omega) _ _ (k0_off54_inb k) _ _ (ClosedOff.eq (off := k0_off55 k)) (ClosedOff.eq (off := k0_off54 k)) rfl ?_
    refine oReady_step X fdb fdbt fxs fwr k 20 (by omega) _ _ (k0_off52_inb k) _ _ (ClosedOff.eq (off := k0_off53 k)) (ClosedOff.eq (off := k0_off52 k)) rfl ?_
    refine oReady_step X fdb fdbt fxs fwr k 19 (by omega) _ _ (k0_off50_inb k) _ _ (ClosedOff.eq (off := k0_off51 k)) (ClosedOff.eq (off := k0_off50 k)) rfl ?_
    refine oReady_step X fdb fdbt fxs fwr k 18 (by omega) _ _ (k0_off48_inb k) _ _ (ClosedOff.eq (off := k0_off49 k)) (ClosedOff.eq (off := k0_off48 k)) rfl ?_
    refine oReady_step X fdb fdbt fxs fwr k 17 (by omega) _ _ (k0_off46_inb k) _ _ (ClosedOff.eq (off := k0_off47 k)) (ClosedOff.eq (off := k0_off46 k)) rfl ?_
    refine oReady_step X fdb fdbt fxs fwr k 16 (by omega) _ _ (k0_off44_inb k) _ _ (ClosedOff.eq (off := k0_off45 k)) (ClosedOff.eq (off := k0_off44 k)) rfl ?_
    refine oReady_step X fdb fdbt fxs fwr k 15 (by omega) _ _ (k0_off42_inb k) _ _ (ClosedOff.eq (off := k0_off43 k)) (ClosedOff.eq (off := k0_off42 k)) rfl ?_
    refine oReady_step X fdb fdbt fxs fwr k 14 (by omega) _ _ (k0_off40_inb k) _ _ (ClosedOff.eq (off := k0_off41 k)) (ClosedOff.eq (off := k0_off40 k)) rfl ?_
    refine oReady_step X fdb fdbt fxs fwr k 13 (by omega) _ _ (k0_off38_inb k) _ _ (ClosedOff.eq (off := k0_off39 k)) (ClosedOff.eq (off := k0_off38 k)) rfl ?_
    refine oReady_step X fdb fdbt fxs fwr k 12 (by omega) _ _ (k0_off36_inb k) _ _ (ClosedOff.eq (off := k0_off37 k)) (ClosedOff.eq (off := k0_off36 k)) rfl ?_
    refine oReady_step X fdb fdbt fxs fwr k 11 (by omega) _ _ (k0_off34_inb k) _ _ (ClosedOff.eq (off := k0_off35 k)) (ClosedOff.eq (off := k0_off34 k)) rfl ?_
    refine oReady_step X fdb fdbt fxs fwr k 10 (by omega) _ _ (k0_off32_inb k) _ _ (ClosedOff.eq (off := k0_off33 k)) (ClosedOff.eq (off := k0_off32 k)) rfl ?_
    refine oReady_step X fdb fdbt fxs fwr k 9 (by omega) _ _ (k0_off30_inb k) _ _ (ClosedOff.eq (off := k0_off31 k)) (ClosedOff.eq (off := k0_off30 k)) rfl ?_
    refine oReady_step X fdb fdbt fxs fwr k 8 (by omega) _ _ (k0_off28_inb k) _ _ (ClosedOff.eq (off := k0_off29 k)) (ClosedOff.eq (off := k0_off28 k)) rfl ?_
    refine oReady_step X fdb fdbt fxs fwr k 7 (by omega) _ _ (k0_off26_inb k) _ _ (ClosedOff.eq (off := k0_off27 k)) (ClosedOff.eq (off := k0_off26 k)) rfl ?_
    refine oReady_step X fdb fdbt fxs fwr k 6 (by omega) _ _ (k0_off24_inb k) _ _ (ClosedOff.eq (off := k0_off25 k)) (ClosedOff.eq (off := k0_off24 k)) rfl ?_
    refine oReady_step X fdb fdbt fxs fwr k 5 (by omega) _ _ (k0_off22_inb k) _ _ (ClosedOff.eq (off := k0_off23 k)) (ClosedOff.eq (off := k0_off22 k)) rfl ?_
    refine oReady_step X fdb fdbt fxs fwr k 4 (by omega) _ _ (k0_off20_inb k) _ _ (ClosedOff.eq (off := k0_off21 k)) (ClosedOff.eq (off := k0_off20 k)) rfl ?_
    refine oReady_step X fdb fdbt fxs fwr k 3 (by omega) _ _ (k0_off18_inb k) _ _ (ClosedOff.eq (off := k0_off19 k)) (ClosedOff.eq (off := k0_off18 k)) rfl ?_
    refine oReady_step X fdb fdbt fxs fwr k 2 (by omega) _ _ (k0_off16_inb k) _ _ (ClosedOff.eq (off := k0_off17 k)) (ClosedOff.eq (off := k0_off16 k)) rfl ?_
    refine oReady_step X fdb fdbt fxs fwr k 1 (by omega) _ _ (k0_off14_inb k) _ _ (ClosedOff.eq (off := k0_off15 k)) (ClosedOff.eq (off := k0_off14 k)) rfl ?_
    refine oReady_step X fdb fdbt fxs fwr k 0 (by omega) _ _ (k0_off12_inb k) _ _ (ClosedOff.eq (off := k0_off13 k)) (ClosedOff.eq (off := k0_off12 k)) rfl ?_
    exact oReady_zero X fdb fdbt fxs fwr k _
  isplitl [HX]; · iexact HX
  isplitl [HFx]
  · iexists _
    iexact HFx
  iexists _
  iexact HW

set_option maxRecDepth 20000 in
set_option maxHeartbeats 20000000 in
/-- The next three trips: the slot of `dx` is waited for first. -/
theorem trip2 (v300 : FVec F S128x128 .f32) (k : Trip) (h6 : 6 ≤ k.val) (h3 : k.val + 3 < 12)
   (fd : Buf (Elt F) (dwrM.view.loc (c : Thread nD τ))) (f0) (v) (fo) W :
   iprop(wholeP c dbM fdb ∗ wholeP c dbtM fdbt ∗ wholeP c xsM fxs ∗ wholeP c wrM fwr ∗ wholeP c dwrM fd
     ∗ xflightP c X (Ring.sl 3 k.val) (Ring.bk 12 k.val) f0 ∗ oflightP c (Ring.sl 6 k.val) (Ring.bk 12 (k.val - 6)) v
     ∗ oblkP c (Ring.bk 12 k.val) fo ∗ xblkP c X (Ring.bk 12 (k.val + 3)) ∗ owes (c : Thread nD τ) 0 W)
   ⊢ wp frame (wpE (defs₀ (F := F)) 𝒱₀ (c : Thread nD τ) none) Set.univ (tripG v300 k) (fun _ =>
     iprop(wholeP c dbM fdb ∗ wholeP c dbtM fdbt ∗ wholeP c xsM fxs ∗ wholeP c wrM fwr
     ∗ (∃ fd' : Buf (Elt F) (dwrM.view.loc (c : Thread nD τ)), wholeP c dwrM fd' ∗ ⌜fd' = dwrStep X fdb fdbt fxs fwr k fd⌝)
     ∗ oflightP c (Ring.sl 6 k.val) (Ring.bk 12 k.val) (dxv X fdb fdbt fxs fwr k)
     ∗ xblkP c X (Ring.bk 12 k.val) ∗ landedP c (Ring.bk 12 (k.val - 6)) v ∗ (∃ f, xflightP c X (Ring.sl 3 k.val) (Ring.bk 12 (k.val + 3)) f) ∗ ∃ W', owes (c : Thread nD τ) 0 W')) := by
  have hc1 := cond1_of k h6
  have hc2 := cond2_of k h3
  iintro ⟨Hdb, Hdbt, Hxs, Hwr, Hd, HFx, HO, Hob, Hxb, HW⟩
  unfold oflightP
  icases HO with ⟨%go, %gs, %gv, HFo, %hgv⟩
  dsimp only [tripG]
  sl_unfold [k0_t1_body]
  sl_exec
  sl_step
  ihave HX := HFx_src
  isplitl [Hdb]; · iexact Hdb
  isplitl [Hdbt]; · iexact Hdbt
  isplitl [Hxs]; · iexact Hxs
  isplitl [Hwr]; · iexact Hwr
  isplitl [Hd]
  · iexists _
    isplitl [Hd]; · iexact Hd
    ipureintro
    refine dReady_done X fdb fdbt fxs fwr k fd _ ?_
    refine dReady_step X fdb fdbt fxs fwr k 23 (by omega) fd _ _ (k0_off58_inb k) _ _ rfl (ClosedOff.eq (off := k0_off58 k)) rfl ?_
    refine dReady_step X fdb fdbt fxs fwr k 22 (by omega) fd _ _ (k0_off56_inb k) _ _ rfl (ClosedOff.eq (off := k0_off56 k)) rfl ?_
    refine dReady_step X fdb fdbt fxs fwr k 21 (by omega) fd _ _ (k0_off54_inb k) _ _ rfl (ClosedOff.eq (off := k0_off54 k)) rfl ?_
    refine dReady_step X fdb fdbt fxs fwr k 20 (by omega) fd _ _ (k0_off52_inb k) _ _ rfl (ClosedOff.eq (off := k0_off52 k)) rfl ?_
    refine dReady_step X fdb fdbt fxs fwr k 19 (by omega) fd _ _ (k0_off50_inb k) _ _ rfl (ClosedOff.eq (off := k0_off50 k)) rfl ?_
    refine dReady_step X fdb fdbt fxs fwr k 18 (by omega) fd _ _ (k0_off48_inb k) _ _ rfl (ClosedOff.eq (off := k0_off48 k)) rfl ?_
    refine dReady_step X fdb fdbt fxs fwr k 17 (by omega) fd _ _ (k0_off46_inb k) _ _ rfl (ClosedOff.eq (off := k0_off46 k)) rfl ?_
    refine dReady_step X fdb fdbt fxs fwr k 16 (by omega) fd _ _ (k0_off44_inb k) _ _ rfl (ClosedOff.eq (off := k0_off44 k)) rfl ?_
    refine dReady_step X fdb fdbt fxs fwr k 15 (by omega) fd _ _ (k0_off42_inb k) _ _ rfl (ClosedOff.eq (off := k0_off42 k)) rfl ?_
    refine dReady_step X fdb fdbt fxs fwr k 14 (by omega) fd _ _ (k0_off40_inb k) _ _ rfl (ClosedOff.eq (off := k0_off40 k)) rfl ?_
    refine dReady_step X fdb fdbt fxs fwr k 13 (by omega) fd _ _ (k0_off38_inb k) _ _ rfl (ClosedOff.eq (off := k0_off38 k)) rfl ?_
    refine dReady_step X fdb fdbt fxs fwr k 12 (by omega) fd _ _ (k0_off36_inb k) _ _ rfl (ClosedOff.eq (off := k0_off36 k)) rfl ?_
    refine dReady_step X fdb fdbt fxs fwr k 11 (by omega) fd _ _ (k0_off34_inb k) _ _ rfl (ClosedOff.eq (off := k0_off34 k)) rfl ?_
    refine dReady_step X fdb fdbt fxs fwr k 10 (by omega) fd _ _ (k0_off32_inb k) _ _ rfl (ClosedOff.eq (off := k0_off32 k)) rfl ?_
    refine dReady_step X fdb fdbt fxs fwr k 9 (by omega) fd _ _ (k0_off30_inb k) _ _ rfl (ClosedOff.eq (off := k0_off30 k)) rfl ?_
    refine dReady_step X fdb fdbt fxs fwr k 8 (by omega) fd _ _ (k0_off28_inb k) _ _ rfl (ClosedOff.eq (off := k0_off28 k)) rfl ?_
    refine dReady_step X fdb fdbt fxs fwr k 7 (by omega) fd _ _ (k0_off26_inb k) _ _ rfl (ClosedOff.eq (off := k0_off26 k)) rfl ?_
    refine dReady_step X fdb fdbt fxs fwr k 6 (by omega) fd _ _ (k0_off24_inb k) _ _ rfl (ClosedOff.eq (off := k0_off24 k)) rfl ?_
    refine dReady_step X fdb fdbt fxs fwr k 5 (by omega) fd _ _ (k0_off22_inb k) _ _ rfl (ClosedOff.eq (off := k0_off22 k)) rfl ?_
    refine dReady_step X fdb fdbt fxs fwr k 4 (by omega) fd _ _ (k0_off20_inb k) _ _ rfl (ClosedOff.eq (off := k0_off20 k)) rfl ?_
    refine dReady_step X fdb fdbt fxs fwr k 3 (by omega) fd _ _ (k0_off18_inb k) _ _ rfl (ClosedOff.eq (off := k0_off18 k)) rfl ?_
    refine dReady_step X fdb fdbt fxs fwr k 2 (by omega) fd _ _ (k0_off16_inb k) _ _ rfl (ClosedOff.eq (off := k0_off16 k)) rfl ?_
    refine dReady_step X fdb fdbt fxs fwr k 1 (by omega) fd _ _ (k0_off14_inb k) _ _ rfl (ClosedOff.eq (off := k0_off14 k)) rfl ?_
    refine dReady_step X fdb fdbt fxs fwr k 0 (by omega) fd _ _ (k0_off12_inb k) _ _ rfl (ClosedOff.eq (off := k0_off12 k)) rfl ?_
    exact dReady_zero X fdb fdbt fxs fwr k fd _
  isplitl [HFo]
  · skip
    iexists _
    iexists _
    iexists _
    isplitl [HFo]; · iexact HFo
    ipureintro
    refine oReady_done X fdb fdbt fxs fwr k _ ?_
    refine oReady_step X fdb fdbt fxs fwr k 23 (by omega) _ _ (k0_off58_inb k) _ _ (ClosedOff.eq (off := k0_off59 k)) (ClosedOff.eq (off := k0_off58 k)) rfl ?_
    refine oReady_step X fdb fdbt fxs fwr k 22 (by omega) _ _ (k0_off56_inb k) _ _ (ClosedOff.eq (off := k0_off57 k)) (ClosedOff.eq (off := k0_off56 k)) rfl ?_
    refine oReady_step X fdb fdbt fxs fwr k 21 (by omega) _ _ (k0_off54_inb k) _ _ (ClosedOff.eq (off := k0_off55 k)) (ClosedOff.eq (off := k0_off54 k)) rfl ?_
    refine oReady_step X fdb fdbt fxs fwr k 20 (by omega) _ _ (k0_off52_inb k) _ _ (ClosedOff.eq (off := k0_off53 k)) (ClosedOff.eq (off := k0_off52 k)) rfl ?_
    refine oReady_step X fdb fdbt fxs fwr k 19 (by omega) _ _ (k0_off50_inb k) _ _ (ClosedOff.eq (off := k0_off51 k)) (ClosedOff.eq (off := k0_off50 k)) rfl ?_
    refine oReady_step X fdb fdbt fxs fwr k 18 (by omega) _ _ (k0_off48_inb k) _ _ (ClosedOff.eq (off := k0_off49 k)) (ClosedOff.eq (off := k0_off48 k)) rfl ?_
    refine oReady_step X fdb fdbt fxs fwr k 17 (by omega) _ _ (k0_off46_inb k) _ _ (ClosedOff.eq (off := k0_off47 k)) (ClosedOff.eq (off := k0_off46 k)) rfl ?_
    refine oReady_step X fdb fdbt fxs fwr k 16 (by omega) _ _ (k0_off44_inb k) _ _ (ClosedOff.eq (off := k0_off45 k)) (ClosedOff.eq (off := k0_off44 k)) rfl ?_
    refine oReady_step X fdb fdbt fxs fwr k 15 (by omega) _ _ (k0_off42_inb k) _ _ (ClosedOff.eq (off := k0_off43 k)) (ClosedOff.eq (off := k0_off42 k)) rfl ?_
    refine oReady_step X fdb fdbt fxs fwr k 14 (by omega) _ _ (k0_off40_inb k) _ _ (ClosedOff.eq (off := k0_off41 k)) (ClosedOff.eq (off := k0_off40 k)) rfl ?_
    refine oReady_step X fdb fdbt fxs fwr k 13 (by omega) _ _ (k0_off38_inb k) _ _ (ClosedOff.eq (off := k0_off39 k)) (ClosedOff.eq (off := k0_off38 k)) rfl ?_
    refine oReady_step X fdb fdbt fxs fwr k 12 (by omega) _ _ (k0_off36_inb k) _ _ (ClosedOff.eq (off := k0_off37 k)) (ClosedOff.eq (off := k0_off36 k)) rfl ?_
    refine oReady_step X fdb fdbt fxs fwr k 11 (by omega) _ _ (k0_off34_inb k) _ _ (ClosedOff.eq (off := k0_off35 k)) (ClosedOff.eq (off := k0_off34 k)) rfl ?_
    refine oReady_step X fdb fdbt fxs fwr k 10 (by omega) _ _ (k0_off32_inb k) _ _ (ClosedOff.eq (off := k0_off33 k)) (ClosedOff.eq (off := k0_off32 k)) rfl ?_
    refine oReady_step X fdb fdbt fxs fwr k 9 (by omega) _ _ (k0_off30_inb k) _ _ (ClosedOff.eq (off := k0_off31 k)) (ClosedOff.eq (off := k0_off30 k)) rfl ?_
    refine oReady_step X fdb fdbt fxs fwr k 8 (by omega) _ _ (k0_off28_inb k) _ _ (ClosedOff.eq (off := k0_off29 k)) (ClosedOff.eq (off := k0_off28 k)) rfl ?_
    refine oReady_step X fdb fdbt fxs fwr k 7 (by omega) _ _ (k0_off26_inb k) _ _ (ClosedOff.eq (off := k0_off27 k)) (ClosedOff.eq (off := k0_off26 k)) rfl ?_
    refine oReady_step X fdb fdbt fxs fwr k 6 (by omega) _ _ (k0_off24_inb k) _ _ (ClosedOff.eq (off := k0_off25 k)) (ClosedOff.eq (off := k0_off24 k)) rfl ?_
    refine oReady_step X fdb fdbt fxs fwr k 5 (by omega) _ _ (k0_off22_inb k) _ _ (ClosedOff.eq (off := k0_off23 k)) (ClosedOff.eq (off := k0_off22 k)) rfl ?_
    refine oReady_step X fdb fdbt fxs fwr k 4 (by omega) _ _ (k0_off20_inb k) _ _ (ClosedOff.eq (off := k0_off21 k)) (ClosedOff.eq (off := k0_off20 k)) rfl ?_
    refine oReady_step X fdb fdbt fxs fwr k 3 (by omega) _ _ (k0_off18_inb k) _ _ (ClosedOff.eq (off := k0_off19 k)) (ClosedOff.eq (off := k0_off18 k)) rfl ?_
    refine oReady_step X fdb fdbt fxs fwr k 2 (by omega) _ _ (k0_off16_inb k) _ _ (ClosedOff.eq (off := k0_off17 k)) (ClosedOff.eq (off := k0_off16 k)) rfl ?_
    refine oReady_step X fdb fdbt fxs fwr k 1 (by omega) _ _ (k0_off14_inb k) _ _ (ClosedOff.eq (off := k0_off15 k)) (ClosedOff.eq (off := k0_off14 k)) rfl ?_
    refine oReady_step X fdb fdbt fxs fwr k 0 (by omega) _ _ (k0_off12_inb k) _ _ (ClosedOff.eq (off := k0_off13 k)) (ClosedOff.eq (off := k0_off12 k)) rfl ?_
    exact oReady_zero X fdb fdbt fxs fwr k _
  isplitl [HX]; · iexact HX
  isplitl [HFo_dst]
  · unfold landedP
    iexists _
    iexists _
    isplitl [HFo_dst]; · iexact HFo_dst
    ipureintro
    exact hgv
  isplitl [HFx]
  · iexists _
    iexact HFx
  iexists _
  iexact HW

set_option maxRecDepth 20000 in
set_option maxHeartbeats 20000000 in
/-- The last three trips: no further block of `x` is asked for. -/
theorem trip3 (v300 : FVec F S128x128 .f32) (k : Trip) (h6 : 6 ≤ k.val) (h3 : 12 ≤ k.val + 3)
   (fd : Buf (Elt F) (dwrM.view.loc (c : Thread nD τ))) (f0) (v) (fo) W :
   iprop(wholeP c dbM fdb ∗ wholeP c dbtM fdbt ∗ wholeP c xsM fxs ∗ wholeP c wrM fwr ∗ wholeP c dwrM fd
     ∗ xflightP c X (Ring.sl 3 k.val) (Ring.bk 12 k.val) f0 ∗ oflightP c (Ring.sl 6 k.val) (Ring.bk 12 (k.val - 6)) v
     ∗ oblkP c (Ring.bk 12 k.val) fo ∗ owes (c : Thread nD τ) 0 W)
   ⊢ wp frame (wpE (defs₀ (F := F)) 𝒱₀ (c : Thread nD τ) none) Set.univ (tripG v300 k) (fun _ =>
     iprop(wholeP c dbM fdb ∗ wholeP c dbtM fdbt ∗ wholeP c xsM fxs ∗ wholeP c wrM fwr
     ∗ (∃ fd' : Buf (Elt F) (dwrM.view.loc (c : Thread nD τ)), wholeP c dwrM fd' ∗ ⌜fd' = dwrStep X fdb fdbt fxs fwr k fd⌝)
     ∗ oflightP c (Ring.sl 6 k.val) (Ring.bk 12 k.val) (dxv X fdb fdbt fxs fwr k)
     ∗ xblkP c X (Ring.bk 12 k.val) ∗ landedP c (Ring.bk 12 (k.val - 6)) v ∗ (∃ f, xslotP c (Ring.sl 3 k.val) f) ∗ xcellP c (Ring.sl 3 k.val) ∗ ∃ W', owes (c : Thread nD τ) 0 W')) := by
  have hc1 := cond1_of k h6
  have hc2 := cond2_not k h3
  iintro ⟨Hdb, Hdbt, Hxs, Hwr, Hd, HFx, HO, Hob, HW⟩
  unfold oflightP
  icases HO with ⟨%go, %gs, %gv, HFo, %hgv⟩
  dsimp only [tripG]
  sl_unfold [k0_t1_body]
  sl_exec
  sl_step
  ihave HX := HFx_src
  isplitl [Hdb]; · iexact Hdb
  isplitl [Hdbt]; · iexact Hdbt
  isplitl [Hxs]; · iexact Hxs
  isplitl [Hwr]; · iexact Hwr
  isplitl [Hd]
  · iexists _
    isplitl [Hd]; · iexact Hd
    ipureintro
    refine dReady_done X fdb fdbt fxs fwr k fd _ ?_
    refine dReady_step X fdb fdbt fxs fwr k 23 (by omega) fd _ _ (k0_off58_inb k) _ _ rfl (ClosedOff.eq (off := k0_off58 k)) rfl ?_
    refine dReady_step X fdb fdbt fxs fwr k 22 (by omega) fd _ _ (k0_off56_inb k) _ _ rfl (ClosedOff.eq (off := k0_off56 k)) rfl ?_
    refine dReady_step X fdb fdbt fxs fwr k 21 (by omega) fd _ _ (k0_off54_inb k) _ _ rfl (ClosedOff.eq (off := k0_off54 k)) rfl ?_
    refine dReady_step X fdb fdbt fxs fwr k 20 (by omega) fd _ _ (k0_off52_inb k) _ _ rfl (ClosedOff.eq (off := k0_off52 k)) rfl ?_
    refine dReady_step X fdb fdbt fxs fwr k 19 (by omega) fd _ _ (k0_off50_inb k) _ _ rfl (ClosedOff.eq (off := k0_off50 k)) rfl ?_
    refine dReady_step X fdb fdbt fxs fwr k 18 (by omega) fd _ _ (k0_off48_inb k) _ _ rfl (ClosedOff.eq (off := k0_off48 k)) rfl ?_
    refine dReady_step X fdb fdbt fxs fwr k 17 (by omega) fd _ _ (k0_off46_inb k) _ _ rfl (ClosedOff.eq (off := k0_off46 k)) rfl ?_
    refine dReady_step X fdb fdbt fxs fwr k 16 (by omega) fd _ _ (k0_off44_inb k) _ _ rfl (ClosedOff.eq (off := k0_off44 k)) rfl ?_
    refine dReady_step X fdb fdbt fxs fwr k 15 (by omega) fd _ _ (k0_off42_inb k) _ _ rfl (ClosedOff.eq (off := k0_off42 k)) rfl ?_
    refine dReady_step X fdb fdbt fxs fwr k 14 (by omega) fd _ _ (k0_off40_inb k) _ _ rfl (ClosedOff.eq (off := k0_off40 k)) rfl ?_
    refine dReady_step X fdb fdbt fxs fwr k 13 (by omega) fd _ _ (k0_off38_inb k) _ _ rfl (ClosedOff.eq (off := k0_off38 k)) rfl ?_
    refine dReady_step X fdb fdbt fxs fwr k 12 (by omega) fd _ _ (k0_off36_inb k) _ _ rfl (ClosedOff.eq (off := k0_off36 k)) rfl ?_
    refine dReady_step X fdb fdbt fxs fwr k 11 (by omega) fd _ _ (k0_off34_inb k) _ _ rfl (ClosedOff.eq (off := k0_off34 k)) rfl ?_
    refine dReady_step X fdb fdbt fxs fwr k 10 (by omega) fd _ _ (k0_off32_inb k) _ _ rfl (ClosedOff.eq (off := k0_off32 k)) rfl ?_
    refine dReady_step X fdb fdbt fxs fwr k 9 (by omega) fd _ _ (k0_off30_inb k) _ _ rfl (ClosedOff.eq (off := k0_off30 k)) rfl ?_
    refine dReady_step X fdb fdbt fxs fwr k 8 (by omega) fd _ _ (k0_off28_inb k) _ _ rfl (ClosedOff.eq (off := k0_off28 k)) rfl ?_
    refine dReady_step X fdb fdbt fxs fwr k 7 (by omega) fd _ _ (k0_off26_inb k) _ _ rfl (ClosedOff.eq (off := k0_off26 k)) rfl ?_
    refine dReady_step X fdb fdbt fxs fwr k 6 (by omega) fd _ _ (k0_off24_inb k) _ _ rfl (ClosedOff.eq (off := k0_off24 k)) rfl ?_
    refine dReady_step X fdb fdbt fxs fwr k 5 (by omega) fd _ _ (k0_off22_inb k) _ _ rfl (ClosedOff.eq (off := k0_off22 k)) rfl ?_
    refine dReady_step X fdb fdbt fxs fwr k 4 (by omega) fd _ _ (k0_off20_inb k) _ _ rfl (ClosedOff.eq (off := k0_off20 k)) rfl ?_
    refine dReady_step X fdb fdbt fxs fwr k 3 (by omega) fd _ _ (k0_off18_inb k) _ _ rfl (ClosedOff.eq (off := k0_off18 k)) rfl ?_
    refine dReady_step X fdb fdbt fxs fwr k 2 (by omega) fd _ _ (k0_off16_inb k) _ _ rfl (ClosedOff.eq (off := k0_off16 k)) rfl ?_
    refine dReady_step X fdb fdbt fxs fwr k 1 (by omega) fd _ _ (k0_off14_inb k) _ _ rfl (ClosedOff.eq (off := k0_off14 k)) rfl ?_
    refine dReady_step X fdb fdbt fxs fwr k 0 (by omega) fd _ _ (k0_off12_inb k) _ _ rfl (ClosedOff.eq (off := k0_off12 k)) rfl ?_
    exact dReady_zero X fdb fdbt fxs fwr k fd _
  isplitl [HFo]
  · skip
    iexists _
    iexists _
    iexists _
    isplitl [HFo]; · iexact HFo
    ipureintro
    refine oReady_done X fdb fdbt fxs fwr k _ ?_
    refine oReady_step X fdb fdbt fxs fwr k 23 (by omega) _ _ (k0_off58_inb k) _ _ (ClosedOff.eq (off := k0_off59 k)) (ClosedOff.eq (off := k0_off58 k)) rfl ?_
    refine oReady_step X fdb fdbt fxs fwr k 22 (by omega) _ _ (k0_off56_inb k) _ _ (ClosedOff.eq (off := k0_off57 k)) (ClosedOff.eq (off := k0_off56 k)) rfl ?_
    refine oReady_step X fdb fdbt fxs fwr k 21 (by omega) _ _ (k0_off54_inb k) _ _ (ClosedOff.eq (off := k0_off55 k)) (ClosedOff.eq (off := k0_off54 k)) rfl ?_
    refine oReady_step X fdb fdbt fxs fwr k 20 (by omega) _ _ (k0_off52_inb k) _ _ (ClosedOff.eq (off := k0_off53 k)) (ClosedOff.eq (off := k0_off52 k)) rfl ?_
    refine oReady_step X fdb fdbt fxs fwr k 19 (by omega) _ _ (k0_off50_inb k) _ _ (ClosedOff.eq (off := k0_off51 k)) (ClosedOff.eq (off := k0_off50 k)) rfl ?_
    refine oReady_step X fdb fdbt fxs fwr k 18 (by omega) _ _ (k0_off48_inb k) _ _ (ClosedOff.eq (off := k0_off49 k)) (ClosedOff.eq (off := k0_off48 k)) rfl ?_
    refine oReady_step X fdb fdbt fxs fwr k 17 (by omega) _ _ (k0_off46_inb k) _ _ (ClosedOff.eq (off := k0_off47 k)) (ClosedOff.eq (off := k0_off46 k)) rfl ?_
    refine oReady_step X fdb fdbt fxs fwr k 16 (by omega) _ _ (k0_off44_inb k) _ _ (ClosedOff.eq (off := k0_off45 k)) (ClosedOff.eq (off := k0_off44 k)) rfl ?_
    refine oReady_step X fdb fdbt fxs fwr k 15 (by omega) _ _ (k0_off42_inb k) _ _ (ClosedOff.eq (off := k0_off43 k)) (ClosedOff.eq (off := k0_off42 k)) rfl ?_
    refine oReady_step X fdb fdbt fxs fwr k 14 (by omega) _ _ (k0_off40_inb k) _ _ (ClosedOff.eq (off := k0_off41 k)) (ClosedOff.eq (off := k0_off40 k)) rfl ?_
    refine oReady_step X fdb fdbt fxs fwr k 13 (by omega) _ _ (k0_off38_inb k) _ _ (ClosedOff.eq (off := k0_off39 k)) (ClosedOff.eq (off := k0_off38 k)) rfl ?_
    refine oReady_step X fdb fdbt fxs fwr k 12 (by omega) _ _ (k0_off36_inb k) _ _ (ClosedOff.eq (off := k0_off37 k)) (ClosedOff.eq (off := k0_off36 k)) rfl ?_
    refine oReady_step X fdb fdbt fxs fwr k 11 (by omega) _ _ (k0_off34_inb k) _ _ (ClosedOff.eq (off := k0_off35 k)) (ClosedOff.eq (off := k0_off34 k)) rfl ?_
    refine oReady_step X fdb fdbt fxs fwr k 10 (by omega) _ _ (k0_off32_inb k) _ _ (ClosedOff.eq (off := k0_off33 k)) (ClosedOff.eq (off := k0_off32 k)) rfl ?_
    refine oReady_step X fdb fdbt fxs fwr k 9 (by omega) _ _ (k0_off30_inb k) _ _ (ClosedOff.eq (off := k0_off31 k)) (ClosedOff.eq (off := k0_off30 k)) rfl ?_
    refine oReady_step X fdb fdbt fxs fwr k 8 (by omega) _ _ (k0_off28_inb k) _ _ (ClosedOff.eq (off := k0_off29 k)) (ClosedOff.eq (off := k0_off28 k)) rfl ?_
    refine oReady_step X fdb fdbt fxs fwr k 7 (by omega) _ _ (k0_off26_inb k) _ _ (ClosedOff.eq (off := k0_off27 k)) (ClosedOff.eq (off := k0_off26 k)) rfl ?_
    refine oReady_step X fdb fdbt fxs fwr k 6 (by omega) _ _ (k0_off24_inb k) _ _ (ClosedOff.eq (off := k0_off25 k)) (ClosedOff.eq (off := k0_off24 k)) rfl ?_
    refine oReady_step X fdb fdbt fxs fwr k 5 (by omega) _ _ (k0_off22_inb k) _ _ (ClosedOff.eq (off := k0_off23 k)) (ClosedOff.eq (off := k0_off22 k)) rfl ?_
    refine oReady_step X fdb fdbt fxs fwr k 4 (by omega) _ _ (k0_off20_inb k) _ _ (ClosedOff.eq (off := k0_off21 k)) (ClosedOff.eq (off := k0_off20 k)) rfl ?_
    refine oReady_step X fdb fdbt fxs fwr k 3 (by omega) _ _ (k0_off18_inb k) _ _ (ClosedOff.eq (off := k0_off19 k)) (ClosedOff.eq (off := k0_off18 k)) rfl ?_
    refine oReady_step X fdb fdbt fxs fwr k 2 (by omega) _ _ (k0_off16_inb k) _ _ (ClosedOff.eq (off := k0_off17 k)) (ClosedOff.eq (off := k0_off16 k)) rfl ?_
    refine oReady_step X fdb fdbt fxs fwr k 1 (by omega) _ _ (k0_off14_inb k) _ _ (ClosedOff.eq (off := k0_off15 k)) (ClosedOff.eq (off := k0_off14 k)) rfl ?_
    refine oReady_step X fdb fdbt fxs fwr k 0 (by omega) _ _ (k0_off12_inb k) _ _ (ClosedOff.eq (off := k0_off13 k)) (ClosedOff.eq (off := k0_off12 k)) rfl ?_
    exact oReady_zero X fdb fdbt fxs fwr k _
  isplitl [HX]; · iexact HX
  isplitl [HFo_dst]
  · unfold landedP
    iexists _
    iexists _
    isplitl [HFo_dst]; · iexact HFo_dst
    ipureintro
    exact hgv
  isplitl [HFx_dst]
  · iexists _
    iexact HFx_dst
  isplitl [HFx]
  · iexact HFx
  iexists _
  iexact HW

end Trip

end Cert.Proof.Ideal

end
-- ==== Proof.Loop.lean ====
/-
  The loop over the token blocks: its invariant, stepped by the three kinds of trip.
-/
module

public import proofs.«01_k».proof.Proof.Trip
public import Idealize.ShloMosaic.Lib.Ring.WriteBehind
public import Idealize.ShloMosaic.Lib.Ring.Trips

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Loop
variable (c : Dev nD) (X : Buf (Elt F) (xM.view.loc (c : Thread nD τ)))
variable (fdb : Buf (Elt F) (dbM.view.loc (c : Thread nD τ))) (fdbt : Buf (Elt F) (dbtM.view.loc (c : Thread nD τ)))
  (fxs : Buf (Elt F) (xsM.view.loc (c : Thread nD τ))) (fwr : Buf (Elt F) (wrM.view.loc (c : Thread nD τ)))

/-- The trip that works on block `b`. -/
def tripOf (b : Fin 12) : Trip := ⟨b.val, by rw [trips_eq]; exact b.isLt⟩
theorem tripOf_bk (k : Trip) : tripOf (Ring.bk 12 k.val) = k := Fin.ext (show (Ring.bk 12 k.val).val = k.val from Ring.bk_val (trip_lt k))

/-- What the kernel leaves in block `b` of `dx`. -/
abbrev dxB (b : Fin 12) : S128x6144.Idx → Elt F .bf16 := dxv X fdb fdbt fxs fwr (tripOf b)

/-- The gradient of the router's weights after `k` trips. -/
def dwrAcc (fd : Buf (Elt F) (dwrM.view.loc (c : Thread nD τ))) : ℕ → Buf (Elt F) (dwrM.view.loc (c : Thread nD τ))
  | 0 => fd
  | k + 1 => if h : k < 12 then dwrStep X fdb fdbt fxs fwr (tripOf ⟨k, h⟩) (dwrAcc fd k) else dwrAcc fd k

theorem dwrAcc_succ (fd) (k : Trip) :
    dwrAcc c X fdb fdbt fxs fwr fd (k.val + 1) = dwrStep X fdb fdbt fxs fwr k (dwrAcc c X fdb fdbt fxs fwr fd k.val) := by
  rw [dwrAcc, dif_pos (trip_lt k)]; rfl

/-- The slot of `x` that point `p` uses: a copy on its way for a block still to come, else at rest. -/
def XR (p : ℕ) : sProp 𝕄 :=
  if p < 12 then iprop(∃ f, xflightP c X (Ring.sl 3 p) (Ring.bk 12 p) f) else iprop((∃ f, xslotP (F := F) c (Ring.sl 3 p) f) ∗ xcellP c (Ring.sl 3 p))
/-- The slot of `dx` that point `p` uses: at rest for the first six points, else still carrying block `p - 6`. -/
def OR (p : ℕ) : sProp 𝕄 :=
  if p < 6 then iprop((∃ f, oslotP (F := F) c (Ring.sl 6 p) f) ∗ ocellP c (Ring.sl 6 p))
  else oflightP c (Ring.sl 6 p) (Ring.bk 12 (p - 6)) (dxB c X fdb fdbt fxs fwr (Ring.bk 12 (p - 6)))

theorem XR_lt (p : ℕ) (h : p < 12) : XR c X p = iprop(∃ f, xflightP c X (Ring.sl 3 p) (Ring.bk 12 p) f) := if_pos h
theorem XR_ge (p : ℕ) (h : 12 ≤ p) : XR c X p = iprop((∃ f, xslotP (F := F) c (Ring.sl 3 p) f) ∗ xcellP c (Ring.sl 3 p)) := if_neg (by omega)
theorem OR_lt (p : ℕ) (h : p < 6) : OR c X fdb fdbt fxs fwr p = iprop((∃ f, oslotP (F := F) c (Ring.sl 6 p) f) ∗ ocellP c (Ring.sl 6 p)) := if_pos h
theorem OR_ge (p : ℕ) (h : 6 ≤ p) : OR c X fdb fdbt fxs fwr p = oflightP c (Ring.sl 6 p) (Ring.bk 12 (p - 6)) (dxB c X fdb fdbt fxs fwr (Ring.bk 12 (p - 6))) := if_neg (by omega)

theorem OR_next (k : Trip) : OR c X fdb fdbt fxs fwr (k.val + 6) = oflightP c (Ring.sl 6 k.val) (Ring.bk 12 k.val) (dxv X fdb fdbt fxs fwr k) := by
  rw [OR_ge _ _ _ _ _ _ _ (by omega), Ring.sl_add, Nat.add_sub_cancel, dxB, tripOf_bk]

variable (fd0 : Buf (Elt F) (dwrM.view.loc (c : Thread nD τ)))

/-- The families of blocks: those of `x` at home, those of `dx` not yet written, those of `dx` written and waited for. -/
abbrev homeF : Fin 12 → sProp 𝕄 := fun b => xblkP c X b
abbrev aheadF : Fin 12 → sProp 𝕄 := fun b => iprop(∃ f, oblkP (F := F) c b f)
abbrev behindF : Fin 12 → sProp 𝕄 := fun b => landedP c b (dxB c X fdb fdbt fxs fwr b)

/-- The invariant before trip `k`. -/
abbrev invAt (k : ℕ) : sProp 𝕄 :=
  iprop(wholeP c dbM fdb ∗ wholeP c dbtM fdbt ∗ wholeP c xsM fxs ∗ wholeP c wrM fwr
    ∗ wholeP c dwrM (dwrAcc c X fdb fdbt fxs fwr fd0 k)
    ∗ bigSep (Ring.homeSet 3 k) (homeF c X) ∗ XR c X k ∗ XR c X (k + 1) ∗ XR c X (k + 2)
    ∗ bigSep (Ring.aheadSet k) (aheadF (F := F) c) ∗ bigSep (Ring.behindSet 6 k) (behindF c X fdb fdbt fxs fwr)
    ∗ OR c X fdb fdbt fxs fwr k ∗ OR c X fdb fdbt fxs fwr (k + 1) ∗ OR c X fdb fdbt fxs fwr (k + 2) ∗ OR c X fdb fdbt fxs fwr (k + 3)
    ∗ OR c X fdb fdbt fxs fwr (k + 4) ∗ OR c X fdb fdbt fxs fwr (k + 5)
    ∗ ∃ W, owes (c : Thread nD τ) 0 W)

theorem home_take (k : ℕ) (h : k + 3 < 12) (Φ : Fin 12 → sProp 𝕄) :
    bigSep (Ring.homeSet 3 k) Φ = iprop(Φ (Ring.bk 12 (k + 3)) ∗ bigSep ((Ring.homeSet 3 k).erase (Ring.bk 12 (k + 3))) Φ) :=
  bigSep_erase (by rw [Ring.mem_homeSet, Ring.bk_val h]; omega)
theorem home_put (k : ℕ) (h : k + 3 < 12) (Φ : Fin 12 → sProp 𝕄) :
    bigSep (Ring.homeSet 3 (k + 1)) Φ = iprop(Φ (Ring.bk 12 k) ∗ bigSep ((Ring.homeSet 3 k).erase (Ring.bk 12 (k + 3))) Φ) := by
  rw [Ring.homeSet_succ 3 k h]; exact bigSep_insert (Ring.bk_not_mem_erase 3 k (by omega) (by decide))
theorem home_tail (k : ℕ) (h : 12 ≤ k + 3) (hk : k < 12) (Φ : Fin 12 → sProp 𝕄) :
    bigSep (Ring.homeSet 3 (k + 1)) Φ = iprop(Φ (Ring.bk 12 k) ∗ bigSep (Ring.homeSet 3 k) Φ) := by
  rw [Ring.homeSet_succ_tail 3 k h hk]; exact bigSep_insert (Ring.bk_not_mem_homeSet 3 k hk (by decide))
theorem ahead_take (k : ℕ) (hk : k < 12) (Φ : Fin 12 → sProp 𝕄) :
    bigSep (Ring.aheadSet k) Φ = iprop(Φ (Ring.bk 12 k) ∗ bigSep (Ring.aheadSet (k + 1)) Φ) := by
  rw [Ring.aheadSet_open k hk]; exact bigSep_insert (Ring.bk_not_mem_aheadSet_succ k hk)
theorem behind_put (k : ℕ) (h6 : 6 ≤ k) (hk : k < 12) (Φ : Fin 12 → sProp 𝕄) :
    bigSep (Ring.behindSet 6 (k + 1)) Φ = iprop(Φ (Ring.bk 12 (k - 6)) ∗ bigSep (Ring.behindSet 6 k) Φ) := by
  rw [Ring.behindSet_close 6 k h6 hk]; exact bigSep_insert (Ring.bk_not_mem_behindSet 6 k h6 hk)

set_option warn.classDefReducibility false in
set_option maxHeartbeats 4000000 in
/-- The loop's invariant. -/
def loopInv (v300 : FVec F S128x128 .f32) :
    LoopInvTy_k0_t1 (F := F) Unit ℕ (UU nD τ) ℕ 𝒱₀ c none Set.univ (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 v300 where
  inv k _ := invAt c X fdb fdbt fxs fwr fd0 k
  step k _ := by
    have hk := trip_lt k
    unfold invAt
    by_cases h3 : k.val + 3 < 12
    · by_cases h6 : k.val < 6
      · rw [dwrAcc_succ, home_take k.val h3, ahead_take k.val hk, XR_lt c X k.val hk, OR_lt c X fdb fdbt fxs fwr k.val h6]
        iintro ⟨Hdb, Hdbt, Hxs, Hwr, Hd, ⟨Hx, Hh⟩, ⟨%f0, HX0⟩, HX1, HX2, ⟨⟨%fo, Ho⟩, Ha⟩, Hb, ⟨⟨%f1, HO0⟩, HOc⟩, HO1, HO2, HO3, HO4, HO5, %W, HW⟩
        iapply (wp_wand_r Idealize.ShloMosaic.frame (wpE (defs₀ (F := F)) 𝒱₀ (c : Thread nD τ) none) Set.univ)
        isplitl [Hdb Hdbt Hxs Hwr Hd HX0 HO0 HOc Ho Hx HW]
        · iapply (trip1 c X fdb fdbt fxs fwr v300 k h6 h3 _ f0 f1 fo W)
          iframe
        · iintro %_ ⟨Hdb, Hdbt, Hxs, Hwr, ⟨%fd', Hd, %hd⟩, HO, Hx, HX, HW⟩
          subst hd
          rw [home_put k.val h3, show Ring.behindSet (NB := 12) 6 (k.val + 1) = Ring.behindSet 6 k.val from by
            rw [Ring.behindSet_boot 6 _ (by omega), Ring.behindSet_boot 6 _ (by omega)]]
          rw [show k.val + 1 + 2 = k.val + 3 from rfl, XR_lt c X (k.val + 3) h3, Ring.sl_add 3 k.val, show k.val + 1 + 5 = k.val + 6 from rfl, OR_next]
          iframe
      · have h6 : 6 ≤ k.val := by omega
        rw [dwrAcc_succ, home_take k.val h3, ahead_take k.val hk, XR_lt c X k.val hk, OR_ge c X fdb fdbt fxs fwr k.val h6]
        iintro ⟨Hdb, Hdbt, Hxs, Hwr, Hd, ⟨Hx, Hh⟩, ⟨%f0, HX0⟩, HX1, HX2, ⟨⟨%fo, Ho⟩, Ha⟩, Hb, HO0, HO1, HO2, HO3, HO4, HO5, %W, HW⟩
        iapply (wp_wand_r Idealize.ShloMosaic.frame (wpE (defs₀ (F := F)) 𝒱₀ (c : Thread nD τ) none) Set.univ)
        isplitl [Hdb Hdbt Hxs Hwr Hd HX0 HO0 Ho Hx HW]
        · iapply (trip2 c X fdb fdbt fxs fwr v300 k h6 h3 _ f0 _ fo W)
          iframe
        · iintro %_ ⟨Hdb, Hdbt, Hxs, Hwr, ⟨%fd', Hd, %hd⟩, HO, Hx, HL, HX, HW⟩
          subst hd
          rw [home_put k.val h3, behind_put k.val h6 hk]
          rw [show k.val + 1 + 2 = k.val + 3 from rfl, XR_lt c X (k.val + 3) h3, Ring.sl_add 3 k.val, show k.val + 1 + 5 = k.val + 6 from rfl, OR_next]
          iframe
    · have h3' : 12 ≤ k.val + 3 := by omega
      have h6 : 6 ≤ k.val := by omega
      rw [dwrAcc_succ, ahead_take k.val hk, XR_lt c X k.val hk, OR_ge c X fdb fdbt fxs fwr k.val h6]
      iintro ⟨Hdb, Hdbt, Hxs, Hwr, Hd, Hh, ⟨%f0, HX0⟩, HX1, HX2, ⟨⟨%fo, Ho⟩, Ha⟩, Hb, HO0, HO1, HO2, HO3, HO4, HO5, %W, HW⟩
      iapply (wp_wand_r Idealize.ShloMosaic.frame (wpE (defs₀ (F := F)) 𝒱₀ (c : Thread nD τ) none) Set.univ)
      isplitl [Hdb Hdbt Hxs Hwr Hd HX0 HO0 Ho HW]
      · iapply (trip3 c X fdb fdbt fxs fwr v300 k h6 h3' _ f0 _ fo W)
        iframe
      · iintro %_ ⟨Hdb, Hdbt, Hxs, Hwr, ⟨%fd', Hd, %hd⟩, HO, Hx, HL, HX, HXc, HW⟩
        subst hd
        rw [home_tail k.val h3' hk, behind_put k.val h6 hk]
        rw [show k.val + 1 + 2 = k.val + 3 from rfl, XR_ge c X (k.val + 3) h3', Ring.sl_add 3 k.val, show k.val + 1 + 5 = k.val + 6 from rfl, OR_next]
        iframe

end Loop

end Cert.Proof.Ideal

end
-- ==== Proof.Head.lean ====
/-
  What the kernel computes before its loop: the gradient of the router's logits, and the two arrangements of it that the
  products read.
-/
module

public import proofs.«01_k».proof.Proof.Tile
public import Idealize.ShloMosaic.Lib.PointwiseCore

@[expose] public section

noncomputable section

namespace Cert.Proof.Ideal

open Cert.KernelIdeal Cert.KernelIdeal.Gen
open Idealize.ShloMosaic
open Idealize.ShloMosaic.TcCoe Idealize.ShloMosaic.Tactic

variable {F : FTy → Type} [FloatOps F]

abbrev dwM : Memref sig .tc .hbm S2x1536 .f32 := Memref.whole main_v3
abbrev idsM : Memref sig .tc .hbm S2x1536 .i32 := Memref.whole main_v4
abbrev lgM : Memref sig .tc .hbm S8x1536 .f32 := Memref.whole main_v5
abbrev xscM : Memref sig .tc .hbm S12x128 .f32 := Memref.whole main_v6
abbrev wr16M : Memref sig .tc .hbm S16x6144 .bf16 := Memref.whole main_v2
abbrev fM : Memref sig .tc .hbm S8 .f32 := Memref.whole main_arg6
abbrev auxM : Memref sig .tc .hbm S1 .f32 := Memref.whole main_arg7
abbrev dwrOutM : Memref sig .tc .hbm S8x6144 .f32 := Memref.whole main_v7_1
abbrev dlOutM : Memref sig .tc .hbm S8x1536 .f32 := Memref.whole main_v7_2
abbrev fsM : Memref sig .tc .smem S8 .f32 := Memref.whole cc0_scratch0
abbrev auxsM : Memref sig .tc .smem S1 .f32 := Memref.whole cc0_scratch1
abbrev idsvM : Memref sig .tc .vmem S2x1536 .i32 := Memref.whole cc0_scratch2
abbrev lgvM : Memref sig .tc .vmem S8x1536 .f32 := Memref.whole cc0_scratch3
abbrev dlvM : Memref sig .tc .vmem S8x1536 .f32 := Memref.whole cc0_scratch7
abbrev dwvM : Memref sig .tc .vmem S2x1536 .f32 := Memref.whole cc0_scratch8

/-! ## The gradient of the logits -/

/-- The number of the expert in each row. -/
abbrev expertI : IVec S8x1536 32 := iota .tc S8x1536 32 [0] iota_S8x1536_d0_w32

/-- The gradient of the logits, from the logits, the two rows of weight gradients, the two rows of chosen experts, the
    experts' frequencies and the factor of the balancing loss. -/
def dlK (lg : Vec F S8x1536 .f32) (d0 d1 : Vec F S1x1536 .f32) (i0 i1 : Vec F S1x1536 .i32) (f0 f1 f2 f3 f4 f5 f6 f7 aux : Elt F .f32) : FVec F S8x1536 .f32 :=
  k0_pay88 (k0_pay82 lg)
    (k0_pay86 expertI (k0_pay83 (k0_pay82 lg) expertI d0 d1 i0 i1) (k0_pay84 expertI f0) (k0_pay85 expertI) f1 f2 f3 f4 f5 f6 f7 aux)
    (k0_pay87 (k0_pay82 lg) expertI (k0_pay83 (k0_pay82 lg) expertI d0 d1 i0 i1) (k0_pay84 expertI f0) (k0_pay85 expertI) f1 f2 f3 f4 f5 f6 f7 aux)

theorem dlK_congr {lg lg' : Vec F S8x1536 .f32} {d0 d0' d1 d1' : Vec F S1x1536 .f32} {i0 i0' i1 i1' : Vec F S1x1536 .i32}
    {f0 f0' f1 f1' f2 f2' f3 f3' f4 f4' f5 f5' f6 f6' f7 f7' aux aux' : Elt F .f32}
    (hl : lg = lg') (h0 : d0 = d0') (h1 : d1 = d1') (j0 : i0 = i0') (j1 : i1 = i1') (e0 : f0 = f0') (e1 : f1 = f1') (e2 : f2 = f2') (e3 : f3 = f3')
    (e4 : f4 = f4') (e5 : f5 = f5') (e6 : f6 = f6') (e7 : f7 = f7') (ea : aux = aux') :
    dlK lg d0 d1 i0 i1 f0 f1 f2 f3 f4 f5 f6 f7 aux = dlK lg' d0' d1' i0' i1' f0' f1' f2' f3' f4' f5' f6' f7' aux' := by
  subst hl h0 h1 j0 j1 e0 e1 e2 e3 e4 e5 e6 e7 ea; rfl

section Contents
variable (Vdw : dwM.view.ty.Contents (Elt F)) (Vids : idsM.view.ty.Contents (Elt F)) (Vlg : lgM.view.ty.Contents (Elt F))
  (Vf : fM.view.ty.Contents (Elt F)) (Vaux : auxM.view.ty.Contents (Elt F))

/-- The gradient of the logits, from the buffers' contents. -/
def dlV : FVec F S8x1536 .f32 :=
  dlK (fun j => Vlg j) (fun j => Vdw (ix2 (n0 := 2) (n1 := 1536) 0 (j 1))) (fun j => Vdw (ix2 (n0 := 2) (n1 := 1536) 1 (j 1)))
    (fun j => Vids (ix2 (n0 := 2) (n1 := 1536) 0 (j 1))) (fun j => Vids (ix2 (n0 := 2) (n1 := 1536) 1 (j 1)))
    (Vf (ix1 (n0 := 8) 0)) (Vf (ix1 (n0 := 8) 1)) (Vf (ix1 (n0 := 8) 2)) (Vf (ix1 (n0 := 8) 3)) (Vf (ix1 (n0 := 8) 4)) (Vf (ix1 (n0 := 8) 5))
    (Vf (ix1 (n0 := 8) 6)) (Vf (ix1 (n0 := 8) 7)) (Vaux (ix1 (n0 := 1) 0))
end Contents

/-! ## Reading what a copy left -/

/-- A load from a buffer just filled by a copy reads the copied contents. -/
theorem readAt_landed {sp : Space} {s : Shape} {e : EltTy} (v : View sig .tc sp s e) (f : v.ty.Contents (Elt F)) (w : s.Idx → Elt F e) (r : LoadRect s) :
    v.readAt (Elt F) r (v.writes (Elt F) f [⟨Rect.whole s, w⟩]) = fun j => w (r.idx j) := by
  funext j
  exact congrFun (read_writes_whole v f w) (r.idx j)

theorem row_idx (r : Fin 2) {off : Fin 2 → ℕ} (inb : ∀ a, off a + S1x1536.size a ≤ S2x1536.size a) (hoff : off = ![r.val, 0]) (j : S1x1536.Idx) :
    (Rect.unit (s := S2x1536) off S1x1536.size inb).toLoadRect.idx j = ix2 (n0 := 2) (n1 := 1536) r (j 1) := by
  subst hoff
  have h0 : (j 0).val < 1 := (j 0).isLt
  refine funext fun i => Fin.ext ?_
  match i with
  | ⟨0, _⟩ => show r.val + 1 * (j 0).val = r.val; omega
  | ⟨1, _⟩ => show 0 + 1 * (j 1).val = (j 1).val; omega

theorem all_idx {off : Fin 2 → ℕ} (inb : ∀ a, off a + S8x1536.size a ≤ S8x1536.size a) (hoff : off = ![0, 0]) (j : S8x1536.Idx) :
    (Rect.unit (s := S8x1536) off S8x1536.size inb).toLoadRect.idx j = j := by
  subst hoff
  refine funext fun i => Fin.ext ?_
  match i with
  | ⟨0, _⟩ => show 0 + 1 * (j 0).val = (j 0).val; omega
  | ⟨1, _⟩ => show 0 + 1 * (j 1).val = (j 1).val; omega

theorem cell_idx {n : ℕ} (k : Fin n) {off : Fin 1 → ℕ} (inb : ∀ a, off a + S1.size a ≤ (⟨1, ![n]⟩ : Shape).size a) (hoff : off = ![k.val]) (j : S1.Idx) :
    (Rect.unit (s := ⟨1, ![n]⟩) off S1.size inb).toLoadRect.idx j = ix1 (n0 := n) k := by
  subst hoff
  have h0 : (j 0).val < 1 := (j 0).isLt
  refine funext fun i => Fin.ext ?_
  match i with
  | ⟨0, _⟩ => show k.val + 1 * (j 0).val = k.val; omega

theorem row_landed {sp : Space} {e : EltTy} (v : View sig .tc sp S2x1536 e) (w : S2x1536.Idx → Elt F e) (r : ℕ) (hr : r < 2)
    (inb : ∀ a, (![r, 0] : Fin 2 → ℕ) a + S1x1536.size a ≤ S2x1536.size a) :
    v.readCov [⟨Rect.whole S2x1536, w⟩] (Rect.unit (s := S2x1536) ![r, 0] S1x1536.size inb).toLoadRect
      = fun j => w (ix2 (n0 := 2) (n1 := 1536) ⟨r, hr⟩ (j 1)) :=
  (readAt_landed v v.junk w (Rect.unit (s := S2x1536) ![r, 0] S1x1536.size inb).toLoadRect).trans (funext fun j => congrArg w (row_idx ⟨r, hr⟩ inb rfl j))

theorem all_landed {sp : Space} {e : EltTy} (v : View sig .tc sp S8x1536 e) (w : S8x1536.Idx → Elt F e)
    (inb : ∀ a, (![0, 0] : Fin 2 → ℕ) a + S8x1536.size a ≤ S8x1536.size a) :
    v.readCov [⟨Rect.whole S8x1536, w⟩] (Rect.unit (s := S8x1536) ![0, 0] S8x1536.size inb).toLoadRect = fun j => w j :=
  (readAt_landed v v.junk w (Rect.unit (s := S8x1536) ![0, 0] S8x1536.size inb).toLoadRect).trans (funext fun j => congrArg w (all_idx inb rfl j))

theorem cell_landed {sp : Space} {e : EltTy} {n : ℕ} (v : View sig .tc sp ⟨1, ![n]⟩ e) (w : (⟨1, ![n]⟩ : Shape).Idx → Elt F e) (k : ℕ) (hk : k < n)
    (inb : ∀ a, (![k] : Fin 1 → ℕ) a + S1.size a ≤ (⟨1, ![n]⟩ : Shape).size a) (j : S1.Idx) :
    v.readCov [⟨Rect.whole ⟨1, ![n]⟩, w⟩] (Rect.unit (s := ⟨1, ![n]⟩) ![k] S1.size inb).toLoadRect j = w (ix1 (n0 := n) ⟨k, hk⟩) :=
  (congrFun (readAt_landed v v.junk w (Rect.unit (s := ⟨1, ![n]⟩) ![k] S1.size inb).toLoadRect) j).trans (congrArg w (cell_idx ⟨k, hk⟩ inb rfl j))

/-! ## The two arrangements -/

section Arr
variable (dl : FVec F S8x1536 .f32)

/-- Sixteen-bit gradient of expert `n`'s logit at token `t`, zero past the eight experts. -/
def dbEl (n : ℕ) (t : Fin 1536) : Elt F .bf16 :=
  FloatOps.truncf .bf16 bitsLt_bf16_f32 (if h : n < 8 then dl (ix2 (n0 := 8) (n1 := 1536) ⟨n, h⟩ t) else Scalar.ofBits .f32 0x00000000#32)

/-- The arrangement by tokens. -/
def dbC : dbM.view.ty.Contents (Elt F) := fun j : S1536x128.Idx => dbEl dl (j 1).val (j 0)
/-- The arrangement by experts. -/
def dbtC : dbtM.view.ty.Contents (Elt F) := fun j : S16x1536.Idx => dbEl dl (j 0).val (j 1)
/-- The accumulator at zero. -/
def dwrC : dwrM.view.ty.Contents (Elt F) := fun _ : S8x6144.Idx => Scalar.ofBits .f32 0x00000000#32

/-- Eight rows of 128 columns of the gradient, padded with zeros. -/
def padC (off : Fin 2 → ℕ) (hs : S8x1536.Slices off S8x128) : FVec F S128x128 .f32 :=
  concatenate S128x128 0 [⟨S8x128, extractStridedSlice S8x128 off dl hs⟩, ⟨S120x128, broadcast S120x128 (Scalar.ofBits (F := F) .f32 0x00000000#32)⟩] concatenates_S8x128_S120x128_S128x128_d0
def dbTile (off : Fin 2 → ℕ) (hs : S8x1536.Slices off S8x128) : FVec F S128x128 .bf16 :=
  shapeCast S128x128 (truncf .bf16 (transpose S128x128 [1, 0] (padC dl off hs) transposes_S128x128_p1_0_S128x128) bitsLt_bf16_f32) shapeCasts_S128x128_S128x128
def dbtTile (off : Fin 2 → ℕ) (hs : S8x1536.Slices off S8x128) : FVec F S16x128 .bf16 :=
  shapeCast S16x128 (truncf .bf16 (extractStridedSlice S16x128 ![0, 0] (padC dl off hs) slices_S128x128_o0_0_S16x128) bitsLt_bf16_f32) shapeCasts_S16x128_S16x128

theorem padC_apply (N : ℕ) (hN : N < 12) (hs : S8x1536.Slices ![0, 128 * N] S8x128) (a b : Fin 128) :
    padC dl ![0, 128 * N] hs (ix2 a b)
      = if h : a.val < 8 then dl (ix2 (n0 := 8) (n1 := 1536) ⟨a.val, h⟩ ⟨128 * N + b.val, by omega⟩) else Scalar.ofBits .f32 0x00000000#32 := by
  unfold padC
  pointwise

theorem dbTile_apply (N : ℕ) (hN : N < 12) (hs : S8x1536.Slices ![0, 128 * N] S8x128) (a b : Fin 128) :
    dbTile dl ![0, 128 * N] hs (ix2 a b) = dbEl dl b.val ⟨128 * N + a.val, by omega⟩ := by
  unfold dbTile dbEl
  rw [← padC_apply dl N hN hs b a]
  pointwise

theorem dbtTile_apply (N : ℕ) (hN : N < 12) (hs : S8x1536.Slices ![0, 128 * N] S8x128) (a : Fin 16) (b : Fin 128) :
    dbtTile dl ![0, 128 * N] hs (ix2 a b) = dbEl dl a.val ⟨128 * N + b.val, by omega⟩ := by
  unfold dbtTile dbEl
  rw [← padC_apply dl N hN hs ⟨a.val, by omega⟩ b]
  pointwise

/-- The first `N` blocks of 128 tokens are in place. -/
def dbReady (N : ℕ) (g : dbM.view.ty.Contents (Elt F)) : Prop :=
  ∀ (t : Fin 1536) (n : Fin 128), t.val < 128 * N → dbM.view.read (Elt F) g (ix2 t n) = dbEl dl n.val t
def dbtReady (N : ℕ) (g : dbtM.view.ty.Contents (Elt F)) : Prop :=
  ∀ (n : Fin 16) (t : Fin 1536), t.val < 128 * N → dbtM.view.read (Elt F) g (ix2 n t) = dbEl dl n.val t

theorem dbReady_step (N : ℕ) (hN : N < 12) (g : dbM.view.ty.Contents (Elt F)) (L : List ((r : Rect S1536x128) × (r.shape.Idx → Elt F .bf16)))
    {off offs : Fin 2 → ℕ} (inb : ∀ a, off a + S128x128.size a ≤ S1536x128.size a) (hs : S8x1536.Slices offs S8x128)
    (w : (Rect.unit (s := S1536x128) off S128x128.size inb).shape.Idx → Elt F .bf16)
    (hoff : off = ![128 * N, 0]) (hoffs : offs = ![0, 128 * N]) (hw : w = dbTile dl offs hs)
    (ih : dbReady dl N (dbM.view.writes (Elt F) g L)) :
    dbReady dl (N + 1) (dbM.view.writes (Elt F) g (⟨Rect.unit (s := S1536x128) off S128x128.size inb, w⟩ :: L)) := by
  intro t n ht
  by_cases h : t.val < 128 * N
  · exact (View.read_writes_cons_unit_of_not_mem dbM.view g inb w L (ix2 t n) hoff 0 (Or.inl h)).trans (ih t n h)
  · refine (View.read_writes_cons_unit_of_mem dbM.view g inb w L (ix2 t n) (ix2 (n0 := 128) (n1 := 128) ⟨t.val - 128 * N, by omega⟩ n) hoff ?_).trans ?_
    · intro i
      match i with
      | ⟨0, _⟩ => show t.val = 128 * N + (t.val - 128 * N); omega
      | ⟨1, _⟩ => show n.val = 0 + n.val; omega
    · subst hoffs
      rw [hw]
      refine (dbTile_apply dl N hN hs _ _).trans ?_
      exact congrArg (dbEl dl n.val) (Fin.ext (by show 128 * N + (t.val - 128 * N) = t.val; omega))

theorem dbtReady_step (N : ℕ) (hN : N < 12) (g : dbtM.view.ty.Contents (Elt F)) (L : List ((r : Rect S16x1536) × (r.shape.Idx → Elt F .bf16)))
    {off offs : Fin 2 → ℕ} (inb : ∀ a, off a + S16x128.size a ≤ S16x1536.size a) (hs : S8x1536.Slices offs S8x128)
    (w : (Rect.unit (s := S16x1536) off S16x128.size inb).shape.Idx → Elt F .bf16)
    (hoff : off = ![0, 128 * N]) (hoffs : offs = ![0, 128 * N]) (hw : w = dbtTile dl offs hs)
    (ih : dbtReady dl N (dbtM.view.writes (Elt F) g L)) :
    dbtReady dl (N + 1) (dbtM.view.writes (Elt F) g (⟨Rect.unit (s := S16x1536) off S16x128.size inb, w⟩ :: L)) := by
  intro n t ht
  by_cases h : t.val < 128 * N
  · exact (View.read_writes_cons_unit_of_not_mem dbtM.view g inb w L (ix2 n t) hoff 1 (Or.inl h)).trans (ih n t h)
  · refine (View.read_writes_cons_unit_of_mem dbtM.view g inb w L (ix2 n t) (ix2 (n0 := 16) (n1 := 128) n ⟨t.val - 128 * N, by omega⟩) hoff ?_).trans ?_
    · intro i
      match i with
      | ⟨0, _⟩ => show n.val = 0 + n.val; omega
      | ⟨1, _⟩ => show t.val = 128 * N + (t.val - 128 * N); omega
    · subst hoffs
      rw [hw]
      refine (dbtTile_apply dl N hN hs _ _).trans ?_
      exact congrArg (dbEl dl n.val) (Fin.ext (by show 128 * N + (t.val - 128 * N) = t.val; omega))

theorem dbReady_zero (g) : dbReady dl 0 g := fun t n h => absurd h (by omega)
theorem dbtReady_zero (g) : dbtReady dl 0 g := fun t n h => absurd h (by omega)

theorem dbReady_done (g) (h : dbReady dl 12 g) : g = dbC dl := by
  funext (j : S1536x128.Idx)
  have h1 := h (j 0) (j 1) (by have : (j 0).val < 1536 := (j 0).isLt; omega)
  rw [← eq_ix2 j] at h1
  exact h1
theorem dbtReady_done (g) (h : dbtReady dl 12 g) : g = dbtC dl := by
  funext (j : S16x1536.Idx)
  have h1 := h (j 0) (j 1) (by have : (j 1).val < 1536 := (j 1).isLt; omega)
  rw [← eq_ix2 j] at h1
  exact h1

theorem dwr_done (G : dwrM.view.ty.Contents (Elt F)) (h : ∀ (n : Fin 8) (d : Fin 6144), dwrM.view.read (Elt F) G (ix2 n d) = Scalar.ofBits .f32 0x00000000#32) :
    G = dwrC := by
  funext (j : S8x6144.Idx)
  have h1 := h (j 0) (j 1)
  rw [← eq_ix2 j] at h1
  exact h1

theorem dwr_zero_at (g : dwrM.view.ty.Contents (Elt F)) {off : Fin 2 → ℕ} (inb : ∀ a, off a + S8x6144.size a ≤ S8x6144.size a) (hoff : off = ![0, 0])
    (w : (Rect.unit (s := S8x6144) off S8x6144.size inb).shape.Idx → Elt F .f32) (hw : w = k0_pay126) (n : Fin 8) (d : Fin 6144) :
    dwrM.view.read (Elt F) (dwrM.view.writes (Elt F) g [⟨Rect.unit (s := S8x6144) off S8x6144.size inb, w⟩]) (ix2 n d) = Scalar.ofBits .f32 0x00000000#32 := by
  refine (View.read_writes_cons_unit_of_mem dwrM.view g inb w [] (ix2 n d) (ix2 (n0 := 8) (n1 := 6144) n d) hoff ?_).trans ?_
  · intro i
    match i with
    | ⟨0, _⟩ => show n.val = 0 + n.val; omega
    | ⟨1, _⟩ => show d.val = 0 + d.val; omega
  · rw [hw]; unfold k0_pay126; pointwise

theorem dwr_zero (g : dwrM.view.ty.Contents (Elt F)) {off : Fin 2 → ℕ} (inb : ∀ a, off a + S8x6144.size a ≤ S8x6144.size a) (hoff : off = ![0, 0])
    (w : (Rect.unit (s := S8x6144) off S8x6144.size inb).shape.Idx → Elt F .f32) (hw : w = k0_pay126) :
    dwrM.view.writes (Elt F) g [⟨Rect.unit (s := S8x6144) off S8x6144.size inb, w⟩] = dwrC := by
  exact dwr_done _ fun n d => dwr_zero_at g inb hoff w hw n d

theorem dlv_at (g : dlvM.view.ty.Contents (Elt F)) {off : Fin 2 → ℕ} (inb : ∀ a, off a + S8x1536.size a ≤ S8x1536.size a) (hoff : off = ![0, 0])
    (w : (Rect.unit (s := S8x1536) off S8x1536.size inb).shape.Idx → Elt F .f32) (hw : w = shapeCast S8x1536 dl shapeCasts_S8x1536_S8x1536) (n : Fin 8) (t : Fin 1536) :
    dlvM.view.read (Elt F) (dlvM.view.writes (Elt F) g [⟨Rect.unit (s := S8x1536) off S8x1536.size inb, w⟩]) (ix2 n t) = dl (ix2 n t) := by
  refine (View.read_writes_cons_unit_of_mem dlvM.view g inb w [] (ix2 n t) (ix2 (n0 := 8) (n1 := 1536) n t) hoff ?_).trans ?_
  · intro i
    match i with
    | ⟨0, _⟩ => show n.val = 0 + n.val; omega
    | ⟨1, _⟩ => show t.val = 0 + t.val; omega
  · rw [hw]; pointwise

theorem dlv_done (G : dlvM.view.ty.Contents (Elt F)) (h : ∀ (n : Fin 8) (t : Fin 1536), dlvM.view.read (Elt F) G (ix2 n t) = dl (ix2 n t)) :
    dlvM.view.read (Elt F) G = dl := by
  funext (j : S8x1536.Idx)
  have h1 := h (j 0) (j 1)
  rw [← eq_ix2 j] at h1
  exact h1

end Arr

end Cert.Proof.Ideal

end
-- ==== Proof.Body.lean ====
/-
  The body of the kernel.
-/
module

public import proofs.«01_k».proof.Proof.Loop
public import proofs.«01_k».proof.Proof.Head

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The kernel's body on its buffers. -/
abbrev bodyG : Prog (TpuEff nD τ sig (Elt F) Λ₀ .tc) PUnit := cc0_moe_combine_router_bwd (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15

/-! ## Around the loop -/

section Around
variable (c : Dev nD) (X : Buf (Elt F) (xM.view.loc (c : Thread nD τ)))
variable (fdb : Buf (Elt F) (dbM.view.loc (c : Thread nD τ))) (fdbt : Buf (Elt F) (dbtM.view.loc (c : Thread nD τ)))
  (fxs : Buf (Elt F) (xsM.view.loc (c : Thread nD τ))) (fwr : Buf (Elt F) (wrM.view.loc (c : Thread nD τ)))

theorem whole_eq {sp : Space} {s : Shape} {t : EltTy} (M : Memref sig .tc sp s t) {f g : Buf (Elt F) (M.view.loc (c : Thread nD τ))} (h : f = g) :
    wholeP c M f ⊢ wholeP c M g := by subst h; exact .rfl

theorem slot3_lit (p : ℕ) (s : Fin 3) (h : p % 3 = s.val) : Ring.sl 3 p = s := Fin.ext h
theorem slot6_lit (p : ℕ) (s : Fin 6) (h : p % 6 = s.val) : Ring.sl 6 p = s := Fin.ext h
theorem blk_lit (p : ℕ) (b : Fin 12) (h : p % 12 = b.val) : Ring.bk 12 p = b := Fin.ext h

theorem XR_start (p : ℕ) (s : Fin 3) (b : Fin 12) (hp : p < 12) (hs : p % 3 = s.val) (hb : p % 12 = b.val) (f) :
    xflightP c X s b f ⊢ XR c X p := by
  rw [XR_lt c X p hp, slot3_lit p s hs, blk_lit p b hb]; iintro H; iexists f; iexact H
theorem XR_end (p : ℕ) (s : Fin 3) (hp : 12 ≤ p) (hs : p % 3 = s.val) :
    XR c X p ⊢ iprop((∃ f, xslotP (F := F) c s f) ∗ xcellP c s) := by
  rw [XR_ge c X p hp, slot3_lit p s hs]
theorem OR_start (p : ℕ) (s : Fin 6) (hp : p < 6) (hs : p % 6 = s.val) :
    iprop((∃ f, oslotP (F := F) c s f) ∗ ocellP c s) ⊢ OR c X fdb fdbt fxs fwr p := by
  rw [OR_lt c X fdb fdbt fxs fwr p hp, slot6_lit p s hs]
theorem OR_end (p : ℕ) (s : Fin 6) (b : Fin 12) (hp : 6 ≤ p) (hs : p % 6 = s.val) (hb : (p - 6) % 12 = b.val) :
    OR c X fdb fdbt fxs fwr p ⊢ oflightP c s b (dxB c X fdb fdbt fxs fwr b) := by
  rw [OR_ge c X fdb fdbt fxs fwr p hp, slot6_lit p s hs, blk_lit (p - 6) b hb]

theorem behind_all (Φ : Fin 12 → sProp 𝕄) :
    iprop(Φ 6 ∗ Φ 7 ∗ Φ 8 ∗ Φ 9 ∗ Φ 10 ∗ Φ 11 ∗ bigSep (Ring.behindSet 6 12) Φ) ⊢ bigSep Finset.univ Φ := by
  have e : (Finset.univ : Finset (Fin 12)) = insert 6 (insert 7 (insert 8 (insert 9 (insert 10 (insert 11 (Ring.behindSet 6 12)))))) := by decide
  rw [e, bigSep_insert (by decide), bigSep_insert (by decide), bigSep_insert (by decide), bigSep_insert (by decide), bigSep_insert (by decide), bigSep_insert (by decide)]
  exact .rfl

theorem loop_rule (v300 : FVec F S128x128 .f32) (fd0 : Buf (Elt F) (dwrM.view.loc (c : Thread nD τ))) {β : Type} {kk : Unit → Prog (TpuEff nD τ sig (Elt F) Λ₀ .tc) β} {Q : β → sProp 𝕄} :
    invAt c X fdb fdbt fxs fwr fd0 0 ⊢ iprop((∀ acc, invAt c X fdb fdbt fxs fwr fd0 k0_t1_loop.trips -∗ wp frame (wpE (defs₀ (F := F)) 𝒱₀ (c : Thread nD τ) none) Set.univ (kk acc) Q)
      -∗ wp frame (wpE (defs₀ (F := F)) 𝒱₀ (c : Thread nD τ) none) Set.univ (Scf.for k0_t1_loop.lb k0_t1_loop.ub k0_t1_loop.st k0_t1_ok () (fun k a => k0_t1_body (F := F) (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 v300 k a) >>= kk) Q) :=
  exec_loop frame (wpE (defs₀ (F := F)) 𝒱₀ (c : Thread nD τ) none) Set.univ _ _ _ _ _ _ (loopInv c X fdb fdbt fxs fwr fd0 v300)

theorem home_last (Φ : Fin 12 → sProp 𝕄) : bigSep (Ring.homeSet 3 12) Φ = bigSep Finset.univ Φ := by
  rw [Ring.homeSet_last 3 12 (by decide)]

theorem inv_exit (fd0 : Buf (Elt F) (dwrM.view.loc (c : Thread nD τ))) :
    invAt c X fdb fdbt fxs fwr fd0 k0_t1_loop.trips ⊢
      iprop(wholeP c dbM fdb ∗ wholeP c dbtM fdbt ∗ wholeP c xsM fxs ∗ wholeP c wrM fwr
        ∗ wholeP c dwrM (dwrAcc c X fdb fdbt fxs fwr fd0 12) ∗ bigSep Finset.univ (homeF c X)
        ∗ ((∃ f, xslotP (F := F) c 0 f) ∗ xcellP c 0) ∗ ((∃ f, xslotP (F := F) c 1 f) ∗ xcellP c 1) ∗ ((∃ f, xslotP (F := F) c 2 f) ∗ xcellP c 2)
        ∗ bigSep (Ring.behindSet 6 12) (behindF c X fdb fdbt fxs fwr)
        ∗ oflightP c 0 6 (dxB c X fdb fdbt fxs fwr 6) ∗ oflightP c 1 7 (dxB c X fdb fdbt fxs fwr 7) ∗ oflightP c 2 8 (dxB c X fdb fdbt fxs fwr 8) ∗ oflightP c 3 9 (dxB c X fdb fdbt fxs fwr 9) ∗ oflightP c 4 10 (dxB c X fdb fdbt fxs fwr 10) ∗ oflightP c 5 11 (dxB c X fdb fdbt fxs fwr 11)
        ∗ ∃ W, owes (c : Thread nD τ) 0 W) := by
  rw [trips_eq]; unfold invAt; rw [home_last]
  iintro ⟨Hdb, Hdbt, Hxs, Hwr, Hd, Hh, HX0, HX1, HX2, Ha, Hb, HO0, HO1, HO2, HO3, HO4, HO5, HW⟩
  iclear Ha
  isplitl [Hdb]; · iexact Hdb
  isplitl [Hdbt]; · iexact Hdbt
  isplitl [Hxs]; · iexact Hxs
  isplitl [Hwr]; · iexact Hwr
  isplitl [Hd]; · iexact Hd
  isplitl [Hh]; · iexact Hh
  isplitl [HX0]; · iapply (XR_end c X 12 0 (by decide) rfl); iexact HX0
  isplitl [HX1]; · iapply (XR_end c X 13 1 (by decide) rfl); iexact HX1
  isplitl [HX2]; · iapply (XR_end c X 14 2 (by decide) rfl); iexact HX2
  isplitl [Hb]; · iexact Hb
  isplitl [HO0]; · iapply (OR_end c X fdb fdbt fxs fwr 12 0 6 (by decide) rfl rfl); iexact HO0
  isplitl [HO1]; · iapply (OR_end c X fdb fdbt fxs fwr 13 1 7 (by decide) rfl rfl); iexact HO1
  isplitl [HO2]; · iapply (OR_end c X fdb fdbt fxs fwr 14 2 8 (by decide) rfl rfl); iexact HO2
  isplitl [HO3]; · iapply (OR_end c X fdb fdbt fxs fwr 15 3 9 (by decide) rfl rfl); iexact HO3
  isplitl [HO4]; · iapply (OR_end c X fdb fdbt fxs fwr 16 4 10 (by decide) rfl rfl); iexact HO4
  isplitl [HO5]; · iapply (OR_end c X fdb fdbt fxs fwr 17 5 11 (by decide) rfl rfl); iexact HO5
  iexact HW

theorem landed_mk (b : Fin 12) (fo : Buf (Elt F) ((oblk b).view.loc (c : Thread nD τ))) (v' v : S128x6144.Idx → Elt F .bf16) (h : v' = v) :
    oblkP c b ((oblk b).view.writes (Elt F) fo [⟨Rect.whole S128x6144, v'⟩]) ⊢ landedP c b v := by
  unfold landedP
  iintro H; iexists fo; iexists v'; isplitl [H]; · iexact H
  ipureintro; exact h

/-- Whole contents written over a buffer are its contents. -/
theorem writes_whole {sp : Space} {s : Shape} {e : EltTy} (v : View sig .tc sp s e) (f : v.ty.Contents (Elt F)) (w : s.Idx → Elt F e) (g : v.ty.Contents (Elt F))
    (hv : ∀ f g : v.ty.Contents (Elt F), v.read (Elt F) f = v.read (Elt F) g → f = g) (hg : v.read (Elt F) g = w) :
    v.writes (Elt F) f [⟨Rect.whole s, w⟩] = g := hv _ _ ((read_writes_whole v f w).trans hg.symm)
end Around

section Body
variable (c : Dev nD)

set_option maxRecDepth 20000 in
set_option maxHeartbeats 20000000 in
theorem bodyRun (X) (Vdw Vids Vlg Vxsc Vwr Vf Vaux Vdwr Vdl) (gf gaux gids glg gxs gwr gdwr gdl gdw gdb gdbt g0 g1 g2) W :
   iprop(wholeP (F := F) c dwM Vdw ∗ wholeP c idsM Vids ∗ wholeP c lgM Vlg ∗ wholeP c xscM Vxsc ∗ wholeP c wr16M Vwr ∗ wholeP c fM Vf ∗ wholeP c auxM Vaux
     ∗ wholeP c dwrOutM Vdwr ∗ wholeP c dlOutM Vdl
     ∗ wholeP c fsM gf ∗ wholeP c auxsM gaux ∗ wholeP c idsvM gids ∗ wholeP c lgvM glg ∗ wholeP c xsM gxs ∗ wholeP c wrM gwr ∗ wholeP c dwrM gdwr ∗ wholeP c dlvM gdl
     ∗ wholeP c dwvM gdw ∗ wholeP c dbM gdb ∗ wholeP c dbtM gdbt
     ∗ xblkP c X 0 ∗ xblkP c X 1 ∗ xblkP c X 2 ∗ xslotP c 0 g0 ∗ xslotP c 1 g1 ∗ xslotP c 2 g2 ∗ xcellP c 0 ∗ xcellP c 1 ∗ xcellP c 2
     ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
     ∗ owes (c : Thread nD τ) 0 W
     ∗ bigSep (Ring.homeSet 3 0) (homeF c X) ∗ bigSep Finset.univ (aheadF (F := F) c)
     ∗ ((∃ f, oslotP (F := F) c 0 f) ∗ ocellP c 0) ∗ ((∃ f, oslotP (F := F) c 1 f) ∗ ocellP c 1) ∗ ((∃ f, oslotP (F := F) c 2 f) ∗ ocellP c 2) ∗ ((∃ f, oslotP (F := F) c 3 f) ∗ ocellP c 3) ∗ ((∃ f, oslotP (F := F) c 4 f) ∗ ocellP c 4) ∗ ((∃ f, oslotP (F := F) c 5 f) ∗ ocellP c 5))
   ⊢ wp frame (wpE (defs₀ (F := F)) 𝒱₀ (c : Thread nD τ) none) Set.univ bodyG (fun _ =>
     iprop(wholeP (F := F) c dwM Vdw ∗ wholeP c idsM Vids ∗ wholeP c lgM Vlg ∗ wholeP c xscM Vxsc ∗ wholeP c wr16M Vwr ∗ wholeP c fM Vf ∗ wholeP c auxM Vaux
     ∗ wholeP c dwrOutM (dwrAcc c X (dbC (dlV Vdw Vids Vlg Vf Vaux)) (dbtC (dlV Vdw Vids Vlg Vf Vaux)) Vxsc Vwr dwrC 12) ∗ wholeP c dlOutM (dlV Vdw Vids Vlg Vf Vaux)
     ∗ (∃ g, wholeP (F := F) c fsM g) ∗ (∃ g, wholeP (F := F) c auxsM g) ∗ (∃ g, wholeP (F := F) c idsvM g) ∗ (∃ g, wholeP (F := F) c lgvM g) ∗ (∃ g, wholeP (F := F) c xsM g) ∗ (∃ g, wholeP (F := F) c wrM g) ∗ (∃ g, wholeP (F := F) c dwrM g) ∗ (∃ g, wholeP (F := F) c dlvM g) ∗ (∃ g, wholeP (F := F) c dwvM g) ∗ (∃ g, wholeP (F := F) c dbM g) ∗ (∃ g, wholeP (F := F) c dbtM g)
     ∗ ((∃ f, xslotP (F := F) c 0 f) ∗ xcellP c 0) ∗ ((∃ f, xslotP (F := F) c 1 f) ∗ xcellP c 1) ∗ ((∃ f, xslotP (F := F) c 2 f) ∗ xcellP c 2)
     ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
     ∗ bigSep Finset.univ (homeF c X) ∗ bigSep Finset.univ (behindF c X (dbC (dlV Vdw Vids Vlg Vf Vaux)) (dbtC (dlV Vdw Vids Vlg Vf Vaux)) Vxsc Vwr)
     ∗ ((∃ f, oslotP (F := F) c 0 f) ∗ ocellP c 0) ∗ ((∃ f, oslotP (F := F) c 1 f) ∗ ocellP c 1) ∗ ((∃ f, oslotP (F := F) c 2 f) ∗ ocellP c 2) ∗ ((∃ f, oslotP (F := F) c 3 f) ∗ ocellP c 3) ∗ ((∃ f, oslotP (F := F) c 4 f) ∗ ocellP c 4) ∗ ((∃ f, oslotP (F := F) c 5 f) ∗ ocellP c 5)
     ∗ ∃ W', owes (c : Thread nD τ) 0 W')) := by
  iintro ⟨Hdw, Hids, Hlg, Hxsc, Hwr16, Hf, Haux, Hdwro, Hdlo, Hfs, Hauxs, Hidsv, Hlgv, Hxs, Hwr, Hd, Hdlv, Hdwv, Hdb, Hdbt, Hx0, Hx1, Hx2, Hs0, Hs1, Hs2, Hc0, Hc1, Hc2, Hm0, Hm1, Hm2, Hm3, Hm4, Hm5, Hm6, Hm7, Hm8, Hm9, HW, Hhome, Hahead, HO0, HO1, HO2, HO3, HO4, HO5⟩
  dsimp only [bodyG]
  sl_exec
  have hdl : bodyRun.sl.r_14 c Vdw Vids Vlg Vf Vaux = dlV Vdw Vids Vlg Vf Vaux := by
    refine dlK_congr ?_ ?_ ?_ ?_ ?_ ?_ ?_ ?_ ?_ ?_ ?_ ?_ ?_ ?_
    · unfold bodyRun.sl.v49; refine (all_landed (F := F) lgvM.view _ _).trans ?_; rfl
    · unfold bodyRun.sl.v60; refine (row_landed (F := F) dwvM.view _ 0 (by decide) _).trans ?_; rfl
    · unfold bodyRun.sl.v61; refine (row_landed (F := F) dwvM.view _ 1 (by decide) _).trans ?_; rfl
    · unfold bodyRun.sl.v62; refine (row_landed (F := F) idsvM.view _ 0 (by decide) _).trans ?_; rfl
    · unfold bodyRun.sl.v65; refine (row_landed (F := F) idsvM.view _ 1 (by decide) _).trans ?_; rfl
    · unfold bodyRun.sl.r_1 bodyRun.sl.f; refine (cell_landed (F := F) (n := 8) fsM.view _ 0 (by decide) _ _).trans ?_; rfl
    · unfold bodyRun.sl.r_4 bodyRun.sl.f_1; refine (cell_landed (F := F) (n := 8) fsM.view _ 1 (by decide) _ _).trans ?_; rfl
    · unfold bodyRun.sl.r_5 bodyRun.sl.f_2; refine (cell_landed (F := F) (n := 8) fsM.view _ 2 (by decide) _ _).trans ?_; rfl
    · unfold bodyRun.sl.r_6 bodyRun.sl.f_3; refine (cell_landed (F := F) (n := 8) fsM.view _ 3 (by decide) _ _).trans ?_; rfl
    · unfold bodyRun.sl.r_7 bodyRun.sl.f_4; refine (cell_landed (F := F) (n := 8) fsM.view _ 4 (by decide) _ _).trans ?_; rfl
    · unfold bodyRun.sl.r_8 bodyRun.sl.f_5; refine (cell_landed (F := F) (n := 8) fsM.view _ 5 (by decide) _ _).trans ?_; rfl
    · unfold bodyRun.sl.r_9 bodyRun.sl.f_6; refine (cell_landed (F := F) (n := 8) fsM.view _ 6 (by decide) _ _).trans ?_; rfl
    · unfold bodyRun.sl.r_10 bodyRun.sl.f_7; refine (cell_landed (F := F) (n := 8) fsM.view _ 7 (by decide) _ _).trans ?_; rfl
    · unfold bodyRun.sl.r_11 bodyRun.sl.f_8; refine (cell_landed (F := F) (n := 1) auxsM.view _ 0 (by decide) _ _).trans ?_; rfl
  have hdb : dbM.view.writes (Elt F) dbM.view.junk (bodyRun.sl.Hdb_12 c Vdw Vids Vlg Vf Vaux) = dbC (dlV Vdw Vids Vlg Vf Vaux) := by
    rw [← hdl]
    refine dbReady_done _ _ ?_
    refine dbReady_step _ 11 (by omega) _ _ _ slices_S8x1536_o0_1408_S8x128 _ rfl rfl rfl ?_
    refine dbReady_step _ 10 (by omega) _ _ _ slices_S8x1536_o0_1280_S8x128 _ rfl rfl rfl ?_
    refine dbReady_step _ 9 (by omega) _ _ _ slices_S8x1536_o0_1152_S8x128 _ rfl rfl rfl ?_
    refine dbReady_step _ 8 (by omega) _ _ _ slices_S8x1536_o0_1024_S8x128 _ rfl rfl rfl ?_
    refine dbReady_step _ 7 (by omega) _ _ _ slices_S8x1536_o0_896_S8x128 _ rfl rfl rfl ?_
    refine dbReady_step _ 6 (by omega) _ _ _ slices_S8x1536_o0_768_S8x128 _ rfl rfl rfl ?_
    refine dbReady_step _ 5 (by omega) _ _ _ slices_S8x1536_o0_640_S8x128 _ rfl rfl rfl ?_
    refine dbReady_step _ 4 (by omega) _ _ _ slices_S8x1536_o0_512_S8x128 _ rfl rfl rfl ?_
    refine dbReady_step _ 3 (by omega) _ _ _ slices_S8x1536_o0_384_S8x128 _ rfl rfl rfl ?_
    refine dbReady_step _ 2 (by omega) _ _ _ slices_S8x1536_o0_256_S8x128 _ rfl rfl rfl ?_
    refine dbReady_step _ 1 (by omega) _ _ _ slices_S8x1536_o0_128_S8x128 _ rfl rfl rfl ?_
    refine dbReady_step _ 0 (by omega) _ _ _ slices_S8x1536_o0_0_S8x128 _ rfl rfl rfl ?_
    exact dbReady_zero _ _
  have hdbt : dbtM.view.writes (Elt F) dbtM.view.junk (bodyRun.sl.Hdbt_12 c Vdw Vids Vlg Vf Vaux) = dbtC (dlV Vdw Vids Vlg Vf Vaux) := by
    rw [← hdl]
    refine dbtReady_done _ _ ?_
    refine dbtReady_step _ 11 (by omega) _ _ _ slices_S8x1536_o0_1408_S8x128 _ rfl rfl rfl ?_
    refine dbtReady_step _ 10 (by omega) _ _ _ slices_S8x1536_o0_1280_S8x128 _ rfl rfl rfl ?_
    refine dbtReady_step _ 9 (by omega) _ _ _ slices_S8x1536_o0_1152_S8x128 _ rfl rfl rfl ?_
    refine dbtReady_step _ 8 (by omega) _ _ _ slices_S8x1536_o0_1024_S8x128 _ rfl rfl rfl ?_
    refine dbtReady_step _ 7 (by omega) _ _ _ slices_S8x1536_o0_896_S8x128 _ rfl rfl rfl ?_
    refine dbtReady_step _ 6 (by omega) _ _ _ slices_S8x1536_o0_768_S8x128 _ rfl rfl rfl ?_
    refine dbtReady_step _ 5 (by omega) _ _ _ slices_S8x1536_o0_640_S8x128 _ rfl rfl rfl ?_
    refine dbtReady_step _ 4 (by omega) _ _ _ slices_S8x1536_o0_512_S8x128 _ rfl rfl rfl ?_
    refine dbtReady_step _ 3 (by omega) _ _ _ slices_S8x1536_o0_384_S8x128 _ rfl rfl rfl ?_
    refine dbtReady_step _ 2 (by omega) _ _ _ slices_S8x1536_o0_256_S8x128 _ rfl rfl rfl ?_
    refine dbtReady_step _ 1 (by omega) _ _ _ slices_S8x1536_o0_128_S8x128 _ rfl rfl rfl ?_
    refine dbtReady_step _ 0 (by omega) _ _ _ slices_S8x1536_o0_0_S8x128 _ rfl rfl rfl ?_
    exact dbtReady_zero _ _
  have hxs : xsM.view.writes (Elt F) xsM.view.junk [⟨Rect.whole S12x128, bodyRun.sl.dma0_5 c Vxsc⟩] = Vxsc := writes_whole xsM.view _ _ Vxsc (fun _ _ h => h) rfl
  have hwr : wrM.view.writes (Elt F) wrM.view.junk [⟨Rect.whole S16x6144, bodyRun.sl.dma0_6 c Vwr⟩] = Vwr := writes_whole wrM.view _ _ Vwr (fun _ _ h => h) rfl
  have hd : dwrM.view.writes (Elt F) dwrM.view.junk bodyRun.sl.Hd_1 = dwrC := dwr_zero _ _ rfl _ rfl
  ihave HI : invAt c X (dbC (dlV Vdw Vids Vlg Vf Vaux)) (dbtC (dlV Vdw Vids Vlg Vf Vaux)) Vxsc Vwr dwrC 0 $$ [Hdb Hdbt Hxs Hwr Hd Hhome Hc0 Hc1 Hc2 Hahead HO0 HO1 HO2 HO3 HO4 HO5 HW]
  · unfold invAt
    isplitl [Hdb]; · iapply (whole_eq c dbM hdb); iexact Hdb
    isplitl [Hdbt]; · iapply (whole_eq c dbtM hdbt); iexact Hdbt
    isplitl [Hxs]; · iapply (whole_eq c xsM hxs); iexact Hxs
    isplitl [Hwr]; · iapply (whole_eq c wrM hwr); iexact Hwr
    isplitl [Hd]; · iapply (whole_eq c dwrM hd); iexact Hd
    isplitl [Hhome]; · iexact Hhome
    isplitl [Hc0]; · iapply (XR_start c X 0 0 0 (by decide) rfl rfl _); iexact Hc0
    isplitl [Hc1]; · iapply (XR_start c X 1 1 1 (by decide) rfl rfl _); iexact Hc1
    isplitl [Hc2]; · iapply (XR_start c X 2 2 2 (by decide) rfl rfl _); iexact Hc2
    isplitl [Hahead]; · rw [Ring.aheadSet_zero]; iexact Hahead
    isplitr; · rw [Ring.behindSet_boot 6 0 (by decide), bigSep_empty]; iempintro
    isplitl [HO0]; · iapply (OR_start c X _ _ _ _ 0 0 (by decide) rfl); iexact HO0
    isplitl [HO1]; · iapply (OR_start c X _ _ _ _ 1 1 (by decide) rfl); iexact HO1
    isplitl [HO2]; · iapply (OR_start c X _ _ _ _ 2 2 (by decide) rfl); iexact HO2
    isplitl [HO3]; · iapply (OR_start c X _ _ _ _ 3 3 (by decide) rfl); iexact HO3
    isplitl [HO4]; · iapply (OR_start c X _ _ _ _ 4 4 (by decide) rfl); iexact HO4
    isplitl [HO5]; · iapply (OR_start c X _ _ _ _ 5 5 (by decide) rfl); iexact HO5
    iexists _; iexact HW
  iapply (loop_rule c X (dbC (dlV Vdw Vids Vlg Vf Vaux)) (dbtC (dlV Vdw Vids Vlg Vf Vaux)) Vxsc Vwr (bodyRun.sl.r_18 c Vdw Vids Vlg Vf Vaux) dwrC) $$ [HI]
  · iexact HI
  iintro %acc HI
  ihave HI := (inv_exit c X (dbC (dlV Vdw Vids Vlg Vf Vaux)) (dbtC (dlV Vdw Vids Vlg Vf Vaux)) Vxsc Vwr dwrC) $$ HI
  icases HI with ⟨Hdb, Hdbt, Hxs, Hwr, Hd, Hhome, HX0, HX1, HX2, Hb, HO0, HO1, HO2, HO3, HO4, HO5, %W', HW⟩
  unfold oflightP
  icases HO0 with ⟨%go0, %gs0, %gv0, HF0, %hv0⟩
  icases HO1 with ⟨%go1, %gs1, %gv1, HF1, %hv1⟩
  icases HO2 with ⟨%go2, %gs2, %gv2, HF2, %hv2⟩
  icases HO3 with ⟨%go3, %gs3, %gv3, HF3, %hv3⟩
  icases HO4 with ⟨%go4, %gs4, %gv4, HF4, %hv4⟩
  icases HO5 with ⟨%go5, %gs5, %gv5, HF5, %hv5⟩
  sl_exec
  sl_step
  have hdwro : dwrOutM.view.writes (Elt F) Vdwr [⟨Rect.whole S8x6144, bodyRun.sl.dma0_10 c X Vdw Vids Vlg Vxsc Vwr Vf Vaux⟩]
      = dwrAcc c X (dbC (dlV Vdw Vids Vlg Vf Vaux)) (dbtC (dlV Vdw Vids Vlg Vf Vaux)) Vxsc Vwr dwrC 12 := writes_whole dwrOutM.view _ _ _ (fun _ _ h => h) rfl
  have hdlr : dlvM.view.read (Elt F) (dlvM.view.writes (Elt F) gdl (bodyRun.sl.Hdlv_1 c Vdw Vids Vlg Vf Vaux)) = dlV Vdw Vids Vlg Vf Vaux :=
    (dlv_done _ _ fun n t => dlv_at (bodyRun.sl.r_14 c Vdw Vids Vlg Vf Vaux) gdl _ rfl _ rfl n t).trans hdl
  have hdlo : dlOutM.view.writes (Elt F) Vdl [⟨Rect.whole S8x1536, bodyRun.sl.dma66 c Vdw Vids Vlg Vf Vaux gdl⟩] = dlV Vdw Vids Vlg Vf Vaux :=
    writes_whole dlOutM.view _ _ _ (fun _ _ h => h) hdlr.symm
  isplitl [Hdw]; · iexact Hdw
  isplitl [Hids]; · iexact Hids
  isplitl [Hlg]; · iexact Hlg
  isplitl [Hxsc]; · iexact Hxsc
  isplitl [Hwr16]; · iexact Hwr16
  isplitl [Hf]; · iexact Hf
  isplitl [Haux]; · iexact Haux
  isplitl [Hdwro]; · iapply (whole_eq c dwrOutM hdwro); iexact Hdwro
  isplitl [Hdlo]; · iapply (whole_eq c dlOutM hdlo); iexact Hdlo
  isplitl [Hfs]; · iexists _; iexact Hfs
  isplitl [Hauxs]; · iexists _; iexact Hauxs
  isplitl [Hidsv]; · iexists _; iexact Hidsv
  isplitl [Hlgv]; · iexists _; iexact Hlgv
  isplitl [Hxs]; · iexists _; iexact Hxs
  isplitl [Hwr]; · iexists _; iexact Hwr
  isplitl [Hd]; · iexists _; iexact Hd
  isplitl [Hdlv]; · iexists _; iexact Hdlv
  isplitl [Hdwv]; · iexists _; iexact Hdwv
  isplitl [Hdb]; · iexists _; iexact Hdb
  isplitl [Hdbt]; · iexists _; iexact Hdbt
  isplitl [HX0]; · iexact HX0
  isplitl [HX1]; · iexact HX1
  isplitl [HX2]; · iexact HX2
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hhome]; · iexact Hhome
  isplitl [Hb HF0_dst HF1_dst HF2_dst HF3_dst HF4_dst HF5_dst]
  · iapply (behind_all (behindF c X (dbC (dlV Vdw Vids Vlg Vf Vaux)) (dbtC (dlV Vdw Vids Vlg Vf Vaux)) Vxsc Vwr))
    isplitl [HF0_dst]; · iapply (landed_mk c 6 go0 gv0 _ hv0); iexact HF0_dst
    isplitl [HF1_dst]; · iapply (landed_mk c 7 go1 gv1 _ hv1); iexact HF1_dst
    isplitl [HF2_dst]; · iapply (landed_mk c 8 go2 gv2 _ hv2); iexact HF2_dst
    isplitl [HF3_dst]; · iapply (landed_mk c 9 go3 gv3 _ hv3); iexact HF3_dst
    isplitl [HF4_dst]; · iapply (landed_mk c 10 go4 gv4 _ hv4); iexact HF4_dst
    isplitl [HF5_dst]; · iapply (landed_mk c 11 go5 gv5 _ hv5); iexact HF5_dst
    iexact Hb
  isplitl [HF0_src HF0]
  · isplitl [HF0_src]; · iexists _; iexact HF0_src
    iexact HF0
  isplitl [HF1_src HF1]
  · isplitl [HF1_src]; · iexists _; iexact HF1_src
    iexact HF1
  isplitl [HF2_src HF2]
  · isplitl [HF2_src]; · iexists _; iexact HF2_src
    iexact HF2
  isplitl [HF3_src HF3]
  · isplitl [HF3_src]; · iexists _; iexact HF3_src
    iexact HF3
  isplitl [HF4_src HF4]
  · isplitl [HF4_src]; · iexists _; iexact HF4_src
    iexact HF4
  isplitl [HF5_src HF5]
  · isplitl [HF5_src]; · iexists _; iexact HF5_src
    iexact HF5
  iexists _; iexact HW
end Body

end Cert.Proof.Ideal

end
-- ==== Proof.Split.lean ====
/-
  The buffers that the kernel moves in pieces, cut into their pieces before the body and joined again after it.
-/
module

public import proofs.«01_k».proof.Proof.Body
public import Idealize.ShloMosaic.Lib.ViewIndex

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

abbrev BlkSet (b : Fin 12) : Finset S1536x6144.Idx := (Rect.unit (s := S1536x6144) (blkOff b) S128x6144.size (blkOff_inb b)).set
abbrev XsSet (s : Fin 3) : Finset S3x128x6144.Idx := (Rect.unit (s := S3x128x6144) (xsOff s) S1x128x6144.size (xsOff_inb s)).set
abbrev OsSet (s : Fin 6) : Finset S6x128x6144.Idx := (Rect.unit (s := S6x128x6144) (osOff s) S1x128x6144.size (osOff_inb s)).set

theorem off_two (n : ℕ) : ∀ a : Fin 2, a ≠ 0 → (![n, 0] : Fin 2 → ℕ) a = 0 := fun a h => match a with
  | ⟨0, _⟩ => absurd rfl h
  | ⟨1, _⟩ => rfl
theorem off_three (n : ℕ) : ∀ a : Fin 3, a ≠ 0 → (![n, 0, 0] : Fin 3 → ℕ) a = 0 := fun a h => match a with
  | ⟨0, _⟩ => absurd rfl h
  | ⟨1, _⟩ => rfl
  | ⟨2, _⟩ => rfl
theorem size_blk : ∀ a : Fin 2, a ≠ 0 → S128x6144.size a = S1536x6144.size a := fun a h => match a with
  | ⟨0, _⟩ => absurd rfl h
  | ⟨1, _⟩ => rfl
theorem size_xs : ∀ a : Fin 3, a ≠ 0 → S1x128x6144.size a = S3x128x6144.size a := fun a h => match a with
  | ⟨0, _⟩ => absurd rfl h
  | ⟨1, _⟩ => rfl
  | ⟨2, _⟩ => rfl
theorem size_os : ∀ a : Fin 3, a ≠ 0 → S1x128x6144.size a = S6x128x6144.size a := fun a h => match a with
  | ⟨0, _⟩ => absurd rfl h
  | ⟨1, _⟩ => rfl
  | ⟨2, _⟩ => rfl

theorem Blk_disjoint : ∀ b b' : Fin 12, b ≠ b' → Disjoint (BlkSet b) (BlkSet b') := fun b b' h =>
  Ring.lead_disjoint (s := S1536x6144) (NB := 12) (0 : Fin 2) 128 blkOff S128x6144.size blkOff_inb (fun _ => rfl) rfl b b' h
theorem Blk_cover : (Finset.univ : Finset (Fin 12)).biUnion BlkSet = Finset.univ :=
  Ring.lead_cover (s := S1536x6144) (NB := 12) (0 : Fin 2) 128 blkOff S128x6144.size blkOff_inb (fun _ => rfl) (fun b => off_two _) rfl size_blk rfl
theorem Xs_disjoint : ∀ b b' : Fin 3, b ≠ b' → Disjoint (XsSet b) (XsSet b') := fun b b' h =>
  Ring.lead_disjoint (s := S3x128x6144) (NB := 3) (0 : Fin 3) 1 xsOff S1x128x6144.size xsOff_inb (fun b => (Nat.one_mul b.val).symm) rfl b b' h
theorem Xs_cover : (Finset.univ : Finset (Fin 3)).biUnion XsSet = Finset.univ :=
  Ring.lead_cover (s := S3x128x6144) (NB := 3) (0 : Fin 3) 1 xsOff S1x128x6144.size xsOff_inb (fun b => (Nat.one_mul b.val).symm) (fun b => off_three _) rfl size_xs rfl
theorem Os_disjoint : ∀ b b' : Fin 6, b ≠ b' → Disjoint (OsSet b) (OsSet b') := fun b b' h =>
  Ring.lead_disjoint (s := S6x128x6144) (NB := 6) (0 : Fin 3) 1 osOff S1x128x6144.size osOff_inb (fun b => (Nat.one_mul b.val).symm) rfl b b' h
theorem Os_cover : (Finset.univ : Finset (Fin 6)).biUnion OsSet = Finset.univ :=
  Ring.lead_cover (s := S6x128x6144) (NB := 6) (0 : Fin 3) 1 osOff S1x128x6144.size osOff_inb (fun b => (Nat.one_mul b.val).symm) (fun b => off_three _) rfl size_os rfl

theorem xblk_set (b : Fin 12) : (xblk b).view.set = BlkSet b := View.set_slice_whole _ _
theorem oblk_set (b : Fin 12) : (oblk b).view.set = BlkSet b := View.set_slice_whole _ _
theorem xslot_set (s : Fin 3) : (xslot s).view.set = XsSet s := (View.set_reshape _ _).trans (View.set_slice_whole _ _)
theorem oslot_set (s : Fin 6) : (oslot s).view.set = OsSet s := (View.set_reshape _ _).trans (View.set_slice_whole _ _)

section Cut
variable (c : Dev nD)

/-- `x` whole is its twelve blocks. -/
theorem x_eq (X : Buf (Elt F) (xM.view.loc (c : Thread nD τ))) :
    (((c : Thread nD τ).loc main_arg3) ↦{fullShare} X : sProp 𝕄) = bigSep Finset.univ (homeF c X) := by
  rw [Ring.pointsTo_blocks (ℓ := (c : Thread nD τ).loc main_arg3) BlkSet Blk_disjoint Blk_cover]
  exact bigSep_congr fun b _ => by rw [← xblk_set]; rfl
/-- The first three blocks apart from the rest. -/
theorem home_zero (Φ : Fin 12 → sProp 𝕄) : bigSep Finset.univ Φ = iprop(Φ 0 ∗ Φ 1 ∗ Φ 2 ∗ bigSep (Ring.homeSet 3 0) Φ) := by
  rw [show (Finset.univ : Finset (Fin 12)) = insert 0 (insert 1 (insert 2 (Ring.homeSet (NB := 12) 3 0))) from by decide,
    bigSep_insert (by decide), bigSep_insert (by decide), bigSep_insert (by decide)]; rfl

/-- `dx` whole is its twelve blocks, at whatever they hold. -/
theorem dx_split (f : Buf (Elt F) (dxM.view.loc (c : Thread nD τ))) :
    (((c : Thread nD τ).loc main_v7_0) ↦{fullShare} f : sProp 𝕄) ⊢ bigSep Finset.univ (aheadF (F := F) c) := by
  rw [Ring.pointsTo_blocks (ℓ := (c : Thread nD τ).loc main_v7_0) BlkSet Blk_disjoint Blk_cover]
  refine Idealize.SL.BI.bigSep_mono fun b _ => ?_
  rw [← oblk_set]
  show oblkP c b f ⊢ iprop(∃ f, oblkP c b f)
  iintro H; iexists f; iexact H

/-- The contents of `dx` whose block `b` is `v b`. -/
def dxOf (v : Fin 12 → S128x6144.Idx → Elt F .bf16) : S1536x6144.Idx → Elt F .bf16 := fun j =>
  v ⟨(j 0).val / 128, by have h : (j 0).val < 1536 := (j 0).isLt; omega⟩
    (ix2 (n0 := 128) (n1 := 6144) ⟨(j 0).val % 128, Nat.mod_lt _ (by omega)⟩ (j 1))

theorem dxOf_read (v : Fin 12 → S128x6144.Idx → Elt F .bf16) (b : Fin 12) (j : S128x6144.Idx) :
    (oblk b).view.read (Elt F) (dxOf v) j = v b j := by
  have h0 : (j 0).val < 128 := (j 0).isLt
  have h1 : (j 1).val < 6144 := (j 1).isLt
  have e : (oblk b).view.read (Elt F) (dxOf v) j
      = dxOf v (ix2 (n0 := 1536) (n1 := 6144) ⟨128 * b.val + (j 0).val, by have := b.isLt; omega⟩ ⟨(j 1).val, h1⟩) :=
    congrArg (dxOf v) (funext fun i => Fin.ext (match i with
      | ⟨0, _⟩ => show 128 * b.val + 1 * (j 0).val = 128 * b.val + (j 0).val by omega
      | ⟨1, _⟩ => show 0 + 1 * (j 1).val = (j 1).val by omega))
  rw [e]
  have hb : ∀ (b' : Fin 12) (j' : S128x6144.Idx), b' = b → j' = j → v b' j' = v b j := fun b' j' h h' => by rw [h, h']
  refine hb _ _ (Fin.ext (show (128 * b.val + (j 0).val) / 128 = b.val by omega)) (funext fun i => Fin.ext ?_)
  match i with
  | ⟨0, _⟩ => show (128 * b.val + (j 0).val) % 128 = (j 0).val; omega
  | ⟨1, _⟩ => rfl

/-- A block that landed is the block of those contents. -/
theorem landed_block (v : Fin 12 → S128x6144.Idx → Elt F .bf16) (b : Fin 12) (fo : Buf (Elt F) ((oblk b).view.loc (c : Thread nD τ))) :
    oblkP c b ((oblk b).view.writes (Elt F) fo [⟨Rect.whole S128x6144, v b⟩]) ⊢ oblkP c b (dxOf v) := by
  have e : oblkP c b ((oblk b).view.writes (Elt F) fo [⟨Rect.whole S128x6144, v b⟩]) = oblkP c b (dxOf v) := by
    refine pointsTo_congr fun i hi => ?_
    obtain ⟨x, -, rfl⟩ := Finset.mem_map.mp hi
    exact View.eq_of_read_eq ((congrFun (read_writes_whole (oblk b).view fo (v b)) x).trans (dxOf_read v b x).symm)
  exact Entails.of_eq e
theorem landed_at (v : Fin 12 → S128x6144.Idx → Elt F .bf16) (b : Fin 12) :
    landedP c b (v b) ⊢ oblkP c b (dxOf v) := by
  unfold landedP
  iintro ⟨%fo, %v', H, %hv⟩
  rw [hv]
  iapply (landed_block c v b fo); iexact H

/-- The twelve blocks that landed are `dx` whole. -/
theorem dx_join (v : Fin 12 → S128x6144.Idx → Elt F .bf16) :
    bigSep Finset.univ (fun b => landedP c b (v b)) ⊢ (((c : Thread nD τ).loc main_v7_0) ↦{fullShare} dxOf v : sProp 𝕄) := by
  rw [Ring.pointsTo_blocks (ℓ := (c : Thread nD τ).loc main_v7_0) BlkSet Blk_disjoint Blk_cover]
  refine Idealize.SL.BI.bigSep_mono fun b _ => ?_
  rw [← oblk_set]
  exact landed_at c v b

/-- The ring for `x` whole is its three slots, and back. -/
theorem xslotP_eq (s : Fin 3) (f) : xslotP (F := F) c s f = (((c : Thread nD τ).loc cc0_scratch10) ↦[XsSet s]{fullShare} f : sProp 𝕄) :=
  congrArg (fun S => (_ ↦[S]{fullShare} f : sProp 𝕄)) (xslot_set s)
theorem fin3_list (Φ : Fin 3 → sProp 𝕄) : bigSep Finset.univ Φ = iprop(Φ 0 ∗ Φ 1 ∗ Φ 2) :=
  bigSep_univ_eq_bigSepL [(0 : Fin 3), 1, 2] (by decide) (by decide) Φ
theorem xring_split (f : Buf (Elt F) ((c : Thread nD τ).loc cc0_scratch10)) :
    (((c : Thread nD τ).loc cc0_scratch10) ↦{fullShare} f : sProp 𝕄) ⊢ iprop((∃ f, xslotP (F := F) c 0 f) ∗ (∃ f, xslotP (F := F) c 1 f) ∗ (∃ f, xslotP (F := F) c 2 f)) := by
  refine BIBase.Entails.trans ?_ (Entails.of_eq (fin3_list (fun s => iprop(∃ f, xslotP (F := F) c s f))))
  rw [Ring.pointsTo_blocks (ℓ := (c : Thread nD τ).loc cc0_scratch10) XsSet Xs_disjoint Xs_cover]
  refine Idealize.SL.BI.bigSep_mono fun b _ => ?_
  show (((c : Thread nD τ).loc cc0_scratch10) ↦[XsSet b]{fullShare} f : sProp 𝕄) ⊢ iprop(∃ f, xslotP c b f)
  iintro H; iexists f; iapply (Entails.of_eq (xslotP_eq c b f).symm); iexact H
theorem xring_join :
    iprop((∃ f, xslotP (F := F) c 0 f) ∗ (∃ f, xslotP (F := F) c 1 f) ∗ (∃ f, xslotP (F := F) c 2 f)) ⊢ (iprop(∃ f : Buf (Elt F) ((c : Thread nD τ).loc cc0_scratch10), ((c : Thread nD τ).loc cc0_scratch10) ↦{fullShare} f) : sProp 𝕄) := by
  iintro ⟨⟨%f0, H0⟩, H⟩
  iapply (Ring.pointsTo_blocks_join_exists (Ix := Unit) (Name := ℕ) (U := UU nD τ) (Lvl := ℕ) (q := fullShare) (ℓ := (c : Thread nD τ).loc cc0_scratch10) XsSet Xs_disjoint Xs_cover f0)
  iapply (show iprop((∃ f, xslotP (F := F) c 0 f) ∗ (∃ f, xslotP (F := F) c 1 f) ∗ (∃ f, xslotP (F := F) c 2 f)) ⊢ bigSep Finset.univ (fun s => iprop(∃ f, ((c : Thread nD τ).loc cc0_scratch10) ↦[XsSet s]{fullShare} f)) from by
    refine (Entails.of_eq (fin3_list (fun s => iprop(∃ f, xslotP (F := F) c s f))).symm).trans ?_
    refine Idealize.SL.BI.bigSep_mono fun b _ => ?_
    show iprop(∃ f, xslotP c b f) ⊢ iprop(∃ f, ((c : Thread nD τ).loc cc0_scratch10) ↦[XsSet b]{fullShare} f)
    iintro ⟨%f, H⟩; iexists f; iapply (Entails.of_eq (xslotP_eq c b f)); iexact H)
  isplitl [H0]; · iexists f0; iexact H0
  iexact H

/-- The ring for `dx` whole is its six slots, and back. -/
theorem oslotP_eq (s : Fin 6) (f) : oslotP (F := F) c s f = (((c : Thread nD τ).loc cc0_scratch9) ↦[OsSet s]{fullShare} f : sProp 𝕄) :=
  congrArg (fun S => (_ ↦[S]{fullShare} f : sProp 𝕄)) (oslot_set s)
theorem fin6_list (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem oring_split (f : Buf (Elt F) ((c : Thread nD τ).loc cc0_scratch9)) :
    (((c : Thread nD τ).loc cc0_scratch9) ↦{fullShare} f : sProp 𝕄) ⊢ iprop((∃ f, oslotP (F := F) c 0 f) ∗ (∃ f, oslotP (F := F) c 1 f) ∗ (∃ f, oslotP (F := F) c 2 f) ∗ (∃ f, oslotP (F := F) c 3 f) ∗ (∃ f, oslotP (F := F) c 4 f) ∗ (∃ f, oslotP (F := F) c 5 f)) := by
  refine BIBase.Entails.trans ?_ (Entails.of_eq (fin6_list (fun s => iprop(∃ f, oslotP (F := F) c s f))))
  rw [Ring.pointsTo_blocks (ℓ := (c : Thread nD τ).loc cc0_scratch9) OsSet Os_disjoint Os_cover]
  refine Idealize.SL.BI.bigSep_mono fun b _ => ?_
  show (((c : Thread nD τ).loc cc0_scratch9) ↦[OsSet b]{fullShare} f : sProp 𝕄) ⊢ iprop(∃ f, oslotP c b f)
  iintro H; iexists f; iapply (Entails.of_eq (oslotP_eq c b f).symm); iexact H
theorem oring_join :
    iprop((∃ f, oslotP (F := F) c 0 f) ∗ (∃ f, oslotP (F := F) c 1 f) ∗ (∃ f, oslotP (F := F) c 2 f) ∗ (∃ f, oslotP (F := F) c 3 f) ∗ (∃ f, oslotP (F := F) c 4 f) ∗ (∃ f, oslotP (F := F) c 5 f)) ⊢ (iprop(∃ f : Buf (Elt F) ((c : Thread nD τ).loc cc0_scratch9), ((c : Thread nD τ).loc cc0_scratch9) ↦{fullShare} f) : sProp 𝕄) := by
  iintro ⟨⟨%f0, H0⟩, H⟩
  iapply (Ring.pointsTo_blocks_join_exists (Ix := Unit) (Name := ℕ) (U := UU nD τ) (Lvl := ℕ) (q := fullShare) (ℓ := (c : Thread nD τ).loc cc0_scratch9) OsSet Os_disjoint Os_cover f0)
  iapply (show iprop((∃ f, oslotP (F := F) c 0 f) ∗ (∃ f, oslotP (F := F) c 1 f) ∗ (∃ f, oslotP (F := F) c 2 f) ∗ (∃ f, oslotP (F := F) c 3 f) ∗ (∃ f, oslotP (F := F) c 4 f) ∗ (∃ f, oslotP (F := F) c 5 f)) ⊢ bigSep Finset.univ (fun s => iprop(∃ f, ((c : Thread nD τ).loc cc0_scratch9) ↦[OsSet s]{fullShare} f)) from by
    refine (Entails.of_eq (fin6_list (fun s => iprop(∃ f, oslotP (F := F) c s f))).symm).trans ?_
    refine Idealize.SL.BI.bigSep_mono fun b _ => ?_
    show iprop(∃ f, oslotP c b f) ⊢ iprop(∃ f, ((c : Thread nD τ).loc cc0_scratch9) ↦[OsSet b]{fullShare} f)
    iintro ⟨%f, H⟩; iexists f; iapply (Entails.of_eq (oslotP_eq c b f)); iexact H)
  isplitl [H0]; · iexists f0; iexact H0
  iexact H

end Cut

end Cert.Proof.Ideal

end
-- ==== Proof.Launch.lean ====
/-
  The kernel's launch: its buffers handed to the body and taken back, and what the three results hold at the end.
-/
module

public import proofs.«01_k».proof.Proof.Split
public import proofs.«01_k».proof.Proof.Gen.KernelIdeal.Frame
public import Idealize.ShloMosaic.Lib.Pipeline.FrameBody

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the results hold at the end -/

/-- The gradient of the logits, transposed. -/
def kDL (c : Dev nD) : FVec F S8x1536 .f32 := dlV (V m c main_v3) (V m c main_v4) (V m c main_v5) (V m c main_arg6) (V m c main_arg7)
/-- The gradient of the router's input. -/
def kDX (c : Dev nD) : S1536x6144.Idx → Elt F .bf16 :=
  dxOf fun b => dxB c (V m c main_arg3) (dbC (kDL m c)) (dbtC (kDL m c)) (V m c main_v6) (V m c main_v2) b
/-- The gradient of the router's weights, transposed. -/
def kDW (c : Dev nD) : S8x6144.Idx → Elt F .f32 :=
  dwrAcc c (V m c main_arg3) (dbC (kDL m c)) (dbtC (kDL m c)) (V m c main_v6) (V m c main_v2) dwrC 12
/-- The buffers at the end. -/
def GG (c : Dev nD) : (b : Ref sig .tc) → Buf (Elt F) ((c : Thread nD τ).loc b) :=
  Function.update (Function.update (Function.update (V m c) main_v7_0 (kDX m c)) main_v7_1 (kDW m c)) main_v7_2 (kDL m c)

/-! ## The launch's lists -/

/-- The buffers the body writes, and those it reads, among the arrays. -/
def R0 : Finset (Ref sig .tc) := {main_v7_0, main_v7_1, main_v7_2}
def H0 : Finset (Ref sig .tc) := {main_v3, main_v4, main_v5, main_v6, main_v2, main_arg6, main_arg7, main_arg3}
theorem H0_sub : H0 ⊆ Pipeline.restRefs sig (cfg0.spec) := by decide
theorem R0_sub : R0 ⊆ Pipeline.restRefs sig (cfg0.spec) \ H0 := by decide
abbrev osem0 : Fin 21 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 21 → SemLoc sig) j
theorem ownSemFacts0 : Pipeline.OwnSemFacts (cfg0.spec) osem0 := by decide

theorem hmainD (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8, 9, 10, 11, 12, 13, 14, 15, 16, 17, 18, 19, 20] (by decide) (by decide)]; rfl
theorem hbmPts0_eq (c : Dev nD) :
    (bigSep H0 (fun b => ((c : Thread nD τ).loc b) ↦{fullShare} V m c b) : sProp 𝕄)
      = iprop((((c : Thread nD τ).loc main_v3) ↦{fullShare} V m c main_v3) ∗ (((c : Thread nD τ).loc main_v4) ↦{fullShare} V m c main_v4) ∗ (((c : Thread nD τ).loc main_v5) ↦{fullShare} V m c main_v5) ∗ (((c : Thread nD τ).loc main_v6) ↦{fullShare} V m c main_v6) ∗ (((c : Thread nD τ).loc main_v2) ↦{fullShare} V m c main_v2) ∗ (((c : Thread nD τ).loc main_arg6) ↦{fullShare} V m c main_arg6) ∗ (((c : Thread nD τ).loc main_arg7) ↦{fullShare} V m c main_arg7) ∗ (((c : Thread nD τ).loc main_arg3) ↦{fullShare} V m c main_arg3)) := by
  rw [BI.bigSep_eq_bigSepL_of_eq [main_v3, main_v4, main_v5, main_v6, main_v2, main_arg6, main_arg7, main_arg3] (by decide) (by decide)]; rfl
theorem routed_V (c : Dev nD) :
    (Pipeline.routed R0 c (V m c) : sProp 𝕄)
      = iprop((((c : Thread nD τ).loc main_v7_0) ↦{fullShare} V m c main_v7_0) ∗ (((c : Thread nD τ).loc main_v7_1) ↦{fullShare} V m c main_v7_1) ∗ ((c : Thread nD τ).loc main_v7_2) ↦{fullShare} V m c main_v7_2) := by
  unfold Pipeline.routed; rw [BI.bigSep_eq_bigSepL_of_eq [main_v7_0, main_v7_1, main_v7_2] (by decide) (by decide)]; rfl
theorem GG_0 (c : Dev nD) : GG m c main_v7_0 = kDX m c := by
  unfold GG; rw [Function.update_of_ne (by decide), Function.update_of_ne (by decide), Function.update_self]
theorem GG_1 (c : Dev nD) : GG m c main_v7_1 = kDW m c := by
  unfold GG; rw [Function.update_of_ne (by decide), Function.update_self]
theorem GG_2 (c : Dev nD) : GG m c main_v7_2 = kDL m c := by
  unfold GG; rw [Function.update_self]
theorem routed_G (c : Dev nD) :
    (Pipeline.routed R0 c (GG m c) : sProp 𝕄)
      = iprop((((c : Thread nD τ).loc main_v7_0) ↦{fullShare} kDX m c) ∗ (((c : Thread nD τ).loc main_v7_1) ↦{fullShare} kDW m c) ∗ ((c : Thread nD τ).loc main_v7_2) ↦{fullShare} kDL m c) := by
  unfold Pipeline.routed; rw [BI.bigSep_eq_bigSepL_of_eq [main_v7_0, main_v7_1, main_v7_2] (by decide) (by decide)]
  simp only [BI.bigSepL_cons_cons, BI.bigSepL_singleton, GG_0, GG_1, GG_2]; rfl

/-- A buffer held whole, as the body holds it. -/
theorem held_eq (c : Dev nD) (b : Ref sig .tc) (f : Buf (Elt F) ((c : Thread nD τ).loc b)) :
    (((c : Thread nD τ).loc b) ↦{fullShare} f : sProp 𝕄) = wholeP c (Memref.whole b) f :=
  congrArg (fun S => (((c : Thread nD τ).loc b) ↦[S]{fullShare} f : sProp 𝕄)) (View.set_whole b).symm
theorem to_body (c : Dev nD) (b : Ref sig .tc) (f : Buf (Elt F) ((c : Thread nD τ).loc b)) :
    (((c : Thread nD τ).loc b) ↦{fullShare} f : sProp 𝕄) ⊢ wholeP c (Memref.whole b) f := Entails.of_eq (held_eq c b f)
theorem of_body (c : Dev nD) (b : Ref sig .tc) (f : Buf (Elt F) ((c : Thread nD τ).loc b)) :
    wholeP c (Memref.whole b) f ⊢ (((c : Thread nD τ).loc b) ↦{fullShare} f : sProp 𝕄) := Entails.of_eq (held_eq c b f).symm

/-! ## The body under the launch -/

set_option maxHeartbeats 4000000 in
/-- The body, from the launch's invariant at the start to the launch's invariant at the end. -/
theorem body_launch (c : Dev nD) (W : Waits sig Unit) :
    iprop(Pipeline.ΦDRG osem0 (cfg0.spec) H0 R0 (V m) (V m) c ∗ owes (c : Thread nD τ) 0 W)
      ⊢ wp frame (wpE (defs₀ (F := F)) 𝒱₀ (c : Thread nD τ) none) Set.univ bodyG
          (fun _ => iprop(Pipeline.ΦDRG osem0 (cfg0.spec) H0 R0 (V m) (GG m) c ∗ ∃ W', owes (c : Thread nD τ) 0 W')) := by
  rw [Pipeline.ΦDRG_eq, Pipeline.ΦDRG_eq, scopedRest0_eq, ownSems00_eq, hbmPts0_eq, routed_V, routed_G]
  iintro ⟨⟨⟨⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s0, S0⟩, ⟨%s1, S1⟩⟩, Hg, ⟨Q0, Q1, Q2, Q3, Q4, Q5, Q6, Q7, Q8, Q9, Q10, Q11, Q12, Q13, Q14, Q15, Q16, Q17, Q18, Q19, Q20⟩, ⟨Hdw, Hids, Hlg, Hxsc, Hwr16, Hf, Haux, Hx⟩, ⟨Hdx, Hdwo, Hdlo⟩⟩, HW⟩
  ihave Hx2 := (Entails.of_eq ((x_eq c (V m c main_arg3)).trans (home_zero _))) $$ [Hx]; · iexact Hx
  icases Hx2 with ⟨Hx0, Hx1, Hx2, Hxh⟩
  ihave Ha := (dx_split c (V m c main_v7_0)) $$ [Hdx]; · iexact Hdx
  ihave S10s := (xring_split c s10) $$ [S10]; · iexact S10
  icases S10s with ⟨⟨%t0, X0⟩, ⟨%t1, X1⟩, ⟨%t2, X2⟩⟩
  ihave S9s := (oring_split c s9) $$ [S9]; · iexact S9
  icases S9s with ⟨O0, O1, O2, O3, O4, O5⟩
  iapply (wp_wand_r Idealize.ShloMosaic.frame (wpE (defs₀ (F := F)) 𝒱₀ (c : Thread nD τ) none) Set.univ)
  isplitl [Hdw Hids Hlg Hxsc Hwr16 Hf Haux Hdwo Hdlo S0 S1 S2 S3 S4 S5 S6 S7 S8 S11 S12 Hx0 Hx1 Hx2 X0 X1 X2 Q12 Q13 Q14 Q0 Q1 Q2 Q3 Q4 Q5 Q6 Q7 Q8 Q9 HW Hxh Ha O0 O1 O2 O3 O4 O5 Q15 Q16 Q17 Q18 Q19 Q20]
  · iapply (bodyRun c (V m c main_arg3) (V m c main_v3) (V m c main_v4) (V m c main_v5) (V m c main_v6) (V m c main_v2) (V m c main_arg6) (V m c main_arg7) (V m c main_v7_1) (V m c main_v7_2) s0 s1 s2 s3 s4 s5 s6 s7 s8 s11 s12 t0 t1 t2 W)
    isplitl [Hdw]; · iapply (to_body c main_v3 _); iexact Hdw
    isplitl [Hids]; · iapply (to_body c main_v4 _); iexact Hids
    isplitl [Hlg]; · iapply (to_body c main_v5 _); iexact Hlg
    isplitl [Hxsc]; · iapply (to_body c main_v6 _); iexact Hxsc
    isplitl [Hwr16]; · iapply (to_body c main_v2 _); iexact Hwr16
    isplitl [Hf]; · iapply (to_body c main_arg6 _); iexact Hf
    isplitl [Haux]; · iapply (to_body c main_arg7 _); iexact Haux
    isplitl [Hdwo]; · iapply (to_body c main_v7_1 _); iexact Hdwo
    isplitl [Hdlo]; · iapply (to_body c main_v7_2 _); iexact Hdlo
    isplitl [S0]; · iapply (to_body c cc0_scratch0 _); iexact S0
    isplitl [S1]; · iapply (to_body c cc0_scratch1 _); iexact S1
    isplitl [S2]; · iapply (to_body c cc0_scratch2 _); iexact S2
    isplitl [S3]; · iapply (to_body c cc0_scratch3 _); iexact S3
    isplitl [S4]; · iapply (to_body c cc0_scratch4 _); iexact S4
    isplitl [S5]; · iapply (to_body c cc0_scratch5 _); iexact S5
    isplitl [S6]; · iapply (to_body c cc0_scratch6 _); iexact S6
    isplitl [S7]; · iapply (to_body c cc0_scratch7 _); iexact S7
    isplitl [S8]; · iapply (to_body c cc0_scratch8 _); iexact S8
    isplitl [S11]; · iapply (to_body c cc0_scratch11 _); iexact S11
    isplitl [S12]; · iapply (to_body c cc0_scratch12 _); iexact S12
    isplitl [Hx0]; · iexact Hx0
    isplitl [Hx1]; · iexact Hx1
    isplitl [Hx2]; · iexact Hx2
    isplitl [X0]; · iexact X0
    isplitl [X1]; · iexact X1
    isplitl [X2]; · iexact X2
    isplitl [Q12]; · iexact Q12
    isplitl [Q13]; · iexact Q13
    isplitl [Q14]; · iexact Q14
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [HW]; · iexact HW
    isplitl [Hxh]; · iexact Hxh
    isplitl [Ha]; · iexact Ha
    isplitl [O0 Q15]
    · isplitl [O0]; · iexact O0
      iexact Q15
    isplitl [O1 Q16]
    · isplitl [O1]; · iexact O1
      iexact Q16
    isplitl [O2 Q17]
    · isplitl [O2]; · iexact O2
      iexact Q17
    isplitl [O3 Q18]
    · isplitl [O3]; · iexact O3
      iexact Q18
    isplitl [O4 Q19]
    · isplitl [O4]; · iexact O4
      iexact Q19
    isplitl [O5]; · iexact O5
    iexact Q20
  · iintro %_ ⟨Hdw, Hids, Hlg, Hxsc, Hwr16, Hf, Haux, Hdwo, Hdlo, ⟨%r0, S0⟩, ⟨%r1, S1⟩, ⟨%r2, S2⟩, ⟨%r3, S3⟩, ⟨%r4, S4⟩, ⟨%r5, S5⟩, ⟨%r6, S6⟩, ⟨%r7, S7⟩, ⟨%r8, S8⟩, ⟨%r11, S11⟩, ⟨%r12, S12⟩, ⟨X0, Q12⟩, ⟨X1, Q13⟩, ⟨X2, Q14⟩, Q0, Q1, Q2, Q3, Q4, Q5, Q6, Q7, Q8, Q9, Hxh, Hb, ⟨O0, Q15⟩, ⟨O1, Q16⟩, ⟨O2, Q17⟩, ⟨O3, Q18⟩, ⟨O4, Q19⟩, ⟨O5, Q20⟩, HW⟩
    ihave Hdx := (dx_join c (fun b => dxB c (V m c main_arg3) (dbC (kDL m c)) (dbtC (kDL m c)) (V m c main_v6) (V m c main_v2) b)) $$ [Hb]; · iexact Hb
    ihave S10 := (xring_join c) $$ [X0 X1 X2]
    · isplitl [X0]; · iexact X0
      isplitl [X1]; · iexact X1
      iexact X2
    ihave S9 := (oring_join c) $$ [O0 O1 O2 O3 O4 O5]
    · isplitl [O0]; · iexact O0
      isplitl [O1]; · iexact O1
      isplitl [O2]; · iexact O2
      isplitl [O3]; · iexact O3
      isplitl [O4]; · iexact O4
      iexact O5
    isplitr [HW]
    · isplitl [S2 S3 S4 S5 S6 S7 S8 S9 S10 S11 S12 S0 S1]
      · isplitl [S2]; · iexists _; iapply (of_body c cc0_scratch2 _); iexact S2
        isplitl [S3]; · iexists _; iapply (of_body c cc0_scratch3 _); iexact S3
        isplitl [S4]; · iexists _; iapply (of_body c cc0_scratch4 _); iexact S4
        isplitl [S5]; · iexists _; iapply (of_body c cc0_scratch5 _); iexact S5
        isplitl [S6]; · iexists _; iapply (of_body c cc0_scratch6 _); iexact S6
        isplitl [S7]; · iexists _; iapply (of_body c cc0_scratch7 _); iexact S7
        isplitl [S8]; · iexists _; iapply (of_body c cc0_scratch8 _); iexact S8
        isplitl [S9]; · iexact S9
        isplitl [S10]; · iexact S10
        isplitl [S11]; · iexists _; iapply (of_body c cc0_scratch11 _); iexact S11
        isplitl [S12]; · iexists _; iapply (of_body c cc0_scratch12 _); iexact S12
        isplitl [S0]; · iexists _; iapply (of_body c cc0_scratch0 _); iexact S0
        iexists _; iapply (of_body c cc0_scratch1 _); iexact S1
      isplitl [Hg]; · iexact Hg
      isplitl [Q0 Q1 Q2 Q3 Q4 Q5 Q6 Q7 Q8 Q9 Q10 Q11 Q12 Q13 Q14 Q15 Q16 Q17 Q18 Q19 Q20]
      · isplitl [Q0]; · iexact Q0
        isplitl [Q1]; · iexact Q1
        isplitl [Q2]; · iexact Q2
        isplitl [Q3]; · iexact Q3
        isplitl [Q4]; · iexact Q4
        isplitl [Q5]; · iexact Q5
        isplitl [Q6]; · iexact Q6
        isplitl [Q7]; · iexact Q7
        isplitl [Q8]; · iexact Q8
        isplitl [Q9]; · iexact Q9
        isplitl [Q10]; · iexact Q10
        isplitl [Q11]; · iexact Q11
        isplitl [Q12]; · iexact Q12
        isplitl [Q13]; · iexact Q13
        isplitl [Q14]; · iexact Q14
        isplitl [Q15]; · iexact Q15
        isplitl [Q16]; · iexact Q16
        isplitl [Q17]; · iexact Q17
        isplitl [Q18]; · iexact Q18
        isplitl [Q19]; · iexact Q19
        iexact Q20
      isplitl [Hdw Hids Hlg Hxsc Hwr16 Hf Haux Hxh]
      · isplitl [Hdw]; · iapply (of_body c main_v3 _); iexact Hdw
        isplitl [Hids]; · iapply (of_body c main_v4 _); iexact Hids
        isplitl [Hlg]; · iapply (of_body c main_v5 _); iexact Hlg
        isplitl [Hxsc]; · iapply (of_body c main_v6 _); iexact Hxsc
        isplitl [Hwr16]; · iapply (of_body c main_v2 _); iexact Hwr16
        isplitl [Hf]; · iapply (of_body c main_arg6 _); iexact Hf
        isplitl [Haux]; · iapply (of_body c main_arg7 _); iexact Haux
        iapply (Entails.of_eq (x_eq c (V m c main_arg3)).symm); iexact Hxh
      isplitl [Hdx]; · iexact Hdx
      isplitl [Hdwo]; · iapply (of_body c main_v7_1 _); iexact Hdwo
      iapply (of_body c main_v7_2 _); iexact Hdlo
    iexact HW

/-! ## The run -/

/-- The proof data of the one call: no windows; the launch's invariant before the one point and after it. -/
def dats (_ : Fin 1) (c : Dev nD) : Dat τ (Elt F) Unit ℕ (Pipeline.UD sig nD τ) ℕ cfg0 c where
  A w := w.elim0
  after w _ := w.elim0
  Φ i := if i.val = 0 then Pipeline.ΦDRG osem0 (cfg0.spec) H0 R0 (V m) (V m) c else Pipeline.ΦDRG osem0 (cfg0.spec) H0 R0 (V m) (GG m) c
  q _ := fullShare
  owed _ := 0

theorem defs₀_row (t : Fin cfg0.N) :
    defs₀ (F := F) .tc cfg0.body (cfg0.bodyArgs t (cfg0.slots t)) = bodyG := by
  unfold defs₀; rw [Defs.onTc_tc]

theorem Phi_start (c : Dev nD) (t : Fin cfg0.N) : (dats m 0 c).Φ t.castSucc = Pipeline.ΦDRG osem0 (cfg0.spec) H0 R0 (V m) (V m) c := by
  have ht : t.castSucc.val = 0 := by rw [fin_N0 t]; rfl
  show (if t.castSucc.val = 0 then _ else _) = _
  rw [if_pos ht]
theorem Phi_end (c : Dev nD) (t : Fin cfg0.N) : (dats m 0 c).Φ t.succ = Pipeline.ΦDRG osem0 (cfg0.spec) H0 R0 (V m) (GG m) c := by
  show (if t.succ.val = 0 then Pipeline.ΦDRG osem0 (cfg0.spec) H0 R0 (V m) (V m) c else Pipeline.ΦDRG osem0 (cfg0.spec) H0 R0 (V m) (GG m) c) = _
  rw [if_neg (by rw [Fin.val_succ]; omega)]

theorem body_obligation (c : Dev nD) : BodyObligation (dats (F := F) m 0 c) (defs₀ (F := F)) Variants.none () Set.univ := fun t => by
  rw [defs₀_row, Phi_start, Phi_end, show (Finset.univ : Finset (Fin cfg0.W)) = ∅ from rfl, bigSep_empty, bigSep_empty]
  unfold Dat.owesAt Pipeline.owesWithin
  rw [show (dats m 0 c).owed t.castSucc = 0 from rfl, show (dats m 0 c).owed t.succ = 0 from rfl]
  show iprop(Pipeline.ΦDRG osem0 (cfg0.spec) H0 R0 (V m) (V m) c ∗ (∃ W, ⌜_⌝ ∗ owes (c : Thread nD τ) 0 W) ∗ emp) ⊢ _
  iintro ⟨HP, ⟨%W, -, HW⟩, -⟩
  iapply (wp_wand_r Idealize.ShloMosaic.frame (wpE (defs₀ (F := F)) 𝒱₀ (c : Thread nD τ) none) Set.univ)
  isplitl [HP HW]
  · iapply (body_launch m c W)
    isplitl [HP]; · iexact HP
    iexact HW
  · iintro %_ ⟨HP, ⟨%W', HW⟩⟩
    isplitl [HP]; · iexact HP
    isplitl [HW]
    · iexists W'; isplitr; · ipureintro; exact fun _ _ => Or.inl trivial
      iexact HW
    iempintro

set_option backward.isDefEq.respectTransparency.types false in
theorem run_main : θ_run defs (onTc (τ := τ) (main (F := F))) (s₀ m ρ)
    (fun r => Pipeline.FramePostRG cfgs (dats m) 0 R0 (V m) (GG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ w => w.elim0) (G := GG m)
    (hin := fun _ => .rfl) (hout := fun c => by
      show Pipeline.ΦDRG osem0 (cfg0.spec) H0 R0 (V m) (GG m) c ⊢ _
      exact .rfl)

/-- The kernel's run: its arguments end unchanged, its results at the contents stated above, every counter at zero. -/
theorem run_value : θ_run defs (onTc (τ := τ) (main (F := F))) ⟨m, fun _ => 0, ρ⟩ (fun r => (∀ c : Dev nD,
      (r.2.mem ((c.tc : Thread nD τ).loc main_v7_0) = kDX m c
      ∧ r.2.mem ((c.tc : Thread nD τ).loc main_v7_1) = kDW m c
      ∧ r.2.mem ((c.tc : Thread nD τ).loc main_v7_2) = kDL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨⟨(h.1.written c (by decide)).trans (GG_0 m c), (h.1.written c (by decide)).trans (GG_1 m c), (h.1.written c (by decide)).trans (GG_2 m c)⟩,
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c),
      ((h.1.toR c).2 main_arg7 (Finset.mem_sdiff.mpr ⟨Pipeline.mem_restRefs_of main_arg7 (by decide) (by decide), by decide⟩)).trans (V_main_arg7 m c)⟩, h.2⟩) (run_main m ρ)

end Cert.Proof.Ideal

end
-- ==== Proof.Bits.Ring.lean ====
/-
  The names the proof works under: the twelve row blocks of `x` and of `dx`, the three slots of the ring that brings
  blocks of `x` in, the six slots of the ring that takes blocks of `dx` out, the two rings' DMA semaphores. The kernel
  writes each of them as a slice at an offset it computes from the loop's counter; every such offset is one of the
  closed forms below, and the equations marked `@[sl_canon]` name the slices by them.
-/
module

public import proofs.«01_k».proof.Proof.Gen.Kernel.Loops
public import proofs.«01_k».proof.Proof.Gen.Kernel.Launch
public import proofs.«01_k».proof.Proof.Gen.Kernel.Points
public import Idealize.ShloMosaic.Lib.Pipeline.FrameValue
public import Idealize.ShloMosaic.Lib.Ring
public import Idealize.ShloMosaic.Lib.Ring.Trips
public import Idealize.ShloMosaic.Lib.Tactic

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's, with the counters of the kernel's own transfers. -/
abbrev UU (nD : Nat) (τ : Topo) : Type := Pipeline.UD sig nD τ
local notation "𝕄" => MT nD τ sig Unit (Elt F) ℕ (UU nD τ) ℕ
abbrev 𝒱₀ : Variants := Variants.none

/-! ## The buffers and their pieces -/

abbrev xM : Memref sig .tc .hbm S1536x6144 .fp8e4m3 := Memref.whole main_arg3
abbrev dxM : Memref sig .tc .hbm S1536x6144 .bf16 := Memref.whole main_v7_0
abbrev xringM : Memref sig .tc .vmem S3x128x6144 .fp8e4m3 := Memref.whole cc0_scratch10
abbrev oringM : Memref sig .tc .vmem S6x128x6144 .bf16 := Memref.whole cc0_scratch9

abbrev blkOff (b : Fin 12) : Fin 2 → Nat := ![128 * b.val, 0]
theorem blkOff_inb (b : Fin 12) : ∀ a, blkOff b a + S128x6144.size a ≤ S1536x6144.size a := by
  have := b.isLt; intro a; fin_cases a
  · show 128 * b.val + 128 ≤ 1536; omega
  · show 0 + 6144 ≤ 6144; omega
abbrev xsOff (s : Fin 3) : Fin 3 → Nat := ![s.val, 0, 0]
theorem xsOff_inb (s : Fin 3) : ∀ a, xsOff s a + S1x128x6144.size a ≤ S3x128x6144.size a := by
  have := s.isLt; intro a; fin_cases a
  · show s.val + 1 ≤ 3; omega
  · show 0 + 128 ≤ 128; omega
  · show 0 + 6144 ≤ 6144; omega
abbrev osOff (s : Fin 6) : Fin 3 → Nat := ![s.val, 0, 0]
theorem osOff_inb (s : Fin 6) : ∀ a, osOff s a + S1x128x6144.size a ≤ S6x128x6144.size a := by
  have := s.isLt; intro a; fin_cases a
  · show s.val + 1 ≤ 6; omega
  · show 0 + 128 ≤ 128; omega
  · show 0 + 6144 ≤ 6144; omega
abbrev xcOff (s : Fin 3) : Fin 1 → Nat := ![s.val]
theorem xcOff_inb (s : Fin 3) : ∀ a, xcOff s a + S1.size a ≤ S3.size a := by
  have := s.isLt; intro a; fin_cases a; show s.val + 1 ≤ 3; omega
abbrev ocOff (s : Fin 6) : Fin 1 → Nat := ![s.val]
theorem ocOff_inb (s : Fin 6) : ∀ a, ocOff s a + S1.size a ≤ S6.size a := by
  have := s.isLt; intro a; fin_cases a; show s.val + 1 ≤ 6; omega

/-- Row block `b` of `x`. -/
def xblk (b : Fin 12) : Memref sig .tc .hbm S128x6144 .fp8e4m3 :=
  xM.slice (Rect.unit (s := S1536x6144) (blkOff b) S128x6144.size (blkOff_inb b)) (fun _ => rfl)
/-- Row block `b` of `dx`. -/
def oblk (b : Fin 12) : Memref sig .tc .hbm S128x6144 .bf16 :=
  dxM.slice (Rect.unit (s := S1536x6144) (blkOff b) S128x6144.size (blkOff_inb b)) (fun _ => rfl)
/-- Slot `s` of the ring for `x`. -/
def xslot (s : Fin 3) : Memref sig .tc .vmem S128x6144 .fp8e4m3 :=
  (xringM.slice (Rect.unit (s := S3x128x6144) (xsOff s) S1x128x6144.size (xsOff_inb s)) (fun _ => rfl)).squeeze S128x6144 squeezes_S1x128x6144_S128x6144
/-- Slot `s` of the ring for `dx`. -/
def oslot (s : Fin 6) : Memref sig .tc .vmem S128x6144 .bf16 :=
  (oringM.slice (Rect.unit (s := S6x128x6144) (osOff s) S1x128x6144.size (osOff_inb s)) (fun _ => rfl)).squeeze S128x6144 squeezes_S1x128x6144_S128x6144
/-- The two rings' DMA semaphores. -/
def xcell (s : Fin 3) : DmaSems sig S_ := (cc0_scratch14.slice (Rect.unit (s := S3) (xcOff s) S1.size (xcOff_inb s))).squeeze S_ squeezes_S1_S_
def ocell (s : Fin 6) : DmaSems sig S_ := (cc0_scratch15.slice (Rect.unit (s := S6) (ocOff s) S1.size (ocOff_inb s))).squeeze S_ squeezes_S1_S_

instance (s : Fin 3) : ClosedOff (xsOff s) := ⟨xsOff s, rfl⟩
instance (s : Fin 6) : ClosedOff (osOff s) := ⟨osOff s, rfl⟩
instance (b : Fin 12) : ClosedOff (blkOff b) := ⟨blkOff b, rfl⟩

/-! ## The computed offsets in closed form: twelve trips, each offset evaluated at each -/

abbrev Trip := Fin k0_t1_loop.trips
theorem trips_eq : k0_t1_loop.trips = 12 := by decide
theorem trip_lt (k : Trip) : k.val < 12 := trips_eq ▸ k.isLt

/-- The column tile at lane `n` of the slot a block of `x` has at trip `k`; the same for `dx`. -/
abbrev xTile (k : Trip) (n : Nat) : Fin 3 → Nat := ![(Ring.sl 3 k.val).val, 0, n]
abbrev oTile (k : Trip) (n : Nat) : Fin 3 → Nat := ![(Ring.sl 6 k.val).val, 0, n]

theorem off3_eq : ∀ k : Trip, k0_off3 k = xcOff (Ring.sl 3 k.val) := by decide +kernel
theorem off4_eq : ∀ k : Trip, k0_off4 k = xsOff (Ring.sl 3 k.val) := by decide +kernel
theorem off5_eq : ∀ k : Trip, k0_off5 k = blkOff (Ring.bk 12 k.val) := by decide +kernel
theorem off6_eq : ∀ k : Trip, 6 ≤ k.val → k0_off6 k = ocOff (Ring.sl 6 k.val) := by decide +kernel
theorem off7_eq : ∀ k : Trip, 6 ≤ k.val → k0_off7 k = blkOff (Ring.bk 12 (k.val - 6)) := by decide +kernel
theorem off8_eq : ∀ k : Trip, 6 ≤ k.val → k0_off8 k = osOff (Ring.sl 6 k.val) := by decide +kernel
theorem off9_eq : ∀ k : Trip, k0_off9 k = ![128 * k.val, 0] := by decide +kernel
theorem off10_eq : ∀ k : Trip, k0_off10 k = ![0, 128 * k.val] := by decide +kernel
theorem off11_eq : ∀ k : Trip, k0_off11 k = ![k.val, 0] := by decide +kernel
theorem off60_eq : ∀ k : Trip, k0_off60 k = ocOff (Ring.sl 6 k.val) := by decide +kernel
theorem off61_eq : ∀ k : Trip, k0_off61 k = osOff (Ring.sl 6 k.val) := by decide +kernel
theorem off62_eq : ∀ k : Trip, k.val + 3 < 12 → k0_off62 k = xcOff (Ring.sl 3 k.val) := by decide +kernel
theorem off63_eq : ∀ k : Trip, k.val + 3 < 12 → k0_off63 k = xsOff (Ring.sl 3 k.val) := by decide +kernel
theorem off64_eq : ∀ k : Trip, k.val + 3 < 12 → k0_off64 k = blkOff (Ring.bk 12 (k.val + 3)) := by decide +kernel
theorem cond1_of : ∀ k : Trip, 6 ≤ k.val → k0_cond1 k = 1#1 := by decide +kernel
theorem cond1_not : ∀ k : Trip, k.val < 6 → ¬ k0_cond1 k = 1#1 := by decide +kernel
theorem cond2_of : ∀ k : Trip, k.val + 3 < 12 → k0_cond2 k = 1#1 := by decide +kernel
theorem cond2_not : ∀ k : Trip, 12 ≤ k.val + 3 → ¬ k0_cond2 k = 1#1 := by decide +kernel

instance (k : Trip) : ClosedOff (k0_off12 k) := ⟨xTile k 0, by revert k; decide +kernel⟩
instance (k : Trip) : ClosedOff (k0_off14 k) := ⟨xTile k 256, by revert k; decide +kernel⟩
instance (k : Trip) : ClosedOff (k0_off16 k) := ⟨xTile k 512, by revert k; decide +kernel⟩
instance (k : Trip) : ClosedOff (k0_off18 k) := ⟨xTile k 768, by revert k; decide +kernel⟩
instance (k : Trip) : ClosedOff (k0_off20 k) := ⟨xTile k 1024, by revert k; decide +kernel⟩
instance (k : Trip) : ClosedOff (k0_off22 k) := ⟨xTile k 1280, by revert k; decide +kernel⟩
instance (k : Trip) : ClosedOff (k0_off24 k) := ⟨xTile k 1536, by revert k; decide +kernel⟩
instance (k : Trip) : ClosedOff (k0_off26 k) := ⟨xTile k 1792, by revert k; decide +kernel⟩
instance (k : Trip) : ClosedOff (k0_off28 k) := ⟨xTile k 2048, by revert k; decide +kernel⟩
instance (k : Trip) : ClosedOff (k0_off30 k) := ⟨xTile k 2304, by revert k; decide +kernel⟩
instance (k : Trip) : ClosedOff (k0_off32 k) := ⟨xTile k 2560, by revert k; decide +kernel⟩
instance (k : Trip) : ClosedOff (k0_off34 k) := ⟨xTile k 2816, by revert k; decide +kernel⟩
instance (k : Trip) : ClosedOff (k0_off36 k) := ⟨xTile k 3072, by revert k; decide +kernel⟩
instance (k : Trip) : ClosedOff (k0_off38 k) := ⟨xTile k 3328, by revert k; decide +kernel⟩
instance (k : Trip) : ClosedOff (k0_off40 k) := ⟨xTile k 3584, by revert k; decide +kernel⟩
instance (k : Trip) : ClosedOff (k0_off42 k) := ⟨xTile k 3840, by revert k; decide +kernel⟩
instance (k : Trip) : ClosedOff (k0_off44 k) := ⟨xTile k 4096, by revert k; decide +kernel⟩
instance (k : Trip) : ClosedOff (k0_off46 k) := ⟨xTile k 4352, by revert k; decide +kernel⟩
instance (k : Trip) : ClosedOff (k0_off48 k) := ⟨xTile k 4608, by revert k; decide +kernel⟩
instance (k : Trip) : ClosedOff (k0_off50 k) := ⟨xTile k 4864, by revert k; decide +kernel⟩
instance (k : Trip) : ClosedOff (k0_off52 k) := ⟨xTile k 5120, by revert k; decide +kernel⟩
instance (k : Trip) : ClosedOff (k0_off54 k) := ⟨xTile k 5376, by revert k; decide +kernel⟩
instance (k : Trip) : ClosedOff (k0_off56 k) := ⟨xTile k 5632, by revert k; decide +kernel⟩
instance (k : Trip) : ClosedOff (k0_off58 k) := ⟨xTile k 5888, by revert k; decide +kernel⟩
instance (k : Trip) : ClosedOff (k0_off13 k) := ⟨oTile k 0, by revert k; decide +kernel⟩
instance (k : Trip) : ClosedOff (k0_off15 k) := ⟨oTile k 256, by revert k; decide +kernel⟩
instance (k : Trip) : ClosedOff (k0_off17 k) := ⟨oTile k 512, by revert k; decide +kernel⟩
instance (k : Trip) : ClosedOff (k0_off19 k) := ⟨oTile k 768, by revert k; decide +kernel⟩
instance (k : Trip) : ClosedOff (k0_off21 k) := ⟨oTile k 1024, by revert k; decide +kernel⟩
instance (k : Trip) : ClosedOff (k0_off23 k) := ⟨oTile k 1280, by revert k; decide +kernel⟩
instance (k : Trip) : ClosedOff (k0_off25 k) := ⟨oTile k 1536, by revert k; decide +kernel⟩
instance (k : Trip) : ClosedOff (k0_off27 k) := ⟨oTile k 1792, by revert k; decide +kernel⟩
instance (k : Trip) : ClosedOff (k0_off29 k) := ⟨oTile k 2048, by revert k; decide +kernel⟩
instance (k : Trip) : ClosedOff (k0_off31 k) := ⟨oTile k 2304, by revert k; decide +kernel⟩
instance (k : Trip) : ClosedOff (k0_off33 k) := ⟨oTile k 2560, by revert k; decide +kernel⟩
instance (k : Trip) : ClosedOff (k0_off35 k) := ⟨oTile k 2816, by revert k; decide +kernel⟩
instance (k : Trip) : ClosedOff (k0_off37 k) := ⟨oTile k 3072, by revert k; decide +kernel⟩
instance (k : Trip) : ClosedOff (k0_off39 k) := ⟨oTile k 3328, by revert k; decide +kernel⟩
instance (k : Trip) : ClosedOff (k0_off41 k) := ⟨oTile k 3584, by revert k; decide +kernel⟩
instance (k : Trip) : ClosedOff (k0_off43 k) := ⟨oTile k 3840, by revert k; decide +kernel⟩
instance (k : Trip) : ClosedOff (k0_off45 k) := ⟨oTile k 4096, by revert k; decide +kernel⟩
instance (k : Trip) : ClosedOff (k0_off47 k) := ⟨oTile k 4352, by revert k; decide +kernel⟩
instance (k : Trip) : ClosedOff (k0_off49 k) := ⟨oTile k 4608, by revert k; decide +kernel⟩
instance (k : Trip) : ClosedOff (k0_off51 k) := ⟨oTile k 4864, by revert k; decide +kernel⟩
instance (k : Trip) : ClosedOff (k0_off53 k) := ⟨oTile k 5120, by revert k; decide +kernel⟩
instance (k : Trip) : ClosedOff (k0_off55 k) := ⟨oTile k 5376, by revert k; decide +kernel⟩
instance (k : Trip) : ClosedOff (k0_off57 k) := ⟨oTile k 5632, by revert k; decide +kernel⟩
instance (k : Trip) : ClosedOff (k0_off59 k) := ⟨oTile k 5888, by revert k; decide +kernel⟩
instance (k : Trip) : ClosedOff (k0_off9 k) := ⟨_, off9_eq k⟩
instance (k : Trip) : ClosedOff (k0_off10 k) := ⟨_, off10_eq k⟩
instance (k : Trip) : ClosedOff (k0_off11 k) := ⟨_, off11_eq k⟩

/-! ## The slices named -/

theorem xcell_congr {off : Fin 1 → Nat} {s : Fin 3} (e : off = xcOff s) (hh) :
    (cc0_scratch14.slice (Rect.unit (s := S3) off S1.size hh)).squeeze S_ squeezes_S1_S_ = xcell s :=
  congrArg (fun A : DmaSems sig S1 => A.squeeze S_ squeezes_S1_S_) (SemArray.slice_unit_congr _ e _ _)
theorem ocell_congr {off : Fin 1 → Nat} {s : Fin 6} (e : off = ocOff s) (hh) :
    (cc0_scratch15.slice (Rect.unit (s := S6) off S1.size hh)).squeeze S_ squeezes_S1_S_ = ocell s :=
  congrArg (fun A : DmaSems sig S1 => A.squeeze S_ squeezes_S1_S_) (SemArray.slice_unit_congr _ e _ _)
theorem xslot_congr {off : Fin 3 → Nat} {s : Fin 3} (e : off = xsOff s) (hh hs) :
    (xringM.slice (Rect.unit (s := S3x128x6144) off S1x128x6144.size hh) hs).squeeze S128x6144 squeezes_S1x128x6144_S128x6144 = xslot s :=
  congrArg (fun M : Memref sig .tc .vmem S1x128x6144 .fp8e4m3 => M.squeeze S128x6144 squeezes_S1x128x6144_S128x6144) (Memref.slice_unit_congr _ e _ _ _ _)
theorem oslot_congr {off : Fin 3 → Nat} {s : Fin 6} (e : off = osOff s) (hh hs) :
    (oringM.slice (Rect.unit (s := S6x128x6144) off S1x128x6144.size hh) hs).squeeze S128x6144 squeezes_S1x128x6144_S128x6144 = oslot s :=
  congrArg (fun M : Memref sig .tc .vmem S1x128x6144 .bf16 => M.squeeze S128x6144 squeezes_S1x128x6144_S128x6144) (Memref.slice_unit_congr _ e _ _ _ _)
theorem xblk_congr {off : Fin 2 → Nat} {b : Fin 12} (e : off = blkOff b) (hh hs) :
    xM.slice (Rect.unit (s := S1536x6144) off S128x6144.size hh) hs = xblk b := Memref.slice_unit_congr _ e _ _ _ (fun _ => rfl)
theorem oblk_congr {off : Fin 2 → Nat} {b : Fin 12} (e : off = blkOff b) (hh hs) :
    dxM.slice (Rect.unit (s := S1536x6144) off S128x6144.size hh) hs = oblk b := Memref.slice_unit_congr _ e _ _ _ (fun _ => rfl)

/-- A trip's: the block of `x` waited, the one issued, the block of `dx` waited, the one issued. -/
@[sl_canon] theorem xcellW (k : Trip) (hh) : (cc0_scratch14.slice (Rect.unit (s := S3) (k0_off3 k) S1.size hh)).squeeze S_ squeezes_S1_S_ = xcell (Ring.sl 3 k.val) := xcell_congr (off3_eq k) _
@[sl_canon] theorem xslotW (k : Trip) (hh hs) : (xringM.slice (Rect.unit (s := S3x128x6144) (k0_off4 k) S1x128x6144.size hh) hs).squeeze S128x6144 squeezes_S1x128x6144_S128x6144 = xslot (Ring.sl 3 k.val) := xslot_congr (off4_eq k) _ _
@[sl_canon] theorem xblkW (k : Trip) (hh hs) : xM.slice (Rect.unit (s := S1536x6144) (k0_off5 k) S128x6144.size hh) hs = xblk (Ring.bk 12 k.val) := xblk_congr (off5_eq k) _ _
@[sl_canon] theorem xcellI (k : Trip) (h : k.val + 3 < 12) (hh) : (cc0_scratch14.slice (Rect.unit (s := S3) (k0_off62 k) S1.size hh)).squeeze S_ squeezes_S1_S_ = xcell (Ring.sl 3 k.val) := xcell_congr (off62_eq k h) _
@[sl_canon] theorem xslotI (k : Trip) (h : k.val + 3 < 12) (hh hs) : (xringM.slice (Rect.unit (s := S3x128x6144) (k0_off63 k) S1x128x6144.size hh) hs).squeeze S128x6144 squeezes_S1x128x6144_S128x6144 = xslot (Ring.sl 3 k.val) := xslot_congr (off63_eq k h) _ _
@[sl_canon] theorem xblkI (k : Trip) (h : k.val + 3 < 12) (hh hs) : xM.slice (Rect.unit (s := S1536x6144) (k0_off64 k) S128x6144.size hh) hs = xblk (Ring.bk 12 (k.val + 3)) := xblk_congr (off64_eq k h) _ _
@[sl_canon] theorem ocellW (k : Trip) (h : 6 ≤ k.val) (hh) : (cc0_scratch15.slice (Rect.unit (s := S6) (k0_off6 k) S1.size hh)).squeeze S_ squeezes_S1_S_ = ocell (Ring.sl 6 k.val) := ocell_congr (off6_eq k h) _
@[sl_canon] theorem oblkW (k : Trip) (h : 6 ≤ k.val) (hh hs) : dxM.slice (Rect.unit (s := S1536x6144) (k0_off7 k) S128x6144.size hh) hs = oblk (Ring.bk 12 (k.val - 6)) := oblk_congr (off7_eq k h) _ _
@[sl_canon] theorem oslotW (k : Trip) (h : 6 ≤ k.val) (hh hs) : (oringM.slice (Rect.unit (s := S6x128x6144) (k0_off8 k) S1x128x6144.size hh) hs).squeeze S128x6144 squeezes_S1x128x6144_S128x6144 = oslot (Ring.sl 6 k.val) := oslot_congr (off8_eq k h) _ _
@[sl_canon] theorem ocellI (k : Trip) (hh) : (cc0_scratch15.slice (Rect.unit (s := S6) (k0_off60 k) S1.size hh)).squeeze S_ squeezes_S1_S_ = ocell (Ring.sl 6 k.val) := ocell_congr (off60_eq k) _
@[sl_canon] theorem oblkI (k : Trip) (hh hs) : dxM.slice (Rect.unit (s := S1536x6144) (k0_off5 k) S128x6144.size hh) hs = oblk (Ring.bk 12 k.val) := oblk_congr (off5_eq k) _ _
@[sl_canon] theorem oslotI (k : Trip) (hh hs) : (oringM.slice (Rect.unit (s := S6x128x6144) (k0_off61 k) S1x128x6144.size hh) hs).squeeze S128x6144 squeezes_S1x128x6144_S128x6144 = oslot (Ring.sl 6 k.val) := oslot_congr (off61_eq k) _ _

/-- Before the loop: the first three blocks of `x` issued. -/
@[sl_canon] theorem xcellP0 (hh) : (cc0_scratch14.slice (Rect.unit (s := S3) (k0_off1 0#32) S1.size hh)).squeeze S_ squeezes_S1_S_ = xcell 0 := xcell_congr (by decide +kernel) _
@[sl_canon] theorem xslotP0 (hh hs) : (xringM.slice (Rect.unit (s := S3x128x6144) (k0_off2 0#32) S1x128x6144.size hh) hs).squeeze S128x6144 squeezes_S1x128x6144_S128x6144 = xslot 0 := xslot_congr (by decide +kernel) _ _
@[sl_canon] theorem xblkP0 (hh hs) : xM.slice (Rect.unit (s := S1536x6144) ![0, 0] S128x6144.size hh) hs = xblk 0 := xblk_congr (by decide +kernel) _ _
@[sl_canon] theorem xcellP1 (hh) : (cc0_scratch14.slice (Rect.unit (s := S3) (k0_off1 1#32) S1.size hh)).squeeze S_ squeezes_S1_S_ = xcell 1 := xcell_congr (by decide +kernel) _
@[sl_canon] theorem xslotP1 (hh hs) : (xringM.slice (Rect.unit (s := S3x128x6144) (k0_off2 1#32) S1x128x6144.size hh) hs).squeeze S128x6144 squeezes_S1x128x6144_S128x6144 = xslot 1 := xslot_congr (by decide +kernel) _ _
@[sl_canon] theorem xblkP1 (hh hs) : xM.slice (Rect.unit (s := S1536x6144) ![128, 0] S128x6144.size hh) hs = xblk 1 := xblk_congr (by decide +kernel) _ _
@[sl_canon] theorem xcellP2 (hh) : (cc0_scratch14.slice (Rect.unit (s := S3) (k0_off1 2#32) S1.size hh)).squeeze S_ squeezes_S1_S_ = xcell 2 := xcell_congr (by decide +kernel) _
@[sl_canon] theorem xslotP2 (hh hs) : (xringM.slice (Rect.unit (s := S3x128x6144) (k0_off2 2#32) S1x128x6144.size hh) hs).squeeze S128x6144 squeezes_S1x128x6144_S128x6144 = xslot 2 := xslot_congr (by decide +kernel) _ _
@[sl_canon] theorem xblkP2 (hh hs) : xM.slice (Rect.unit (s := S1536x6144) ![256, 0] S128x6144.size hh) hs = xblk 2 := xblk_congr (by decide +kernel) _ _
/-- After the loop: the last six blocks of `dx` waited. -/
@[sl_canon] theorem ocellE0 (hh) : (cc0_scratch15.slice (Rect.unit (s := S6) (k0_off65 6#32) S1.size hh)).squeeze S_ squeezes_S1_S_ = ocell 0 := ocell_congr (by decide +kernel) _
@[sl_canon] theorem oslotE0 (hh hs) : (oringM.slice (Rect.unit (s := S6x128x6144) (k0_off66 6#32) S1x128x6144.size hh) hs).squeeze S128x6144 squeezes_S1x128x6144_S128x6144 = oslot 0 := oslot_congr (by decide +kernel) _ _
@[sl_canon] theorem oblkE0 (hh hs) : dxM.slice (Rect.unit (s := S1536x6144) ![768, 0] S128x6144.size hh) hs = oblk 6 := oblk_congr (by decide +kernel) _ _
@[sl_canon] theorem ocellE1 (hh) : (cc0_scratch15.slice (Rect.unit (s := S6) (k0_off65 7#32) S1.size hh)).squeeze S_ squeezes_S1_S_ = ocell 1 := ocell_congr (by decide +kernel) _
@[sl_canon] theorem oslotE1 (hh hs) : (oringM.slice (Rect.unit (s := S6x128x6144) (k0_off66 7#32) S1x128x6144.size hh) hs).squeeze S128x6144 squeezes_S1x128x6144_S128x6144 = oslot 1 := oslot_congr (by decide +kernel) _ _
@[sl_canon] theorem oblkE1 (hh hs) : dxM.slice (Rect.unit (s := S1536x6144) ![896, 0] S128x6144.size hh) hs = oblk 7 := oblk_congr (by decide +kernel) _ _
@[sl_canon] theorem ocellE2 (hh) : (cc0_scratch15.slice (Rect.unit (s := S6) (k0_off65 8#32) S1.size hh)).squeeze S_ squeezes_S1_S_ = ocell 2 := ocell_congr (by decide +kernel) _
@[sl_canon] theorem oslotE2 (hh hs) : (oringM.slice (Rect.unit (s := S6x128x6144) (k0_off66 8#32) S1x128x6144.size hh) hs).squeeze S128x6144 squeezes_S1x128x6144_S128x6144 = oslot 2 := oslot_congr (by decide +kernel) _ _
@[sl_canon] theorem oblkE2 (hh hs) : dxM.slice (Rect.unit (s := S1536x6144) ![1024, 0] S128x6144.size hh) hs = oblk 8 := oblk_congr (by decide +kernel) _ _
@[sl_canon] theorem ocellE3 (hh) : (cc0_scratch15.slice (Rect.unit (s := S6) (k0_off65 9#32) S1.size hh)).squeeze S_ squeezes_S1_S_ = ocell 3 := ocell_congr (by decide +kernel) _
@[sl_canon] theorem oslotE3 (hh hs) : (oringM.slice (Rect.unit (s := S6x128x6144) (k0_off66 9#32) S1x128x6144.size hh) hs).squeeze S128x6144 squeezes_S1x128x6144_S128x6144 = oslot 3 := oslot_congr (by decide +kernel) _ _
@[sl_canon] theorem oblkE3 (hh hs) : dxM.slice (Rect.unit (s := S1536x6144) ![1152, 0] S128x6144.size hh) hs = oblk 9 := oblk_congr (by decide +kernel) _ _
@[sl_canon] theorem ocellE4 (hh) : (cc0_scratch15.slice (Rect.unit (s := S6) (k0_off65 10#32) S1.size hh)).squeeze S_ squeezes_S1_S_ = ocell 4 := ocell_congr (by decide +kernel) _
@[sl_canon] theorem oslotE4 (hh hs) : (oringM.slice (Rect.unit (s := S6x128x6144) (k0_off66 10#32) S1x128x6144.size hh) hs).squeeze S128x6144 squeezes_S1x128x6144_S128x6144 = oslot 4 := oslot_congr (by decide +kernel) _ _
@[sl_canon] theorem oblkE4 (hh hs) : dxM.slice (Rect.unit (s := S1536x6144) ![1280, 0] S128x6144.size hh) hs = oblk 10 := oblk_congr (by decide +kernel) _ _
@[sl_canon] theorem ocellE5 (hh) : (cc0_scratch15.slice (Rect.unit (s := S6) (k0_off65 11#32) S1.size hh)).squeeze S_ squeezes_S1_S_ = ocell 5 := ocell_congr (by decide +kernel) _
@[sl_canon] theorem oslotE5 (hh hs) : (oringM.slice (Rect.unit (s := S6x128x6144) (k0_off66 11#32) S1x128x6144.size hh) hs).squeeze S128x6144 squeezes_S1x128x6144_S128x6144 = oslot 5 := oslot_congr (by decide +kernel) _ _
@[sl_canon] theorem oblkE5 (hh hs) : dxM.slice (Rect.unit (s := S1536x6144) ![1408, 0] S128x6144.size hh) hs = oblk 11 := oblk_congr (by decide +kernel) _ _

end Cert.Proof.Bits

end
-- ==== Proof.Bits.Tile.lean ====
/-
  What one trip computes: the payloads of its 24 column tiles as functions of the arguments, and the contents the stores
  of those tiles leave in the ring slot of `dx` and in the accumulator of `dWr`.
-/
module

public import proofs.«01_k».proof.Proof.Bits.Ring
public import Idealize.ShloMosaic.Lib.WritesUnit
public import Idealize.ShloMosaic.Lib.Pointwise.Index
public import Idealize.ShloMosaic.Lib.Pipeline.Value

@[expose] public section

noncomputable section

namespace Cert.Proof.Bits

open Cert.Kernel Cert.Kernel.Gen
open Idealize.ShloMosaic
open Idealize.ShloMosaic.TcCoe Idealize.ShloMosaic.Tactic

variable {F : FTy → Type} [FloatOps F]

abbrev dbM : Memref sig .tc .vmem S1536x128 .bf16 := Memref.whole cc0_scratch11
abbrev dbtM : Memref sig .tc .vmem S16x1536 .bf16 := Memref.whole cc0_scratch12
abbrev xsM : Memref sig .tc .vmem S12x128 .f32 := Memref.whole cc0_scratch4
abbrev wrM : Memref sig .tc .vmem S16x6144 .bf16 := Memref.whole cc0_scratch5
abbrev dwrM : Memref sig .tc .vmem S8x6144 .f32 := Memref.whole cc0_scratch6

/-! ## Reading a slot -/

theorem xslot_read (s : Fin 3) (g : xringM.view.ty.Contents (Elt F)) (a : Fin 128) (b : Fin 6144) :
    (xslot s).view.read (Elt F) g (ix2 a b) = xringM.view.read (Elt F) g (ix3 s a b) := by
  refine (congrFun (Memref.read_squeeze_slice (Val := Elt F) xringM (Rect.unit (s := S3x128x6144) (xsOff s) S1x128x6144.size (xsOff_inb s)) (fun _ => rfl) squeezes_S1x128x6144_S128x6144 squeezes_S1x128x6144_S128x6144.numel_eq g) (ix2 a b)).trans ?_
  refine (shapeCast_apply _ _ (ix2 a b) (ix3 (0 : Fin 1) a b) ?_).trans ?_
  · rw [Shape.rowMajor_val_three, Shape.rowMajor_val_two]
    show ((0 * 128 + a.val) * 6144 + b.val) = a.val * 6144 + b.val
    omega
  · refine congrArg (xringM.view.read (Elt F) g) (funext fun i => Fin.ext ?_)
    match i with
    | ⟨0, _⟩ => show s.val + 1 * 0 = s.val; omega
    | ⟨1, _⟩ => show 0 + 1 * a.val = a.val; omega
    | ⟨2, _⟩ => show 0 + 1 * b.val = b.val; omega

theorem oslot_read (s : Fin 6) (g : oringM.view.ty.Contents (Elt F)) (a : Fin 128) (b : Fin 6144) :
    (oslot s).view.read (Elt F) g (ix2 a b) = oringM.view.read (Elt F) g (ix3 s a b) := by
  refine (congrFun (Memref.read_squeeze_slice (Val := Elt F) oringM (Rect.unit (s := S6x128x6144) (osOff s) S1x128x6144.size (osOff_inb s)) (fun _ => rfl) squeezes_S1x128x6144_S128x6144 squeezes_S1x128x6144_S128x6144.numel_eq g) (ix2 a b)).trans ?_
  refine (shapeCast_apply _ _ (ix2 a b) (ix3 (0 : Fin 1) a b) ?_).trans ?_
  · rw [Shape.rowMajor_val_three, Shape.rowMajor_val_two]
    show ((0 * 128 + a.val) * 6144 + b.val) = a.val * 6144 + b.val
    omega
  · refine congrArg (oringM.view.read (Elt F) g) (funext fun i => Fin.ext ?_)
    match i with
    | ⟨0, _⟩ => show s.val + 1 * 0 = s.val; omega
    | ⟨1, _⟩ => show 0 + 1 * a.val = a.val; omega
    | ⟨2, _⟩ => show 0 + 1 * b.val = b.val; omega

/-- A view whose whole was just written reads what was written. -/
theorem read_writes_whole {κ : Kind} {sp : Space} {s : Shape} {e : EltTy} (v : View sig κ sp s e) (f : v.ty.Contents (Elt F))
    (w : s.Idx → Elt F e) : v.read (Elt F) (v.writes (Elt F) f [⟨Rect.whole s, w⟩]) = w := by
  funext y
  have h := View.read_writes_cons_emb v f (Rect.whole s) w [] y
  have e : (Rect.whole s).emb y = y := funext fun a => Fin.ext (by
    show 0 + 1 * (y a).val = (y a).val
    omega)
  rw [e] at h
  exact h

/-! ## The payloads -/

section Vals
variable (X : xM.view.ty.Contents (Elt F)) (fdb : dbM.view.ty.Contents (Elt F)) (fdbt : dbtM.view.ty.Contents (Elt F))
  (fxs : xsM.view.ty.Contents (Elt F)) (fwr : wrM.view.ty.Contents (Elt F))

/-- The left operand of trip `k`'s products. -/
def lhsV (k : Trip) : FVec F S144x144 .bf16 :=
  k0_pay1 (dbM.view.readAt (Elt F) (Rect.unit (s := S1536x128) (k0_off9 k) S128x128.size (k0_off9_inb k)).toLoadRect fdb)
    (dbtM.view.readAt (Elt F) (Rect.unit (s := S16x1536) (k0_off10 k) S16x128.size (k0_off10_inb k)).toLoadRect fdbt)
/-- The scales of trip `k`'s rows. -/
def xsV (k : Trip) : Vec F S1x128 .f32 := xsM.view.readAt (Elt F) (Rect.unit (s := S12x128) (k0_off11 k) S1x128.size (k0_off11_inb k)).toLoadRect fxs
/-- Column tile `n` of the block of `x`. -/
def xtV (b : Fin 12) (n : Fin 24) : Vec F S1x128x256 .fp8e4m3 :=
  fun j => (xblk b).view.read (Elt F) X (ix2 (n0 := 128) (n1 := 6144) (j 1) ⟨256 * n.val + (j 2).val, by have h : (j 2).val < 256 := (j 2).isLt; have := n.isLt; omega⟩)
theorem wr_inb (n : Fin 24) : ∀ a, (![0, 256 * n.val] : Fin 2 → ℕ) a + S16x256.size a ≤ S16x6144.size a := by
  have := n.isLt; intro a; fin_cases a
  · show 0 + 16 ≤ 16; omega
  · show 256 * n.val + 256 ≤ 6144; omega
/-- Column tile `n` of the router's weights. -/
def wtV (n : Fin 24) : Vec F S16x256 .bf16 :=
  wrM.view.readAt (Elt F) (Rect.unit (s := S16x6144) ![0, 256 * n.val] S16x256.size (wr_inb n)).toLoadRect fwr
/-- What trip `k` stores at column tile `n` of its slot of `dx`. -/
def oTileV (k : Trip) (n : Fin 24) : Vec F S1x128x256 .bf16 := k0_pay8 (lhsV fdb fdbt k) (k0_pay2 (xsV fxs k)) (xtV X (Ring.bk 12 k.val) n) (wtV fwr n)
/-- The block of `dx` that trip `k` computes. -/
def dxv (k : Trip) : S128x6144.Idx → Elt F .bf16 := fun j =>
  oTileV X fdb fdbt fxs fwr k ⟨(j 1).val / 256, by have h : (j 1).val < 6144 := (j 1).isLt; omega⟩ (ix3 (n0 := 1) (n1 := 128) (n2 := 256) 0 (j 0) ⟨(j 1).val % 256, Nat.mod_lt _ (by omega)⟩)

theorem dwr_inb (n : Fin 24) : ∀ a, (![0, 256 * n.val] : Fin 2 → ℕ) a + S8x256.size a ≤ S8x6144.size a := by
  have := n.isLt; intro a; fin_cases a
  · show 0 + 8 ≤ 8; omega
  · show 256 * n.val + 256 ≤ 6144; omega
/-- What trip `k` stores at column tile `n` of the accumulator. -/
def dTileV (k : Trip) (fd : dwrM.view.ty.Contents (Elt F)) (n : Fin 24) : Vec F S8x256 .f32 :=
  k0_pay9 (lhsV fdb fdbt k) (k0_pay2 (xsV fxs k)) (xtV X (Ring.bk 12 k.val) n) (wtV fwr n)
    (dwrM.view.readAt (Elt F) (Rect.unit (s := S8x6144) ![0, 256 * n.val] S8x256.size (dwr_inb n)).toLoadRect fd)
/-- The accumulator of `dWr` after trip `k`. -/
def dwrStep (k : Trip) (fd : dwrM.view.ty.Contents (Elt F)) : dwrM.view.ty.Contents (Elt F) := fun j : S8x6144.Idx =>
  dTileV X fdb fdbt fxs fwr k fd ⟨(j 1).val / 256, by have h : (j 1).val < 6144 := (j 1).isLt; omega⟩ (ix2 (n0 := 8) (n1 := 256) (j 0) ⟨(j 1).val % 256, Nat.mod_lt _ (by omega)⟩)

/-! ## The tiles put in place -/

/-- The slot that holds the landed block of `x`, read at column tile `n`. -/
theorem xtile_eq (k : Trip) (n : Fin 24) (f0 : (xslot (Ring.sl 3 k.val)).view.ty.Contents (Elt F)) {off : Fin 3 → Nat}
    (hoff : off = xTile k (256 * n.val)) (inb : ∀ a, off a + S1x128x256.size a ≤ S3x128x6144.size a) :
    xringM.view.readAt (Elt F) (Rect.unit (s := S3x128x6144) off S1x128x256.size inb).toLoadRect
      ((xslot (Ring.sl 3 k.val)).view.writes (Elt F) f0 [⟨Rect.whole S128x6144, ReadAs.same.apply ((xblk (Ring.bk 12 k.val)).view.read (Elt F) X)⟩])
    = xtV X (Ring.bk 12 k.val) n := by
  subst hoff
  funext j
  have hb : 256 * n.val + (j 2).val < 6144 := by have h : (j 2).val < 256 := (j 2).isLt; have := n.isLt; omega
  have h1 := xslot_read (F := F) (Ring.sl 3 k.val) ((xslot (Ring.sl 3 k.val)).view.writes (Elt F) f0 [⟨Rect.whole S128x6144, ReadAs.same.apply ((xblk (Ring.bk 12 k.val)).view.read (Elt F) X)⟩]) (j 1) ⟨256 * n.val + (j 2).val, hb⟩
  rw [read_writes_whole] at h1
  refine Eq.trans ?_ h1.symm
  refine congrArg (xringM.view.read (Elt F) _) (funext fun i => Fin.ext ?_)
  match i with
  | ⟨0, _⟩ => show (Ring.sl 3 k.val).val + 1 * (j 0).val = (Ring.sl 3 k.val).val; have h : (j 0).val < 1 := (j 0).isLt; omega
  | ⟨1, _⟩ => show 0 + 1 * (j 1).val = (j 1).val; omega
  | ⟨2, _⟩ => show 256 * n.val + 1 * (j 2).val = 256 * n.val + (j 2).val; omega

/-- The first `n` column tiles of the slot of `dx` are in place. -/
def oReady (k : Trip) (n : Nat) (g : oringM.view.ty.Contents (Elt F)) : Prop :=
  ∀ (a : Fin 128) (b : Fin 6144), b.val < 256 * n →
    oringM.view.read (Elt F) g (ix3 (Ring.sl 6 k.val) a b) = dxv X fdb fdbt fxs fwr k (ix2 a b)

theorem oReady_zero (k : Trip) (g) : oReady X fdb fdbt fxs fwr k 0 g := fun a b h => absurd h (by omega)

theorem oReady_step (k : Trip) (n : Nat) (hn : n < 24) (g : oringM.view.ty.Contents (Elt F)) {off offx : Fin 3 → Nat}
    (inb : ∀ a, off a + S1x128x256.size a ≤ S6x128x6144.size a) (inbx : ∀ a, offx a + S1x128x256.size a ≤ S3x128x6144.size a)
    (w : (Rect.unit (s := S6x128x6144) off S1x128x256.size inb).shape.Idx → Elt F .bf16)
    (f0 : (xslot (Ring.sl 3 k.val)).view.ty.Contents (Elt F))
    (hoff : off = oTile k (256 * n)) (hoffx : offx = xTile k (256 * n))
    (hw : w = k0_pay8 (lhsV fdb fdbt k) (k0_pay2 (xsV fxs k))
      (xringM.view.readAt (Elt F) (Rect.unit (s := S3x128x6144) offx S1x128x256.size inbx).toLoadRect
        ((xslot (Ring.sl 3 k.val)).view.writes (Elt F) f0 [⟨Rect.whole S128x6144, ReadAs.same.apply ((xblk (Ring.bk 12 k.val)).view.read (Elt F) X)⟩]))
      (wtV fwr ⟨n, hn⟩))
    (ih : oReady X fdb fdbt fxs fwr k n g) :
    oReady X fdb fdbt fxs fwr k (n + 1) (View.write (Elt F) (oringM.access (Rect.unit (s := S6x128x6144) off S1x128x256.size inb)) g w Finset.univ) := by
  show oReady X fdb fdbt fxs fwr k (n + 1) (oringM.view.writes (Elt F) g [⟨Rect.unit (s := S6x128x6144) off S1x128x256.size inb, w⟩])
  intro a b hb
  by_cases h : b.val < 256 * n
  · refine (View.read_writes_cons_unit_of_not_mem oringM.view g inb w [] (ix3 (Ring.sl 6 k.val) a b) hoff 2 (Or.inl h)).trans (ih a b h)
  · refine (View.read_writes_cons_unit_of_mem oringM.view g inb w [] (ix3 (Ring.sl 6 k.val) a b) (ix3 (n0 := 1) (n1 := 128) (n2 := 256) 0 a ⟨b.val - 256 * n, by omega⟩) hoff ?_).trans ?_
    · intro i
      match i with
      | ⟨0, _⟩ => show (Ring.sl 6 k.val).val = (Ring.sl 6 k.val).val + 0; omega
      | ⟨1, _⟩ => show a.val = 0 + a.val; omega
      | ⟨2, _⟩ => show b.val = 256 * n + (b.val - 256 * n); omega
    · rw [hw, xtile_eq X k ⟨n, hn⟩ f0 hoffx inbx]
      have e1 : b.val / 256 = n := by omega
      have e2 : b.val % 256 = b.val - 256 * n := by omega
      unfold dxv oTileV
      simp only [ix2_0, ix2_1, e1, e2]

theorem oReady_done (k : Trip) (g) (h : oReady X fdb fdbt fxs fwr k 24 g) :
    ReadAs.same.apply ((oslot (Ring.sl 6 k.val)).view.read (Elt F) g) = dxv X fdb fdbt fxs fwr k := by
  funext j
  show (oslot (Ring.sl 6 k.val)).view.read (Elt F) g j = _
  have e : j = ix2 (n0 := 128) (n1 := 6144) (j 0) (j 1) := eq_ix2 j
  rw [e]
  exact (oslot_read _ g _ _).trans (h _ _ (by have h : (j 1).val < 6144 := (j 1).isLt; omega))

/-- The first `n` column tiles of the accumulator are this trip's. -/
def dReady (k : Trip) (fd : dwrM.view.ty.Contents (Elt F)) (n : Nat) (g : dwrM.view.ty.Contents (Elt F)) : Prop :=
  ∀ (a : Fin 8) (b : Fin 6144), b.val < 256 * n → dwrM.view.read (Elt F) g (ix2 a b) = dwrM.view.read (Elt F) (dwrStep X fdb fdbt fxs fwr k fd) (ix2 a b)

theorem dReady_zero (k : Trip) (fd g) : dReady X fdb fdbt fxs fwr k fd 0 g := fun a b h => absurd h (by omega)

theorem dReady_step (k : Trip) (n : Nat) (hn : n < 24) (fd : dwrM.view.ty.Contents (Elt F)) (L : List (View.Piece (Elt F) S8x6144 .f32)) {offx : Fin 3 → Nat}
    {off : Fin 2 → Nat}
    (inb : ∀ a, off a + S8x256.size a ≤ S8x6144.size a) (inbx : ∀ a, offx a + S1x128x256.size a ≤ S3x128x6144.size a)
    (w : (Rect.unit (s := S8x6144) off S8x256.size inb).shape.Idx → Elt F .f32)
    (f0 : (xslot (Ring.sl 3 k.val)).view.ty.Contents (Elt F))
    (hoff : off = ![0, 256 * n]) (hoffx : offx = xTile k (256 * n))
    (hw : w = k0_pay9 (lhsV fdb fdbt k) (k0_pay2 (xsV fxs k))
      (xringM.view.readAt (Elt F) (Rect.unit (s := S3x128x6144) offx S1x128x256.size inbx).toLoadRect
        ((xslot (Ring.sl 3 k.val)).view.writes (Elt F) f0 [⟨Rect.whole S128x6144, ReadAs.same.apply ((xblk (Ring.bk 12 k.val)).view.read (Elt F) X)⟩]))
      (wtV fwr ⟨n, hn⟩)
      (dwrM.view.readAt (Elt F) (Rect.unit (s := S8x6144) ![0, 256 * n] S8x256.size (dwr_inb ⟨n, hn⟩)).toLoadRect fd))
    (ih : dReady X fdb fdbt fxs fwr k fd n (dwrM.view.writes (Elt F) fd L)) :
    dReady X fdb fdbt fxs fwr k fd (n + 1) (dwrM.view.writes (Elt F) fd (⟨Rect.unit (s := S8x6144) off S8x256.size inb, w⟩ :: L)) := by
  intro a b hb
  by_cases h : b.val < 256 * n
  · refine (View.read_writes_cons_unit_of_not_mem dwrM.view fd inb w L (ix2 a b) hoff 1 (Or.inl h)).trans (ih a b h)
  · refine (View.read_writes_cons_unit_of_mem dwrM.view fd inb w L (ix2 a b) (ix2 (n0 := 8) (n1 := 256) a ⟨b.val - 256 * n, by omega⟩) hoff ?_).trans ?_
    · intro i
      match i with
      | ⟨0, _⟩ => show a.val = 0 + a.val; omega
      | ⟨1, _⟩ => show b.val = 256 * n + (b.val - 256 * n); omega
    · rw [hw, xtile_eq X k ⟨n, hn⟩ f0 hoffx inbx]
      have e1 : b.val / 256 = n := by omega
      have e2 : b.val % 256 = b.val - 256 * n := by omega
      show dTileV X fdb fdbt fxs fwr k fd ⟨n, hn⟩ (ix2 (n0 := 8) (n1 := 256) a ⟨b.val - 256 * n, by omega⟩)
        = dTileV X fdb fdbt fxs fwr k fd ⟨b.val / 256, by omega⟩ (ix2 (n0 := 8) (n1 := 256) a ⟨b.val % 256, Nat.mod_lt _ (by omega)⟩)
      exact congr (congrArg (dTileV X fdb fdbt fxs fwr k fd) (Fin.ext e1.symm)) (congrArg (ix2 (n0 := 8) (n1 := 256) a) (Fin.ext e2.symm))

theorem dReady_done (k : Trip) (fd g : dwrM.view.ty.Contents (Elt F)) (h : dReady X fdb fdbt fxs fwr k fd 24 g) : g = dwrStep X fdb fdbt fxs fwr k fd := by
  funext j
  have e : j = ix2 (n0 := 8) (n1 := 6144) (j 0) (j 1) := eq_ix2 (n0 := 8) (n1 := 6144) j
  have := h (j 0) (j 1) (by have h : (j 1).val < 6144 := (j 1).isLt; omega)
  rw [← e] at this
  exact this

end Vals

end Cert.Proof.Bits

end
-- ==== Proof.Bits.Pieces.lean ====
/-
  The pieces of the buffers that the transfers carry, and the body of one trip.
-/
module

public import proofs.«01_k».proof.Proof.Bits.Tile

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The pieces -/

section Pieces
variable (c : Dev nD) (X : Buf (Elt F) (xM.view.loc (c : Thread nD τ)))

abbrev xcellP (s : Fin 3) : sProp 𝕄 := semVal ((c : Thread nD τ), SemLoc.dma (xcell s).sem) 0
abbrev ocellP (s : Fin 6) : sProp 𝕄 := semVal ((c : Thread nD τ), SemLoc.dma (ocell s).sem) 0
abbrev xslotP (s : Fin 3) (f : Buf (Elt F) ((xslot s).view.loc (c : Thread nD τ))) : sProp 𝕄 :=
  (xslot s).view.loc (c : Thread nD τ) ↦[(xslot s).view.set]{fullShare} f
abbrev oslotP (s : Fin 6) (f : Buf (Elt F) ((oslot s).view.loc (c : Thread nD τ))) : sProp 𝕄 :=
  (oslot s).view.loc (c : Thread nD τ) ↦[(oslot s).view.set]{fullShare} f
abbrev xblkP (b : Fin 12) : sProp 𝕄 := (xblk b).view.loc (c : Thread nD τ) ↦[(xblk b).view.set]{fullShare} X
abbrev oblkP (b : Fin 12) (f : Buf (Elt F) ((oblk b).view.loc (c : Thread nD τ))) : sProp 𝕄 :=
  (oblk b).view.loc (c : Thread nD τ) ↦[(oblk b).view.set]{fullShare} f
abbrev wholeP {sp : Space} {s : Shape} {t : EltTy} (M : Memref sig .tc sp s t) (f : Buf (Elt F) (M.view.loc (c : Thread nD τ))) : sProp 𝕄 :=
  M.view.loc (c : Thread nD τ) ↦[M.view.set]{fullShare} f

/-- What the copy of block `b` of `x` leaves in slot `s`. -/
abbrev xlanded (s : Fin 3) (b : Fin 12) (f : Buf (Elt F) ((xslot s).view.loc (c : Thread nD τ))) : Buf (Elt F) ((xslot s).view.loc (c : Thread nD τ)) :=
  (xslot s).view.writes (Elt F) f [⟨Rect.whole S128x6144, ReadAs.same.apply ((xblk b).view.read (Elt F) X)⟩]
abbrev xflightP (s : Fin 3) (b : Fin 12) (f : Buf (Elt F) ((xslot s).view.loc (c : Thread nD τ))) : sProp 𝕄 :=
  Transfers.Flight countersEmb (c : Thread nD τ) (SemLoc.dma (xcell s).sem) () 24576 iprop(xslotP c s (xlanded c X s b f) ∗ xblkP c X b)

/-- Block `b` of `dx` with the value `v` in it. -/
def landedP (b : Fin 12) (v : S128x6144.Idx → Elt F .bf16) : sProp 𝕄 :=
  iprop(∃ fo : Buf (Elt F) ((oblk b).view.loc (c : Thread nD τ)), ∃ v' : S128x6144.Idx → Elt F .bf16, oblkP c b ((oblk b).view.writes (Elt F) fo [⟨Rect.whole S128x6144, v'⟩]) ∗ ⌜v' = v⌝)
/-- The value `v` on its way from slot `s` to block `b` of `dx`. -/
def oflightP (s : Fin 6) (b : Fin 12) (v : S128x6144.Idx → Elt F .bf16) : sProp 𝕄 :=
  iprop(∃ fo : Buf (Elt F) ((oblk b).view.loc (c : Thread nD τ)), ∃ fs : Buf (Elt F) ((oslot s).view.loc (c : Thread nD τ)), ∃ v' : S128x6144.Idx → Elt F .bf16,
    Transfers.Flight countersEmb (c : Thread nD τ) (SemLoc.dma (ocell s).sem) () 49152 iprop(oblkP c b ((oblk b).view.writes (Elt F) fo [⟨Rect.whole S128x6144, v'⟩]) ∗ oslotP c s fs) ∗ ⌜v' = v⌝)

end Pieces

abbrev tripG (v300 : FVec F S128x128 .f32) (k : Trip) : Prog (TpuEff nD τ sig (Elt F) Λ₀ .tc) Unit :=
  k0_t1_body (F := F) (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 v300 k ()

end Cert.Proof.Bits

end
-- ==== Proof.Bits.Trip.lean ====
/-
  One trip of the kernel's loop over the row blocks.
-/
module

public import proofs.«01_k».proof.Proof.Bits.Pieces

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Trip
variable (c : Dev nD) (X : Buf (Elt F) (xM.view.loc (c : Thread nD τ)))
  (fdb : Buf (Elt F) (dbM.view.loc (c : Thread nD τ))) (fdbt : Buf (Elt F) (dbtM.view.loc (c : Thread nD τ)))
  (fxs : Buf (Elt F) (xsM.view.loc (c : Thread nD τ))) (fwr : Buf (Elt F) (wrM.view.loc (c : Thread nD τ)))

set_option maxRecDepth 20000 in
set_option maxHeartbeats 20000000 in
/-- The first six trips: the slot of `dx` is free, and the next block of `x` is asked for. -/
theorem trip1 (v300 : FVec F S128x128 .f32) (k : Trip) (h6 : k.val < 6) (h3 : k.val + 3 < 12)
   (fd : Buf (Elt F) (dwrM.view.loc (c : Thread nD τ))) (f0) (f1) (fo) W :
   iprop(wholeP c dbM fdb ∗ wholeP c dbtM fdbt ∗ wholeP c xsM fxs ∗ wholeP c wrM fwr ∗ wholeP c dwrM fd
     ∗ xflightP c X (Ring.sl 3 k.val) (Ring.bk 12 k.val) f0 ∗ oslotP c (Ring.sl 6 k.val) f1 ∗ ocellP c (Ring.sl 6 k.val)
     ∗ oblkP c (Ring.bk 12 k.val) fo ∗ xblkP c X (Ring.bk 12 (k.val + 3)) ∗ owes (c : Thread nD τ) 0 W)
   ⊢ wp frame (wpE (defs₀ (F := F)) 𝒱₀ (c : Thread nD τ) none) Set.univ (tripG v300 k) (fun _ =>
     iprop(wholeP c dbM fdb ∗ wholeP c dbtM fdbt ∗ wholeP c xsM fxs ∗ wholeP c wrM fwr
     ∗ (∃ fd' : Buf (Elt F) (dwrM.view.loc (c : Thread nD τ)), wholeP c dwrM fd' ∗ ⌜fd' = dwrStep X fdb fdbt fxs fwr k fd⌝)
     ∗ oflightP c (Ring.sl 6 k.val) (Ring.bk 12 k.val) (dxv X fdb fdbt fxs fwr k)
     ∗ xblkP c X (Ring.bk 12 k.val) ∗ (∃ f, xflightP c X (Ring.sl 3 k.val) (Ring.bk 12 (k.val + 3)) f) ∗ ∃ W', owes (c : Thread nD τ) 0 W')) := by
  have hc1 := cond1_not k h6
  have hc2 := cond2_of k h3
  iintro ⟨Hdb, Hdbt, Hxs, Hwr, Hd, HFx, Ho, Hoc, Hob, Hxb, HW⟩
  dsimp only [tripG]
  sl_unfold [k0_t1_body]
  sl_exec
  sl_step
  ihave HX := HFx_src
  isplitl [Hdb]; · iexact Hdb
  isplitl [Hdbt]; · iexact Hdbt
  isplitl [Hxs]; · iexact Hxs
  isplitl [Hwr]; · iexact Hwr
  isplitl [Hd]
  · iexists _
    isplitl [Hd]; · iexact Hd
    ipureintro
    refine dReady_done X fdb fdbt fxs fwr k fd _ ?_
    refine dReady_step X fdb fdbt fxs fwr k 23 (by omega) fd _ _ (k0_off58_inb k) _ _ rfl (ClosedOff.eq (off := k0_off58 k)) rfl ?_
    refine dReady_step X fdb fdbt fxs fwr k 22 (by omega) fd _ _ (k0_off56_inb k) _ _ rfl (ClosedOff.eq (off := k0_off56 k)) rfl ?_
    refine dReady_step X fdb fdbt fxs fwr k 21 (by omega) fd _ _ (k0_off54_inb k) _ _ rfl (ClosedOff.eq (off := k0_off54 k)) rfl ?_
    refine dReady_step X fdb fdbt fxs fwr k 20 (by omega) fd _ _ (k0_off52_inb k) _ _ rfl (ClosedOff.eq (off := k0_off52 k)) rfl ?_
    refine dReady_step X fdb fdbt fxs fwr k 19 (by omega) fd _ _ (k0_off50_inb k) _ _ rfl (ClosedOff.eq (off := k0_off50 k)) rfl ?_
    refine dReady_step X fdb fdbt fxs fwr k 18 (by omega) fd _ _ (k0_off48_inb k) _ _ rfl (ClosedOff.eq (off := k0_off48 k)) rfl ?_
    refine dReady_step X fdb fdbt fxs fwr k 17 (by omega) fd _ _ (k0_off46_inb k) _ _ rfl (ClosedOff.eq (off := k0_off46 k)) rfl ?_
    refine dReady_step X fdb fdbt fxs fwr k 16 (by omega) fd _ _ (k0_off44_inb k) _ _ rfl (ClosedOff.eq (off := k0_off44 k)) rfl ?_
    refine dReady_step X fdb fdbt fxs fwr k 15 (by omega) fd _ _ (k0_off42_inb k) _ _ rfl (ClosedOff.eq (off := k0_off42 k)) rfl ?_
    refine dReady_step X fdb fdbt fxs fwr k 14 (by omega) fd _ _ (k0_off40_inb k) _ _ rfl (ClosedOff.eq (off := k0_off40 k)) rfl ?_
    refine dReady_step X fdb fdbt fxs fwr k 13 (by omega) fd _ _ (k0_off38_inb k) _ _ rfl (ClosedOff.eq (off := k0_off38 k)) rfl ?_
    refine dReady_step X fdb fdbt fxs fwr k 12 (by omega) fd _ _ (k0_off36_inb k) _ _ rfl (ClosedOff.eq (off := k0_off36 k)) rfl ?_
    refine dReady_step X fdb fdbt fxs fwr k 11 (by omega) fd _ _ (k0_off34_inb k) _ _ rfl (ClosedOff.eq (off := k0_off34 k)) rfl ?_
    refine dReady_step X fdb fdbt fxs fwr k 10 (by omega) fd _ _ (k0_off32_inb k) _ _ rfl (ClosedOff.eq (off := k0_off32 k)) rfl ?_
    refine dReady_step X fdb fdbt fxs fwr k 9 (by omega) fd _ _ (k0_off30_inb k) _ _ rfl (ClosedOff.eq (off := k0_off30 k)) rfl ?_
    refine dReady_step X fdb fdbt fxs fwr k 8 (by omega) fd _ _ (k0_off28_inb k) _ _ rfl (ClosedOff.eq (off := k0_off28 k)) rfl ?_
    refine dReady_step X fdb fdbt fxs fwr k 7 (by omega) fd _ _ (k0_off26_inb k) _ _ rfl (ClosedOff.eq (off := k0_off26 k)) rfl ?_
    refine dReady_step X fdb fdbt fxs fwr k 6 (by omega) fd _ _ (k0_off24_inb k) _ _ rfl (ClosedOff.eq (off := k0_off24 k)) rfl ?_
    refine dReady_step X fdb fdbt fxs fwr k 5 (by omega) fd _ _ (k0_off22_inb k) _ _ rfl (ClosedOff.eq (off := k0_off22 k)) rfl ?_
    refine dReady_step X fdb fdbt fxs fwr k 4 (by omega) fd _ _ (k0_off20_inb k) _ _ rfl (ClosedOff.eq (off := k0_off20 k)) rfl ?_
    refine dReady_step X fdb fdbt fxs fwr k 3 (by omega) fd _ _ (k0_off18_inb k) _ _ rfl (ClosedOff.eq (off := k0_off18 k)) rfl ?_
    refine dReady_step X fdb fdbt fxs fwr k 2 (by omega) fd _ _ (k0_off16_inb k) _ _ rfl (ClosedOff.eq (off := k0_off16 k)) rfl ?_
    refine dReady_step X fdb fdbt fxs fwr k 1 (by omega) fd _ _ (k0_off14_inb k) _ _ rfl (ClosedOff.eq (off := k0_off14 k)) rfl ?_
    refine dReady_step X fdb fdbt fxs fwr k 0 (by omega) fd _ _ (k0_off12_inb k) _ _ rfl (ClosedOff.eq (off := k0_off12 k)) rfl ?_
    exact dReady_zero X fdb fdbt fxs fwr k fd _
  isplitl [Hoc]
  · unfold oflightP
    iexists _
    iexists _
    iexists _
    isplitl [Hoc]; · iexact Hoc
    ipureintro
    refine oReady_done X fdb fdbt fxs fwr k _ ?_
    refine oReady_step X fdb fdbt fxs fwr k 23 (by omega) _ _ (k0_off58_inb k) _ _ (ClosedOff.eq (off := k0_off59 k)) (ClosedOff.eq (off := k0_off58 k)) rfl ?_
    refine oReady_step X fdb fdbt fxs fwr k 22 (by omega) _ _ (k0_off56_inb k) _ _ (ClosedOff.eq (off := k0_off57 k)) (ClosedOff.eq (off := k0_off56 k)) rfl ?_
    refine oReady_step X fdb fdbt fxs fwr k 21 (by omega) _ _ (k0_off54_inb k) _ _ (ClosedOff.eq (off := k0_off55 k)) (ClosedOff.eq (off := k0_off54 k)) rfl ?_
    refine oReady_step X fdb fdbt fxs fwr k 20 (by omega) _ _ (k0_off52_inb k) _ _ (ClosedOff.eq (off := k0_off53 k)) (ClosedOff.eq (off := k0_off52 k)) rfl ?_
    refine oReady_step X fdb fdbt fxs fwr k 19 (by omega) _ _ (k0_off50_inb k) _ _ (ClosedOff.eq (off := k0_off51 k)) (ClosedOff.eq (off := k0_off50 k)) rfl ?_
    refine oReady_step X fdb fdbt fxs fwr k 18 (by omega) _ _ (k0_off48_inb k) _ _ (ClosedOff.eq (off := k0_off49 k)) (ClosedOff.eq (off := k0_off48 k)) rfl ?_
    refine oReady_step X fdb fdbt fxs fwr k 17 (by omega) _ _ (k0_off46_inb k) _ _ (ClosedOff.eq (off := k0_off47 k)) (ClosedOff.eq (off := k0_off46 k)) rfl ?_
    refine oReady_step X fdb fdbt fxs fwr k 16 (by omega) _ _ (k0_off44_inb k) _ _ (ClosedOff.eq (off := k0_off45 k)) (ClosedOff.eq (off := k0_off44 k)) rfl ?_
    refine oReady_step X fdb fdbt fxs fwr k 15 (by omega) _ _ (k0_off42_inb k) _ _ (ClosedOff.eq (off := k0_off43 k)) (ClosedOff.eq (off := k0_off42 k)) rfl ?_
    refine oReady_step X fdb fdbt fxs fwr k 14 (by omega) _ _ (k0_off40_inb k) _ _ (ClosedOff.eq (off := k0_off41 k)) (ClosedOff.eq (off := k0_off40 k)) rfl ?_
    refine oReady_step X fdb fdbt fxs fwr k 13 (by omega) _ _ (k0_off38_inb k) _ _ (ClosedOff.eq (off := k0_off39 k)) (ClosedOff.eq (off := k0_off38 k)) rfl ?_
    refine oReady_step X fdb fdbt fxs fwr k 12 (by omega) _ _ (k0_off36_inb k) _ _ (ClosedOff.eq (off := k0_off37 k)) (ClosedOff.eq (off := k0_off36 k)) rfl ?_
    refine oReady_step X fdb fdbt fxs fwr k 11 (by omega) _ _ (k0_off34_inb k) _ _ (ClosedOff.eq (off := k0_off35 k)) (ClosedOff.eq (off := k0_off34 k)) rfl ?_
    refine oReady_step X fdb fdbt fxs fwr k 10 (by omega) _ _ (k0_off32_inb k) _ _ (ClosedOff.eq (off := k0_off33 k)) (ClosedOff.eq (off := k0_off32 k)) rfl ?_
    refine oReady_step X fdb fdbt fxs fwr k 9 (by omega) _ _ (k0_off30_inb k) _ _ (ClosedOff.eq (off := k0_off31 k)) (ClosedOff.eq (off := k0_off30 k)) rfl ?_
    refine oReady_step X fdb fdbt fxs fwr k 8 (by omega) _ _ (k0_off28_inb k) _ _ (ClosedOff.eq (off := k0_off29 k)) (ClosedOff.eq (off := k0_off28 k)) rfl ?_
    refine oReady_step X fdb fdbt fxs fwr k 7 (by omega) _ _ (k0_off26_inb k) _ _ (ClosedOff.eq (off := k0_off27 k)) (ClosedOff.eq (off := k0_off26 k)) rfl ?_
    refine oReady_step X fdb fdbt fxs fwr k 6 (by omega) _ _ (k0_off24_inb k) _ _ (ClosedOff.eq (off := k0_off25 k)) (ClosedOff.eq (off := k0_off24 k)) rfl ?_
    refine oReady_step X fdb fdbt fxs fwr k 5 (by omega) _ _ (k0_off22_inb k) _ _ (ClosedOff.eq (off := k0_off23 k)) (ClosedOff.eq (off := k0_off22 k)) rfl ?_
    refine oReady_step X fdb fdbt fxs fwr k 4 (by omega) _ _ (k0_off20_inb k) _ _ (ClosedOff.eq (off := k0_off21 k)) (ClosedOff.eq (off := k0_off20 k)) rfl ?_
    refine oReady_step X fdb fdbt fxs fwr k 3 (by omega) _ _ (k0_off18_inb k) _ _ (ClosedOff.eq (off := k0_off19 k)) (ClosedOff.eq (off := k0_off18 k)) rfl ?_
    refine oReady_step X fdb fdbt fxs fwr k 2 (by omega) _ _ (k0_off16_inb k) _ _ (ClosedOff.eq (off := k0_off17 k)) (ClosedOff.eq (off := k0_off16 k)) rfl ?_
    refine oReady_step X fdb fdbt fxs fwr k 1 (by omega) _ _ (k0_off14_inb k) _ _ (ClosedOff.eq (off := k0_off15 k)) (ClosedOff.eq (off := k0_off14 k)) rfl ?_
    refine oReady_step X fdb fdbt fxs fwr k 0 (by omega) _ _ (k0_off12_inb k) _ _ (ClosedOff.eq (off := k0_off13 k)) (ClosedOff.eq (off := k0_off12 k)) rfl ?_
    exact oReady_zero X fdb fdbt fxs fwr k _
  isplitl [HX]; · iexact HX
  isplitl [HFx]
  · iexists _
    iexact HFx
  iexists _
  iexact HW

set_option maxRecDepth 20000 in
set_option maxHeartbeats 20000000 in
/-- The next three trips: the slot of `dx` is waited for first. -/
theorem trip2 (v300 : FVec F S128x128 .f32) (k : Trip) (h6 : 6 ≤ k.val) (h3 : k.val + 3 < 12)
   (fd : Buf (Elt F) (dwrM.view.loc (c : Thread nD τ))) (f0) (v) (fo) W :
   iprop(wholeP c dbM fdb ∗ wholeP c dbtM fdbt ∗ wholeP c xsM fxs ∗ wholeP c wrM fwr ∗ wholeP c dwrM fd
     ∗ xflightP c X (Ring.sl 3 k.val) (Ring.bk 12 k.val) f0 ∗ oflightP c (Ring.sl 6 k.val) (Ring.bk 12 (k.val - 6)) v
     ∗ oblkP c (Ring.bk 12 k.val) fo ∗ xblkP c X (Ring.bk 12 (k.val + 3)) ∗ owes (c : Thread nD τ) 0 W)
   ⊢ wp frame (wpE (defs₀ (F := F)) 𝒱₀ (c : Thread nD τ) none) Set.univ (tripG v300 k) (fun _ =>
     iprop(wholeP c dbM fdb ∗ wholeP c dbtM fdbt ∗ wholeP c xsM fxs ∗ wholeP c wrM fwr
     ∗ (∃ fd' : Buf (Elt F) (dwrM.view.loc (c : Thread nD τ)), wholeP c dwrM fd' ∗ ⌜fd' = dwrStep X fdb fdbt fxs fwr k fd⌝)
     ∗ oflightP c (Ring.sl 6 k.val) (Ring.bk 12 k.val) (dxv X fdb fdbt fxs fwr k)
     ∗ xblkP c X (Ring.bk 12 k.val) ∗ landedP c (Ring.bk 12 (k.val - 6)) v ∗ (∃ f, xflightP c X (Ring.sl 3 k.val) (Ring.bk 12 (k.val + 3)) f) ∗ ∃ W', owes (c : Thread nD τ) 0 W')) := by
  have hc1 := cond1_of k h6
  have hc2 := cond2_of k h3
  iintro ⟨Hdb, Hdbt, Hxs, Hwr, Hd, HFx, HO, Hob, Hxb, HW⟩
  unfold oflightP
  icases HO with ⟨%go, %gs, %gv, HFo, %hgv⟩
  dsimp only [tripG]
  sl_unfold [k0_t1_body]
  sl_exec
  sl_step
  ihave HX := HFx_src
  isplitl [Hdb]; · iexact Hdb
  isplitl [Hdbt]; · iexact Hdbt
  isplitl [Hxs]; · iexact Hxs
  isplitl [Hwr]; · iexact Hwr
  isplitl [Hd]
  · iexists _
    isplitl [Hd]; · iexact Hd
    ipureintro
    refine dReady_done X fdb fdbt fxs fwr k fd _ ?_
    refine dReady_step X fdb fdbt fxs fwr k 23 (by omega) fd _ _ (k0_off58_inb k) _ _ rfl (ClosedOff.eq (off := k0_off58 k)) rfl ?_
    refine dReady_step X fdb fdbt fxs fwr k 22 (by omega) fd _ _ (k0_off56_inb k) _ _ rfl (ClosedOff.eq (off := k0_off56 k)) rfl ?_
    refine dReady_step X fdb fdbt fxs fwr k 21 (by omega) fd _ _ (k0_off54_inb k) _ _ rfl (ClosedOff.eq (off := k0_off54 k)) rfl ?_
    refine dReady_step X fdb fdbt fxs fwr k 20 (by omega) fd _ _ (k0_off52_inb k) _ _ rfl (ClosedOff.eq (off := k0_off52 k)) rfl ?_
    refine dReady_step X fdb fdbt fxs fwr k 19 (by omega) fd _ _ (k0_off50_inb k) _ _ rfl (ClosedOff.eq (off := k0_off50 k)) rfl ?_
    refine dReady_step X fdb fdbt fxs fwr k 18 (by omega) fd _ _ (k0_off48_inb k) _ _ rfl (ClosedOff.eq (off := k0_off48 k)) rfl ?_
    refine dReady_step X fdb fdbt fxs fwr k 17 (by omega) fd _ _ (k0_off46_inb k) _ _ rfl (ClosedOff.eq (off := k0_off46 k)) rfl ?_
    refine dReady_step X fdb fdbt fxs fwr k 16 (by omega) fd _ _ (k0_off44_inb k) _ _ rfl (ClosedOff.eq (off := k0_off44 k)) rfl ?_
    refine dReady_step X fdb fdbt fxs fwr k 15 (by omega) fd _ _ (k0_off42_inb k) _ _ rfl (ClosedOff.eq (off := k0_off42 k)) rfl ?_
    refine dReady_step X fdb fdbt fxs fwr k 14 (by omega) fd _ _ (k0_off40_inb k) _ _ rfl (ClosedOff.eq (off := k0_off40 k)) rfl ?_
    refine dReady_step X fdb fdbt fxs fwr k 13 (by omega) fd _ _ (k0_off38_inb k) _ _ rfl (ClosedOff.eq (off := k0_off38 k)) rfl ?_
    refine dReady_step X fdb fdbt fxs fwr k 12 (by omega) fd _ _ (k0_off36_inb k) _ _ rfl (ClosedOff.eq (off := k0_off36 k)) rfl ?_
    refine dReady_step X fdb fdbt fxs fwr k 11 (by omega) fd _ _ (k0_off34_inb k) _ _ rfl (ClosedOff.eq (off := k0_off34 k)) rfl ?_
    refine dReady_step X fdb fdbt fxs fwr k 10 (by omega) fd _ _ (k0_off32_inb k) _ _ rfl (ClosedOff.eq (off := k0_off32 k)) rfl ?_
    refine dReady_step X fdb fdbt fxs fwr k 9 (by omega) fd _ _ (k0_off30_inb k) _ _ rfl (ClosedOff.eq (off := k0_off30 k)) rfl ?_
    refine dReady_step X fdb fdbt fxs fwr k 8 (by omega) fd _ _ (k0_off28_inb k) _ _ rfl (ClosedOff.eq (off := k0_off28 k)) rfl ?_
    refine dReady_step X fdb fdbt fxs fwr k 7 (by omega) fd _ _ (k0_off26_inb k) _ _ rfl (ClosedOff.eq (off := k0_off26 k)) rfl ?_
    refine dReady_step X fdb fdbt fxs fwr k 6 (by omega) fd _ _ (k0_off24_inb k) _ _ rfl (ClosedOff.eq (off := k0_off24 k)) rfl ?_
    refine dReady_step X fdb fdbt fxs fwr k 5 (by omega) fd _ _ (k0_off22_inb k) _ _ rfl (ClosedOff.eq (off := k0_off22 k)) rfl ?_
    refine dReady_step X fdb fdbt fxs fwr k 4 (by omega) fd _ _ (k0_off20_inb k) _ _ rfl (ClosedOff.eq (off := k0_off20 k)) rfl ?_
    refine dReady_step X fdb fdbt fxs fwr k 3 (by omega) fd _ _ (k0_off18_inb k) _ _ rfl (ClosedOff.eq (off := k0_off18 k)) rfl ?_
    refine dReady_step X fdb fdbt fxs fwr k 2 (by omega) fd _ _ (k0_off16_inb k) _ _ rfl (ClosedOff.eq (off := k0_off16 k)) rfl ?_
    refine dReady_step X fdb fdbt fxs fwr k 1 (by omega) fd _ _ (k0_off14_inb k) _ _ rfl (ClosedOff.eq (off := k0_off14 k)) rfl ?_
    refine dReady_step X fdb fdbt fxs fwr k 0 (by omega) fd _ _ (k0_off12_inb k) _ _ rfl (ClosedOff.eq (off := k0_off12 k)) rfl ?_
    exact dReady_zero X fdb fdbt fxs fwr k fd _
  isplitl [HFo]
  · skip
    iexists _
    iexists _
    iexists _
    isplitl [HFo]; · iexact HFo
    ipureintro
    refine oReady_done X fdb fdbt fxs fwr k _ ?_
    refine oReady_step X fdb fdbt fxs fwr k 23 (by omega) _ _ (k0_off58_inb k) _ _ (ClosedOff.eq (off := k0_off59 k)) (ClosedOff.eq (off := k0_off58 k)) rfl ?_
    refine oReady_step X fdb fdbt fxs fwr k 22 (by omega) _ _ (k0_off56_inb k) _ _ (ClosedOff.eq (off := k0_off57 k)) (ClosedOff.eq (off := k0_off56 k)) rfl ?_
    refine oReady_step X fdb fdbt fxs fwr k 21 (by omega) _ _ (k0_off54_inb k) _ _ (ClosedOff.eq (off := k0_off55 k)) (ClosedOff.eq (off := k0_off54 k)) rfl ?_
    refine oReady_step X fdb fdbt fxs fwr k 20 (by omega) _ _ (k0_off52_inb k) _ _ (ClosedOff.eq (off := k0_off53 k)) (ClosedOff.eq (off := k0_off52 k)) rfl ?_
    refine oReady_step X fdb fdbt fxs fwr k 19 (by omega) _ _ (k0_off50_inb k) _ _ (ClosedOff.eq (off := k0_off51 k)) (ClosedOff.eq (off := k0_off50 k)) rfl ?_
    refine oReady_step X fdb fdbt fxs fwr k 18 (by omega) _ _ (k0_off48_inb k) _ _ (ClosedOff.eq (off := k0_off49 k)) (ClosedOff.eq (off := k0_off48 k)) rfl ?_
    refine oReady_step X fdb fdbt fxs fwr k 17 (by omega) _ _ (k0_off46_inb k) _ _ (ClosedOff.eq (off := k0_off47 k)) (ClosedOff.eq (off := k0_off46 k)) rfl ?_
    refine oReady_step X fdb fdbt fxs fwr k 16 (by omega) _ _ (k0_off44_inb k) _ _ (ClosedOff.eq (off := k0_off45 k)) (ClosedOff.eq (off := k0_off44 k)) rfl ?_
    refine oReady_step X fdb fdbt fxs fwr k 15 (by omega) _ _ (k0_off42_inb k) _ _ (ClosedOff.eq (off := k0_off43 k)) (ClosedOff.eq (off := k0_off42 k)) rfl ?_
    refine oReady_step X fdb fdbt fxs fwr k 14 (by omega) _ _ (k0_off40_inb k) _ _ (ClosedOff.eq (off := k0_off41 k)) (ClosedOff.eq (off := k0_off40 k)) rfl ?_
    refine oReady_step X fdb fdbt fxs fwr k 13 (by omega) _ _ (k0_off38_inb k) _ _ (ClosedOff.eq (off := k0_off39 k)) (ClosedOff.eq (off := k0_off38 k)) rfl ?_
    refine oReady_step X fdb fdbt fxs fwr k 12 (by omega) _ _ (k0_off36_inb k) _ _ (ClosedOff.eq (off := k0_off37 k)) (ClosedOff.eq (off := k0_off36 k)) rfl ?_
    refine oReady_step X fdb fdbt fxs fwr k 11 (by omega) _ _ (k0_off34_inb k) _ _ (ClosedOff.eq (off := k0_off35 k)) (ClosedOff.eq (off := k0_off34 k)) rfl ?_
    refine oReady_step X fdb fdbt fxs fwr k 10 (by omega) _ _ (k0_off32_inb k) _ _ (ClosedOff.eq (off := k0_off33 k)) (ClosedOff.eq (off := k0_off32 k)) rfl ?_
    refine oReady_step X fdb fdbt fxs fwr k 9 (by omega) _ _ (k0_off30_inb k) _ _ (ClosedOff.eq (off := k0_off31 k)) (ClosedOff.eq (off := k0_off30 k)) rfl ?_
    refine oReady_step X fdb fdbt fxs fwr k 8 (by omega) _ _ (k0_off28_inb k) _ _ (ClosedOff.eq (off := k0_off29 k)) (ClosedOff.eq (off := k0_off28 k)) rfl ?_
    refine oReady_step X fdb fdbt fxs fwr k 7 (by omega) _ _ (k0_off26_inb k) _ _ (ClosedOff.eq (off := k0_off27 k)) (ClosedOff.eq (off := k0_off26 k)) rfl ?_
    refine oReady_step X fdb fdbt fxs fwr k 6 (by omega) _ _ (k0_off24_inb k) _ _ (ClosedOff.eq (off := k0_off25 k)) (ClosedOff.eq (off := k0_off24 k)) rfl ?_
    refine oReady_step X fdb fdbt fxs fwr k 5 (by omega) _ _ (k0_off22_inb k) _ _ (ClosedOff.eq (off := k0_off23 k)) (ClosedOff.eq (off := k0_off22 k)) rfl ?_
    refine oReady_step X fdb fdbt fxs fwr k 4 (by omega) _ _ (k0_off20_inb k) _ _ (ClosedOff.eq (off := k0_off21 k)) (ClosedOff.eq (off := k0_off20 k)) rfl ?_
    refine oReady_step X fdb fdbt fxs fwr k 3 (by omega) _ _ (k0_off18_inb k) _ _ (ClosedOff.eq (off := k0_off19 k)) (ClosedOff.eq (off := k0_off18 k)) rfl ?_
    refine oReady_step X fdb fdbt fxs fwr k 2 (by omega) _ _ (k0_off16_inb k) _ _ (ClosedOff.eq (off := k0_off17 k)) (ClosedOff.eq (off := k0_off16 k)) rfl ?_
    refine oReady_step X fdb fdbt fxs fwr k 1 (by omega) _ _ (k0_off14_inb k) _ _ (ClosedOff.eq (off := k0_off15 k)) (ClosedOff.eq (off := k0_off14 k)) rfl ?_
    refine oReady_step X fdb fdbt fxs fwr k 0 (by omega) _ _ (k0_off12_inb k) _ _ (ClosedOff.eq (off := k0_off13 k)) (ClosedOff.eq (off := k0_off12 k)) rfl ?_
    exact oReady_zero X fdb fdbt fxs fwr k _
  isplitl [HX]; · iexact HX
  isplitl [HFo_dst]
  · unfold landedP
    iexists _
    iexists _
    isplitl [HFo_dst]; · iexact HFo_dst
    ipureintro
    exact hgv
  isplitl [HFx]
  · iexists _
    iexact HFx
  iexists _
  iexact HW

set_option maxRecDepth 20000 in
set_option maxHeartbeats 20000000 in
/-- The last three trips: no further block of `x` is asked for. -/
theorem trip3 (v300 : FVec F S128x128 .f32) (k : Trip) (h6 : 6 ≤ k.val) (h3 : 12 ≤ k.val + 3)
   (fd : Buf (Elt F) (dwrM.view.loc (c : Thread nD τ))) (f0) (v) (fo) W :
   iprop(wholeP c dbM fdb ∗ wholeP c dbtM fdbt ∗ wholeP c xsM fxs ∗ wholeP c wrM fwr ∗ wholeP c dwrM fd
     ∗ xflightP c X (Ring.sl 3 k.val) (Ring.bk 12 k.val) f0 ∗ oflightP c (Ring.sl 6 k.val) (Ring.bk 12 (k.val - 6)) v
     ∗ oblkP c (Ring.bk 12 k.val) fo ∗ owes (c : Thread nD τ) 0 W)
   ⊢ wp frame (wpE (defs₀ (F := F)) 𝒱₀ (c : Thread nD τ) none) Set.univ (tripG v300 k) (fun _ =>
     iprop(wholeP c dbM fdb ∗ wholeP c dbtM fdbt ∗ wholeP c xsM fxs ∗ wholeP c wrM fwr
     ∗ (∃ fd' : Buf (Elt F) (dwrM.view.loc (c : Thread nD τ)), wholeP c dwrM fd' ∗ ⌜fd' = dwrStep X fdb fdbt fxs fwr k fd⌝)
     ∗ oflightP c (Ring.sl 6 k.val) (Ring.bk 12 k.val) (dxv X fdb fdbt fxs fwr k)
     ∗ xblkP c X (Ring.bk 12 k.val) ∗ landedP c (Ring.bk 12 (k.val - 6)) v ∗ (∃ f, xslotP c (Ring.sl 3 k.val) f) ∗ xcellP c (Ring.sl 3 k.val) ∗ ∃ W', owes (c : Thread nD τ) 0 W')) := by
  have hc1 := cond1_of k h6
  have hc2 := cond2_not k h3
  iintro ⟨Hdb, Hdbt, Hxs, Hwr, Hd, HFx, HO, Hob, HW⟩
  unfold oflightP
  icases HO with ⟨%go, %gs, %gv, HFo, %hgv⟩
  dsimp only [tripG]
  sl_unfold [k0_t1_body]
  sl_exec
  sl_step
  ihave HX := HFx_src
  isplitl [Hdb]; · iexact Hdb
  isplitl [Hdbt]; · iexact Hdbt
  isplitl [Hxs]; · iexact Hxs
  isplitl [Hwr]; · iexact Hwr
  isplitl [Hd]
  · iexists _
    isplitl [Hd]; · iexact Hd
    ipureintro
    refine dReady_done X fdb fdbt fxs fwr k fd _ ?_
    refine dReady_step X fdb fdbt fxs fwr k 23 (by omega) fd _ _ (k0_off58_inb k) _ _ rfl (ClosedOff.eq (off := k0_off58 k)) rfl ?_
    refine dReady_step X fdb fdbt fxs fwr k 22 (by omega) fd _ _ (k0_off56_inb k) _ _ rfl (ClosedOff.eq (off := k0_off56 k)) rfl ?_
    refine dReady_step X fdb fdbt fxs fwr k 21 (by omega) fd _ _ (k0_off54_inb k) _ _ rfl (ClosedOff.eq (off := k0_off54 k)) rfl ?_
    refine dReady_step X fdb fdbt fxs fwr k 20 (by omega) fd _ _ (k0_off52_inb k) _ _ rfl (ClosedOff.eq (off := k0_off52 k)) rfl ?_
    refine dReady_step X fdb fdbt fxs fwr k 19 (by omega) fd _ _ (k0_off50_inb k) _ _ rfl (ClosedOff.eq (off := k0_off50 k)) rfl ?_
    refine dReady_step X fdb fdbt fxs fwr k 18 (by omega) fd _ _ (k0_off48_inb k) _ _ rfl (ClosedOff.eq (off := k0_off48 k)) rfl ?_
    refine dReady_step X fdb fdbt fxs fwr k 17 (by omega) fd _ _ (k0_off46_inb k) _ _ rfl (ClosedOff.eq (off := k0_off46 k)) rfl ?_
    refine dReady_step X fdb fdbt fxs fwr k 16 (by omega) fd _ _ (k0_off44_inb k) _ _ rfl (ClosedOff.eq (off := k0_off44 k)) rfl ?_
    refine dReady_step X fdb fdbt fxs fwr k 15 (by omega) fd _ _ (k0_off42_inb k) _ _ rfl (ClosedOff.eq (off := k0_off42 k)) rfl ?_
    refine dReady_step X fdb fdbt fxs fwr k 14 (by omega) fd _ _ (k0_off40_inb k) _ _ rfl (ClosedOff.eq (off := k0_off40 k)) rfl ?_
    refine dReady_step X fdb fdbt fxs fwr k 13 (by omega) fd _ _ (k0_off38_inb k) _ _ rfl (ClosedOff.eq (off := k0_off38 k)) rfl ?_
    refine dReady_step X fdb fdbt fxs fwr k 12 (by omega) fd _ _ (k0_off36_inb k) _ _ rfl (ClosedOff.eq (off := k0_off36 k)) rfl ?_
    refine dReady_step X fdb fdbt fxs fwr k 11 (by omega) fd _ _ (k0_off34_inb k) _ _ rfl (ClosedOff.eq (off := k0_off34 k)) rfl ?_
    refine dReady_step X fdb fdbt fxs fwr k 10 (by omega) fd _ _ (k0_off32_inb k) _ _ rfl (ClosedOff.eq (off := k0_off32 k)) rfl ?_
    refine dReady_step X fdb fdbt fxs fwr k 9 (by omega) fd _ _ (k0_off30_inb k) _ _ rfl (ClosedOff.eq (off := k0_off30 k)) rfl ?_
    refine dReady_step X fdb fdbt fxs fwr k 8 (by omega) fd _ _ (k0_off28_inb k) _ _ rfl (ClosedOff.eq (off := k0_off28 k)) rfl ?_
    refine dReady_step X fdb fdbt fxs fwr k 7 (by omega) fd _ _ (k0_off26_inb k) _ _ rfl (ClosedOff.eq (off := k0_off26 k)) rfl ?_
    refine dReady_step X fdb fdbt fxs fwr k 6 (by omega) fd _ _ (k0_off24_inb k) _ _ rfl (ClosedOff.eq (off := k0_off24 k)) rfl ?_
    refine dReady_step X fdb fdbt fxs fwr k 5 (by omega) fd _ _ (k0_off22_inb k) _ _ rfl (ClosedOff.eq (off := k0_off22 k)) rfl ?_
    refine dReady_step X fdb fdbt fxs fwr k 4 (by omega) fd _ _ (k0_off20_inb k) _ _ rfl (ClosedOff.eq (off := k0_off20 k)) rfl ?_
    refine dReady_step X fdb fdbt fxs fwr k 3 (by omega) fd _ _ (k0_off18_inb k) _ _ rfl (ClosedOff.eq (off := k0_off18 k)) rfl ?_
    refine dReady_step X fdb fdbt fxs fwr k 2 (by omega) fd _ _ (k0_off16_inb k) _ _ rfl (ClosedOff.eq (off := k0_off16 k)) rfl ?_
    refine dReady_step X fdb fdbt fxs fwr k 1 (by omega) fd _ _ (k0_off14_inb k) _ _ rfl (ClosedOff.eq (off := k0_off14 k)) rfl ?_
    refine dReady_step X fdb fdbt fxs fwr k 0 (by omega) fd _ _ (k0_off12_inb k) _ _ rfl (ClosedOff.eq (off := k0_off12 k)) rfl ?_
    exact dReady_zero X fdb fdbt fxs fwr k fd _
  isplitl [HFo]
  · skip
    iexists _
    iexists _
    iexists _
    isplitl [HFo]; · iexact HFo
    ipureintro
    refine oReady_done X fdb fdbt fxs fwr k _ ?_
    refine oReady_step X fdb fdbt fxs fwr k 23 (by omega) _ _ (k0_off58_inb k) _ _ (ClosedOff.eq (off := k0_off59 k)) (ClosedOff.eq (off := k0_off58 k)) rfl ?_
    refine oReady_step X fdb fdbt fxs fwr k 22 (by omega) _ _ (k0_off56_inb k) _ _ (ClosedOff.eq (off := k0_off57 k)) (ClosedOff.eq (off := k0_off56 k)) rfl ?_
    refine oReady_step X fdb fdbt fxs fwr k 21 (by omega) _ _ (k0_off54_inb k) _ _ (ClosedOff.eq (off := k0_off55 k)) (ClosedOff.eq (off := k0_off54 k)) rfl ?_
    refine oReady_step X fdb fdbt fxs fwr k 20 (by omega) _ _ (k0_off52_inb k) _ _ (ClosedOff.eq (off := k0_off53 k)) (ClosedOff.eq (off := k0_off52 k)) rfl ?_
    refine oReady_step X fdb fdbt fxs fwr k 19 (by omega) _ _ (k0_off50_inb k) _ _ (ClosedOff.eq (off := k0_off51 k)) (ClosedOff.eq (off := k0_off50 k)) rfl ?_
    refine oReady_step X fdb fdbt fxs fwr k 18 (by omega) _ _ (k0_off48_inb k) _ _ (ClosedOff.eq (off := k0_off49 k)) (ClosedOff.eq (off := k0_off48 k)) rfl ?_
    refine oReady_step X fdb fdbt fxs fwr k 17 (by omega) _ _ (k0_off46_inb k) _ _ (ClosedOff.eq (off := k0_off47 k)) (ClosedOff.eq (off := k0_off46 k)) rfl ?_
    refine oReady_step X fdb fdbt fxs fwr k 16 (by omega) _ _ (k0_off44_inb k) _ _ (ClosedOff.eq (off := k0_off45 k)) (ClosedOff.eq (off := k0_off44 k)) rfl ?_
    refine oReady_step X fdb fdbt fxs fwr k 15 (by omega) _ _ (k0_off42_inb k) _ _ (ClosedOff.eq (off := k0_off43 k)) (ClosedOff.eq (off := k0_off42 k)) rfl ?_
    refine oReady_step X fdb fdbt fxs fwr k 14 (by omega) _ _ (k0_off40_inb k) _ _ (ClosedOff.eq (off := k0_off41 k)) (ClosedOff.eq (off := k0_off40 k)) rfl ?_
    refine oReady_step X fdb fdbt fxs fwr k 13 (by omega) _ _ (k0_off38_inb k) _ _ (ClosedOff.eq (off := k0_off39 k)) (ClosedOff.eq (off := k0_off38 k)) rfl ?_
    refine oReady_step X fdb fdbt fxs fwr k 12 (by omega) _ _ (k0_off36_inb k) _ _ (ClosedOff.eq (off := k0_off37 k)) (ClosedOff.eq (off := k0_off36 k)) rfl ?_
    refine oReady_step X fdb fdbt fxs fwr k 11 (by omega) _ _ (k0_off34_inb k) _ _ (ClosedOff.eq (off := k0_off35 k)) (ClosedOff.eq (off := k0_off34 k)) rfl ?_
    refine oReady_step X fdb fdbt fxs fwr k 10 (by omega) _ _ (k0_off32_inb k) _ _ (ClosedOff.eq (off := k0_off33 k)) (ClosedOff.eq (off := k0_off32 k)) rfl ?_
    refine oReady_step X fdb fdbt fxs fwr k 9 (by omega) _ _ (k0_off30_inb k) _ _ (ClosedOff.eq (off := k0_off31 k)) (ClosedOff.eq (off := k0_off30 k)) rfl ?_
    refine oReady_step X fdb fdbt fxs fwr k 8 (by omega) _ _ (k0_off28_inb k) _ _ (ClosedOff.eq (off := k0_off29 k)) (ClosedOff.eq (off := k0_off28 k)) rfl ?_
    refine oReady_step X fdb fdbt fxs fwr k 7 (by omega) _ _ (k0_off26_inb k) _ _ (ClosedOff.eq (off := k0_off27 k)) (ClosedOff.eq (off := k0_off26 k)) rfl ?_
    refine oReady_step X fdb fdbt fxs fwr k 6 (by omega) _ _ (k0_off24_inb k) _ _ (ClosedOff.eq (off := k0_off25 k)) (ClosedOff.eq (off := k0_off24 k)) rfl ?_
    refine oReady_step X fdb fdbt fxs fwr k 5 (by omega) _ _ (k0_off22_inb k) _ _ (ClosedOff.eq (off := k0_off23 k)) (ClosedOff.eq (off := k0_off22 k)) rfl ?_
    refine oReady_step X fdb fdbt fxs fwr k 4 (by omega) _ _ (k0_off20_inb k) _ _ (ClosedOff.eq (off := k0_off21 k)) (ClosedOff.eq (off := k0_off20 k)) rfl ?_
    refine oReady_step X fdb fdbt fxs fwr k 3 (by omega) _ _ (k0_off18_inb k) _ _ (ClosedOff.eq (off := k0_off19 k)) (ClosedOff.eq (off := k0_off18 k)) rfl ?_
    refine oReady_step X fdb fdbt fxs fwr k 2 (by omega) _ _ (k0_off16_inb k) _ _ (ClosedOff.eq (off := k0_off17 k)) (ClosedOff.eq (off := k0_off16 k)) rfl ?_
    refine oReady_step X fdb fdbt fxs fwr k 1 (by omega) _ _ (k0_off14_inb k) _ _ (ClosedOff.eq (off := k0_off15 k)) (ClosedOff.eq (off := k0_off14 k)) rfl ?_
    refine oReady_step X fdb fdbt fxs fwr k 0 (by omega) _ _ (k0_off12_inb k) _ _ (ClosedOff.eq (off := k0_off13 k)) (ClosedOff.eq (off := k0_off12 k)) rfl ?_
    exact oReady_zero X fdb fdbt fxs fwr k _
  isplitl [HX]; · iexact HX
  isplitl [HFo_dst]
  · unfold landedP
    iexists _
    iexists _
    isplitl [HFo_dst]; · iexact HFo_dst
    ipureintro
    exact hgv
  isplitl [HFx_dst]
  · iexists _
    iexact HFx_dst
  isplitl [HFx]
  · iexact HFx
  iexists _
  iexact HW

end Trip

end Cert.Proof.Bits

end
-- ==== Proof.Bits.Loop.lean ====
/-
  The loop over the token blocks: its invariant, stepped by the three kinds of trip.
-/
module

public import proofs.«01_k».proof.Proof.Bits.Trip
public import Idealize.ShloMosaic.Lib.Ring.WriteBehind
public import Idealize.ShloMosaic.Lib.Ring.Trips

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Loop
variable (c : Dev nD) (X : Buf (Elt F) (xM.view.loc (c : Thread nD τ)))
variable (fdb : Buf (Elt F) (dbM.view.loc (c : Thread nD τ))) (fdbt : Buf (Elt F) (dbtM.view.loc (c : Thread nD τ)))
  (fxs : Buf (Elt F) (xsM.view.loc (c : Thread nD τ))) (fwr : Buf (Elt F) (wrM.view.loc (c : Thread nD τ)))

/-- The trip that works on block `b`. -/
def tripOf (b : Fin 12) : Trip := ⟨b.val, by rw [trips_eq]; exact b.isLt⟩
theorem tripOf_bk (k : Trip) : tripOf (Ring.bk 12 k.val) = k := Fin.ext (show (Ring.bk 12 k.val).val = k.val from Ring.bk_val (trip_lt k))

/-- What the kernel leaves in block `b` of `dx`. -/
abbrev dxB (b : Fin 12) : S128x6144.Idx → Elt F .bf16 := dxv X fdb fdbt fxs fwr (tripOf b)

/-- The gradient of the router's weights after `k` trips. -/
def dwrAcc (fd : Buf (Elt F) (dwrM.view.loc (c : Thread nD τ))) : ℕ → Buf (Elt F) (dwrM.view.loc (c : Thread nD τ))
  | 0 => fd
  | k + 1 => if h : k < 12 then dwrStep X fdb fdbt fxs fwr (tripOf ⟨k, h⟩) (dwrAcc fd k) else dwrAcc fd k

theorem dwrAcc_succ (fd) (k : Trip) :
    dwrAcc c X fdb fdbt fxs fwr fd (k.val + 1) = dwrStep X fdb fdbt fxs fwr k (dwrAcc c X fdb fdbt fxs fwr fd k.val) := by
  rw [dwrAcc, dif_pos (trip_lt k)]; rfl

/-- The slot of `x` that point `p` uses: a copy on its way for a block still to come, else at rest. -/
def XR (p : ℕ) : sProp 𝕄 :=
  if p < 12 then iprop(∃ f, xflightP c X (Ring.sl 3 p) (Ring.bk 12 p) f) else iprop((∃ f, xslotP (F := F) c (Ring.sl 3 p) f) ∗ xcellP c (Ring.sl 3 p))
/-- The slot of `dx` that point `p` uses: at rest for the first six points, else still carrying block `p - 6`. -/
def OR (p : ℕ) : sProp 𝕄 :=
  if p < 6 then iprop((∃ f, oslotP (F := F) c (Ring.sl 6 p) f) ∗ ocellP c (Ring.sl 6 p))
  else oflightP c (Ring.sl 6 p) (Ring.bk 12 (p - 6)) (dxB c X fdb fdbt fxs fwr (Ring.bk 12 (p - 6)))

theorem XR_lt (p : ℕ) (h : p < 12) : XR c X p = iprop(∃ f, xflightP c X (Ring.sl 3 p) (Ring.bk 12 p) f) := if_pos h
theorem XR_ge (p : ℕ) (h : 12 ≤ p) : XR c X p = iprop((∃ f, xslotP (F := F) c (Ring.sl 3 p) f) ∗ xcellP c (Ring.sl 3 p)) := if_neg (by omega)
theorem OR_lt (p : ℕ) (h : p < 6) : OR c X fdb fdbt fxs fwr p = iprop((∃ f, oslotP (F := F) c (Ring.sl 6 p) f) ∗ ocellP c (Ring.sl 6 p)) := if_pos h
theorem OR_ge (p : ℕ) (h : 6 ≤ p) : OR c X fdb fdbt fxs fwr p = oflightP c (Ring.sl 6 p) (Ring.bk 12 (p - 6)) (dxB c X fdb fdbt fxs fwr (Ring.bk 12 (p - 6))) := if_neg (by omega)

theorem OR_next (k : Trip) : OR c X fdb fdbt fxs fwr (k.val + 6) = oflightP c (Ring.sl 6 k.val) (Ring.bk 12 k.val) (dxv X fdb fdbt fxs fwr k) := by
  rw [OR_ge _ _ _ _ _ _ _ (by omega), Ring.sl_add, Nat.add_sub_cancel, dxB, tripOf_bk]

variable (fd0 : Buf (Elt F) (dwrM.view.loc (c : Thread nD τ)))

/-- The families of blocks: those of `x` at home, those of `dx` not yet written, those of `dx` written and waited for. -/
abbrev homeF : Fin 12 → sProp 𝕄 := fun b => xblkP c X b
abbrev aheadF : Fin 12 → sProp 𝕄 := fun b => iprop(∃ f, oblkP (F := F) c b f)
abbrev behindF : Fin 12 → sProp 𝕄 := fun b => landedP c b (dxB c X fdb fdbt fxs fwr b)

/-- The invariant before trip `k`. -/
abbrev invAt (k : ℕ) : sProp 𝕄 :=
  iprop(wholeP c dbM fdb ∗ wholeP c dbtM fdbt ∗ wholeP c xsM fxs ∗ wholeP c wrM fwr
    ∗ wholeP c dwrM (dwrAcc c X fdb fdbt fxs fwr fd0 k)
    ∗ bigSep (Ring.homeSet 3 k) (homeF c X) ∗ XR c X k ∗ XR c X (k + 1) ∗ XR c X (k + 2)
    ∗ bigSep (Ring.aheadSet k) (aheadF (F := F) c) ∗ bigSep (Ring.behindSet 6 k) (behindF c X fdb fdbt fxs fwr)
    ∗ OR c X fdb fdbt fxs fwr k ∗ OR c X fdb fdbt fxs fwr (k + 1) ∗ OR c X fdb fdbt fxs fwr (k + 2) ∗ OR c X fdb fdbt fxs fwr (k + 3)
    ∗ OR c X fdb fdbt fxs fwr (k + 4) ∗ OR c X fdb fdbt fxs fwr (k + 5)
    ∗ ∃ W, owes (c : Thread nD τ) 0 W)

theorem home_take (k : ℕ) (h : k + 3 < 12) (Φ : Fin 12 → sProp 𝕄) :
    bigSep (Ring.homeSet 3 k) Φ = iprop(Φ (Ring.bk 12 (k + 3)) ∗ bigSep ((Ring.homeSet 3 k).erase (Ring.bk 12 (k + 3))) Φ) :=
  bigSep_erase (by rw [Ring.mem_homeSet, Ring.bk_val h]; omega)
theorem home_put (k : ℕ) (h : k + 3 < 12) (Φ : Fin 12 → sProp 𝕄) :
    bigSep (Ring.homeSet 3 (k + 1)) Φ = iprop(Φ (Ring.bk 12 k) ∗ bigSep ((Ring.homeSet 3 k).erase (Ring.bk 12 (k + 3))) Φ) := by
  rw [Ring.homeSet_succ 3 k h]; exact bigSep_insert (Ring.bk_not_mem_erase 3 k (by omega) (by decide))
theorem home_tail (k : ℕ) (h : 12 ≤ k + 3) (hk : k < 12) (Φ : Fin 12 → sProp 𝕄) :
    bigSep (Ring.homeSet 3 (k + 1)) Φ = iprop(Φ (Ring.bk 12 k) ∗ bigSep (Ring.homeSet 3 k) Φ) := by
  rw [Ring.homeSet_succ_tail 3 k h hk]; exact bigSep_insert (Ring.bk_not_mem_homeSet 3 k hk (by decide))
theorem ahead_take (k : ℕ) (hk : k < 12) (Φ : Fin 12 → sProp 𝕄) :
    bigSep (Ring.aheadSet k) Φ = iprop(Φ (Ring.bk 12 k) ∗ bigSep (Ring.aheadSet (k + 1)) Φ) := by
  rw [Ring.aheadSet_open k hk]; exact bigSep_insert (Ring.bk_not_mem_aheadSet_succ k hk)
theorem behind_put (k : ℕ) (h6 : 6 ≤ k) (hk : k < 12) (Φ : Fin 12 → sProp 𝕄) :
    bigSep (Ring.behindSet 6 (k + 1)) Φ = iprop(Φ (Ring.bk 12 (k - 6)) ∗ bigSep (Ring.behindSet 6 k) Φ) := by
  rw [Ring.behindSet_close 6 k h6 hk]; exact bigSep_insert (Ring.bk_not_mem_behindSet 6 k h6 hk)

set_option warn.classDefReducibility false in
set_option maxHeartbeats 4000000 in
/-- The loop's invariant. -/
def loopInv (v300 : FVec F S128x128 .f32) :
    LoopInvTy_k0_t1 (F := F) Unit ℕ (UU nD τ) ℕ 𝒱₀ c none Set.univ (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 v300 where
  inv k _ := invAt c X fdb fdbt fxs fwr fd0 k
  step k _ := by
    have hk := trip_lt k
    unfold invAt
    by_cases h3 : k.val + 3 < 12
    · by_cases h6 : k.val < 6
      · rw [dwrAcc_succ, home_take k.val h3, ahead_take k.val hk, XR_lt c X k.val hk, OR_lt c X fdb fdbt fxs fwr k.val h6]
        iintro ⟨Hdb, Hdbt, Hxs, Hwr, Hd, ⟨Hx, Hh⟩, ⟨%f0, HX0⟩, HX1, HX2, ⟨⟨%fo, Ho⟩, Ha⟩, Hb, ⟨⟨%f1, HO0⟩, HOc⟩, HO1, HO2, HO3, HO4, HO5, %W, HW⟩
        iapply (wp_wand_r Idealize.ShloMosaic.frame (wpE (defs₀ (F := F)) 𝒱₀ (c : Thread nD τ) none) Set.univ)
        isplitl [Hdb Hdbt Hxs Hwr Hd HX0 HO0 HOc Ho Hx HW]
        · iapply (trip1 c X fdb fdbt fxs fwr v300 k h6 h3 _ f0 f1 fo W)
          iframe
        · iintro %_ ⟨Hdb, Hdbt, Hxs, Hwr, ⟨%fd', Hd, %hd⟩, HO, Hx, HX, HW⟩
          subst hd
          rw [home_put k.val h3, show Ring.behindSet (NB := 12) 6 (k.val + 1) = Ring.behindSet 6 k.val from by
            rw [Ring.behindSet_boot 6 _ (by omega), Ring.behindSet_boot 6 _ (by omega)]]
          rw [show k.val + 1 + 2 = k.val + 3 from rfl, XR_lt c X (k.val + 3) h3, Ring.sl_add 3 k.val, show k.val + 1 + 5 = k.val + 6 from rfl, OR_next]
          iframe
      · have h6 : 6 ≤ k.val := by omega
        rw [dwrAcc_succ, home_take k.val h3, ahead_take k.val hk, XR_lt c X k.val hk, OR_ge c X fdb fdbt fxs fwr k.val h6]
        iintro ⟨Hdb, Hdbt, Hxs, Hwr, Hd, ⟨Hx, Hh⟩, ⟨%f0, HX0⟩, HX1, HX2, ⟨⟨%fo, Ho⟩, Ha⟩, Hb, HO0, HO1, HO2, HO3, HO4, HO5, %W, HW⟩
        iapply (wp_wand_r Idealize.ShloMosaic.frame (wpE (defs₀ (F := F)) 𝒱₀ (c : Thread nD τ) none) Set.univ)
        isplitl [Hdb Hdbt Hxs Hwr Hd HX0 HO0 Ho Hx HW]
        · iapply (trip2 c X fdb fdbt fxs fwr v300 k h6 h3 _ f0 _ fo W)
          iframe
        · iintro %_ ⟨Hdb, Hdbt, Hxs, Hwr, ⟨%fd', Hd, %hd⟩, HO, Hx, HL, HX, HW⟩
          subst hd
          rw [home_put k.val h3, behind_put k.val h6 hk]
          rw [show k.val + 1 + 2 = k.val + 3 from rfl, XR_lt c X (k.val + 3) h3, Ring.sl_add 3 k.val, show k.val + 1 + 5 = k.val + 6 from rfl, OR_next]
          iframe
    · have h3' : 12 ≤ k.val + 3 := by omega
      have h6 : 6 ≤ k.val := by omega
      rw [dwrAcc_succ, ahead_take k.val hk, XR_lt c X k.val hk, OR_ge c X fdb fdbt fxs fwr k.val h6]
      iintro ⟨Hdb, Hdbt, Hxs, Hwr, Hd, Hh, ⟨%f0, HX0⟩, HX1, HX2, ⟨⟨%fo, Ho⟩, Ha⟩, Hb, HO0, HO1, HO2, HO3, HO4, HO5, %W, HW⟩
      iapply (wp_wand_r Idealize.ShloMosaic.frame (wpE (defs₀ (F := F)) 𝒱₀ (c : Thread nD τ) none) Set.univ)
      isplitl [Hdb Hdbt Hxs Hwr Hd HX0 HO0 Ho HW]
      · iapply (trip3 c X fdb fdbt fxs fwr v300 k h6 h3' _ f0 _ fo W)
        iframe
      · iintro %_ ⟨Hdb, Hdbt, Hxs, Hwr, ⟨%fd', Hd, %hd⟩, HO, Hx, HL, HX, HXc, HW⟩
        subst hd
        rw [home_tail k.val h3' hk, behind_put k.val h6 hk]
        rw [show k.val + 1 + 2 = k.val + 3 from rfl, XR_ge c X (k.val + 3) h3', Ring.sl_add 3 k.val, show k.val + 1 + 5 = k.val + 6 from rfl, OR_next]
        iframe

end Loop

end Cert.Proof.Bits

end
-- ==== Proof.Bits.Head.lean ====
/-
  What the kernel computes before its loop: the gradient of the router's logits, and the two arrangements of it that the
  products read.
-/
module

public import proofs.«01_k».proof.Proof.Bits.Tile
public import Idealize.ShloMosaic.Lib.PointwiseCore

@[expose] public section

noncomputable section

namespace Cert.Proof.Bits

open Cert.Kernel Cert.Kernel.Gen
open Idealize.ShloMosaic
open Idealize.ShloMosaic.TcCoe Idealize.ShloMosaic.Tactic

variable {F : FTy → Type} [FloatOps F]

abbrev dwM : Memref sig .tc .hbm S2x1536 .f32 := Memref.whole main_v3
abbrev idsM : Memref sig .tc .hbm S2x1536 .i32 := Memref.whole main_v4
abbrev lgM : Memref sig .tc .hbm S8x1536 .f32 := Memref.whole main_v5
abbrev xscM : Memref sig .tc .hbm S12x128 .f32 := Memref.whole main_v6
abbrev wr16M : Memref sig .tc .hbm S16x6144 .bf16 := Memref.whole main_v2
abbrev fM : Memref sig .tc .hbm S8 .f32 := Memref.whole main_arg6
abbrev auxM : Memref sig .tc .hbm S1 .f32 := Memref.whole main_arg7
abbrev dwrOutM : Memref sig .tc .hbm S8x6144 .f32 := Memref.whole main_v7_1
abbrev dlOutM : Memref sig .tc .hbm S8x1536 .f32 := Memref.whole main_v7_2
abbrev fsM : Memref sig .tc .smem S8 .f32 := Memref.whole cc0_scratch0
abbrev auxsM : Memref sig .tc .smem S1 .f32 := Memref.whole cc0_scratch1
abbrev idsvM : Memref sig .tc .vmem S2x1536 .i32 := Memref.whole cc0_scratch2
abbrev lgvM : Memref sig .tc .vmem S8x1536 .f32 := Memref.whole cc0_scratch3
abbrev dlvM : Memref sig .tc .vmem S8x1536 .f32 := Memref.whole cc0_scratch7
abbrev dwvM : Memref sig .tc .vmem S2x1536 .f32 := Memref.whole cc0_scratch8

/-! ## The gradient of the logits -/

/-- The number of the expert in each row. -/
abbrev expertI : IVec S8x1536 32 := iota .tc S8x1536 32 [0] iota_S8x1536_d0_w32

/-- The gradient of the logits, from the logits, the two rows of weight gradients, the two rows of chosen experts, the
    experts' frequencies and the factor of the balancing loss. -/
def dlK (lg : Vec F S8x1536 .f32) (d0 d1 : Vec F S1x1536 .f32) (i0 i1 : Vec F S1x1536 .i32) (f0 f1 f2 f3 f4 f5 f6 f7 aux : Elt F .f32) : FVec F S8x1536 .f32 :=
  k0_pay88 (k0_pay82 lg)
    (k0_pay86 expertI (k0_pay83 (k0_pay82 lg) expertI d0 d1 i0 i1) (k0_pay84 expertI f0) (k0_pay85 expertI) f1 f2 f3 f4 f5 f6 f7 aux)
    (k0_pay87 (k0_pay82 lg) expertI (k0_pay83 (k0_pay82 lg) expertI d0 d1 i0 i1) (k0_pay84 expertI f0) (k0_pay85 expertI) f1 f2 f3 f4 f5 f6 f7 aux)

theorem dlK_congr {lg lg' : Vec F S8x1536 .f32} {d0 d0' d1 d1' : Vec F S1x1536 .f32} {i0 i0' i1 i1' : Vec F S1x1536 .i32}
    {f0 f0' f1 f1' f2 f2' f3 f3' f4 f4' f5 f5' f6 f6' f7 f7' aux aux' : Elt F .f32}
    (hl : lg = lg') (h0 : d0 = d0') (h1 : d1 = d1') (j0 : i0 = i0') (j1 : i1 = i1') (e0 : f0 = f0') (e1 : f1 = f1') (e2 : f2 = f2') (e3 : f3 = f3')
    (e4 : f4 = f4') (e5 : f5 = f5') (e6 : f6 = f6') (e7 : f7 = f7') (ea : aux = aux') :
    dlK lg d0 d1 i0 i1 f0 f1 f2 f3 f4 f5 f6 f7 aux = dlK lg' d0' d1' i0' i1' f0' f1' f2' f3' f4' f5' f6' f7' aux' := by
  subst hl h0 h1 j0 j1 e0 e1 e2 e3 e4 e5 e6 e7 ea; rfl

section Contents
variable (Vdw : dwM.view.ty.Contents (Elt F)) (Vids : idsM.view.ty.Contents (Elt F)) (Vlg : lgM.view.ty.Contents (Elt F))
  (Vf : fM.view.ty.Contents (Elt F)) (Vaux : auxM.view.ty.Contents (Elt F))

/-- The gradient of the logits, from the buffers' contents. -/
def dlV : FVec F S8x1536 .f32 :=
  dlK (fun j => Vlg j) (fun j => Vdw (ix2 (n0 := 2) (n1 := 1536) 0 (j 1))) (fun j => Vdw (ix2 (n0 := 2) (n1 := 1536) 1 (j 1)))
    (fun j => Vids (ix2 (n0 := 2) (n1 := 1536) 0 (j 1))) (fun j => Vids (ix2 (n0 := 2) (n1 := 1536) 1 (j 1)))
    (Vf (ix1 (n0 := 8) 0)) (Vf (ix1 (n0 := 8) 1)) (Vf (ix1 (n0 := 8) 2)) (Vf (ix1 (n0 := 8) 3)) (Vf (ix1 (n0 := 8) 4)) (Vf (ix1 (n0 := 8) 5))
    (Vf (ix1 (n0 := 8) 6)) (Vf (ix1 (n0 := 8) 7)) (Vaux (ix1 (n0 := 1) 0))
end Contents

/-! ## Reading what a copy left -/

/-- A load from a buffer just filled by a copy reads the copied contents. -/
theorem readAt_landed {sp : Space} {s : Shape} {e : EltTy} (v : View sig .tc sp s e) (f : v.ty.Contents (Elt F)) (w : s.Idx → Elt F e) (r : LoadRect s) :
    v.readAt (Elt F) r (v.writes (Elt F) f [⟨Rect.whole s, w⟩]) = fun j => w (r.idx j) := by
  funext j
  exact congrFun (read_writes_whole v f w) (r.idx j)

theorem row_idx (r : Fin 2) {off : Fin 2 → ℕ} (inb : ∀ a, off a + S1x1536.size a ≤ S2x1536.size a) (hoff : off = ![r.val, 0]) (j : S1x1536.Idx) :
    (Rect.unit (s := S2x1536) off S1x1536.size inb).toLoadRect.idx j = ix2 (n0 := 2) (n1 := 1536) r (j 1) := by
  subst hoff
  have h0 : (j 0).val < 1 := (j 0).isLt
  refine funext fun i => Fin.ext ?_
  match i with
  | ⟨0, _⟩ => show r.val + 1 * (j 0).val = r.val; omega
  | ⟨1, _⟩ => show 0 + 1 * (j 1).val = (j 1).val; omega

theorem all_idx {off : Fin 2 → ℕ} (inb : ∀ a, off a + S8x1536.size a ≤ S8x1536.size a) (hoff : off = ![0, 0]) (j : S8x1536.Idx) :
    (Rect.unit (s := S8x1536) off S8x1536.size inb).toLoadRect.idx j = j := by
  subst hoff
  refine funext fun i => Fin.ext ?_
  match i with
  | ⟨0, _⟩ => show 0 + 1 * (j 0).val = (j 0).val; omega
  | ⟨1, _⟩ => show 0 + 1 * (j 1).val = (j 1).val; omega

theorem cell_idx {n : ℕ} (k : Fin n) {off : Fin 1 → ℕ} (inb : ∀ a, off a + S1.size a ≤ (⟨1, ![n]⟩ : Shape).size a) (hoff : off = ![k.val]) (j : S1.Idx) :
    (Rect.unit (s := ⟨1, ![n]⟩) off S1.size inb).toLoadRect.idx j = ix1 (n0 := n) k := by
  subst hoff
  have h0 : (j 0).val < 1 := (j 0).isLt
  refine funext fun i => Fin.ext ?_
  match i with
  | ⟨0, _⟩ => show k.val + 1 * (j 0).val = k.val; omega

theorem row_landed {sp : Space} {e : EltTy} (v : View sig .tc sp S2x1536 e) (w : S2x1536.Idx → Elt F e) (r : ℕ) (hr : r < 2)
    (inb : ∀ a, (![r, 0] : Fin 2 → ℕ) a + S1x1536.size a ≤ S2x1536.size a) :
    v.readCov [⟨Rect.whole S2x1536, w⟩] (Rect.unit (s := S2x1536) ![r, 0] S1x1536.size inb).toLoadRect
      = fun j => w (ix2 (n0 := 2) (n1 := 1536) ⟨r, hr⟩ (j 1)) :=
  (readAt_landed v v.junk w (Rect.unit (s := S2x1536) ![r, 0] S1x1536.size inb).toLoadRect).trans (funext fun j => congrArg w (row_idx ⟨r, hr⟩ inb rfl j))

theorem all_landed {sp : Space} {e : EltTy} (v : View sig .tc sp S8x1536 e) (w : S8x1536.Idx → Elt F e)
    (inb : ∀ a, (![0, 0] : Fin 2 → ℕ) a + S8x1536.size a ≤ S8x1536.size a) :
    v.readCov [⟨Rect.whole S8x1536, w⟩] (Rect.unit (s := S8x1536) ![0, 0] S8x1536.size inb).toLoadRect = fun j => w j :=
  (readAt_landed v v.junk w (Rect.unit (s := S8x1536) ![0, 0] S8x1536.size inb).toLoadRect).trans (funext fun j => congrArg w (all_idx inb rfl j))

theorem cell_landed {sp : Space} {e : EltTy} {n : ℕ} (v : View sig .tc sp ⟨1, ![n]⟩ e) (w : (⟨1, ![n]⟩ : Shape).Idx → Elt F e) (k : ℕ) (hk : k < n)
    (inb : ∀ a, (![k] : Fin 1 → ℕ) a + S1.size a ≤ (⟨1, ![n]⟩ : Shape).size a) (j : S1.Idx) :
    v.readCov [⟨Rect.whole ⟨1, ![n]⟩, w⟩] (Rect.unit (s := ⟨1, ![n]⟩) ![k] S1.size inb).toLoadRect j = w (ix1 (n0 := n) ⟨k, hk⟩) :=
  (congrFun (readAt_landed v v.junk w (Rect.unit (s := ⟨1, ![n]⟩) ![k] S1.size inb).toLoadRect) j).trans (congrArg w (cell_idx ⟨k, hk⟩ inb rfl j))

/-! ## The two arrangements -/

section Arr
variable (dl : FVec F S8x1536 .f32)

/-- Sixteen-bit gradient of expert `n`'s logit at token `t`, zero past the eight experts. -/
def dbEl (n : ℕ) (t : Fin 1536) : Elt F .bf16 :=
  FloatOps.truncf .bf16 bitsLt_bf16_f32 (if h : n < 8 then dl (ix2 (n0 := 8) (n1 := 1536) ⟨n, h⟩ t) else Scalar.ofBits .f32 0x00000000#32)

/-- The arrangement by tokens. -/
def dbC : dbM.view.ty.Contents (Elt F) := fun j : S1536x128.Idx => dbEl dl (j 1).val (j 0)
/-- The arrangement by experts. -/
def dbtC : dbtM.view.ty.Contents (Elt F) := fun j : S16x1536.Idx => dbEl dl (j 0).val (j 1)
/-- The accumulator at zero. -/
def dwrC : dwrM.view.ty.Contents (Elt F) := fun _ : S8x6144.Idx => Scalar.ofBits .f32 0x00000000#32

/-- Eight rows of 128 columns of the gradient, padded with zeros. -/
def padC (off : Fin 2 → ℕ) (hs : S8x1536.Slices off S8x128) : FVec F S128x128 .f32 :=
  concatenate S128x128 0 [⟨S8x128, extractStridedSlice S8x128 off dl hs⟩, ⟨S120x128, broadcast S120x128 (Scalar.ofBits (F := F) .f32 0x00000000#32)⟩] concatenates_S8x128_S120x128_S128x128_d0
def dbTile (off : Fin 2 → ℕ) (hs : S8x1536.Slices off S8x128) : FVec F S128x128 .bf16 :=
  shapeCast S128x128 (truncf .bf16 (transpose S128x128 [1, 0] (padC dl off hs) transposes_S128x128_p1_0_S128x128) bitsLt_bf16_f32) shapeCasts_S128x128_S128x128
def dbtTile (off : Fin 2 → ℕ) (hs : S8x1536.Slices off S8x128) : FVec F S16x128 .bf16 :=
  shapeCast S16x128 (truncf .bf16 (extractStridedSlice S16x128 ![0, 0] (padC dl off hs) slices_S128x128_o0_0_S16x128) bitsLt_bf16_f32) shapeCasts_S16x128_S16x128

theorem padC_apply (N : ℕ) (hN : N < 12) (hs : S8x1536.Slices ![0, 128 * N] S8x128) (a b : Fin 128) :
    padC dl ![0, 128 * N] hs (ix2 a b)
      = if h : a.val < 8 then dl (ix2 (n0 := 8) (n1 := 1536) ⟨a.val, h⟩ ⟨128 * N + b.val, by omega⟩) else Scalar.ofBits .f32 0x00000000#32 := by
  unfold padC
  pointwise

theorem dbTile_apply (N : ℕ) (hN : N < 12) (hs : S8x1536.Slices ![0, 128 * N] S8x128) (a b : Fin 128) :
    dbTile dl ![0, 128 * N] hs (ix2 a b) = dbEl dl b.val ⟨128 * N + a.val, by omega⟩ := by
  unfold dbTile dbEl
  rw [← padC_apply dl N hN hs b a]
  pointwise

theorem dbtTile_apply (N : ℕ) (hN : N < 12) (hs : S8x1536.Slices ![0, 128 * N] S8x128) (a : Fin 16) (b : Fin 128) :
    dbtTile dl ![0, 128 * N] hs (ix2 a b) = dbEl dl a.val ⟨128 * N + b.val, by omega⟩ := by
  unfold dbtTile dbEl
  rw [← padC_apply dl N hN hs ⟨a.val, by omega⟩ b]
  pointwise

/-- The first `N` blocks of 128 tokens are in place. -/
def dbReady (N : ℕ) (g : dbM.view.ty.Contents (Elt F)) : Prop :=
  ∀ (t : Fin 1536) (n : Fin 128), t.val < 128 * N → dbM.view.read (Elt F) g (ix2 t n) = dbEl dl n.val t
def dbtReady (N : ℕ) (g : dbtM.view.ty.Contents (Elt F)) : Prop :=
  ∀ (n : Fin 16) (t : Fin 1536), t.val < 128 * N → dbtM.view.read (Elt F) g (ix2 n t) = dbEl dl n.val t

theorem dbReady_step (N : ℕ) (hN : N < 12) (g : dbM.view.ty.Contents (Elt F)) (L : List ((r : Rect S1536x128) × (r.shape.Idx → Elt F .bf16)))
    {off offs : Fin 2 → ℕ} (inb : ∀ a, off a + S128x128.size a ≤ S1536x128.size a) (hs : S8x1536.Slices offs S8x128)
    (w : (Rect.unit (s := S1536x128) off S128x128.size inb).shape.Idx → Elt F .bf16)
    (hoff : off = ![128 * N, 0]) (hoffs : offs = ![0, 128 * N]) (hw : w = dbTile dl offs hs)
    (ih : dbReady dl N (dbM.view.writes (Elt F) g L)) :
    dbReady dl (N + 1) (dbM.view.writes (Elt F) g (⟨Rect.unit (s := S1536x128) off S128x128.size inb, w⟩ :: L)) := by
  intro t n ht
  by_cases h : t.val < 128 * N
  · exact (View.read_writes_cons_unit_of_not_mem dbM.view g inb w L (ix2 t n) hoff 0 (Or.inl h)).trans (ih t n h)
  · refine (View.read_writes_cons_unit_of_mem dbM.view g inb w L (ix2 t n) (ix2 (n0 := 128) (n1 := 128) ⟨t.val - 128 * N, by omega⟩ n) hoff ?_).trans ?_
    · intro i
      match i with
      | ⟨0, _⟩ => show t.val = 128 * N + (t.val - 128 * N); omega
      | ⟨1, _⟩ => show n.val = 0 + n.val; omega
    · subst hoffs
      rw [hw]
      refine (dbTile_apply dl N hN hs _ _).trans ?_
      exact congrArg (dbEl dl n.val) (Fin.ext (by show 128 * N + (t.val - 128 * N) = t.val; omega))

theorem dbtReady_step (N : ℕ) (hN : N < 12) (g : dbtM.view.ty.Contents (Elt F)) (L : List ((r : Rect S16x1536) × (r.shape.Idx → Elt F .bf16)))
    {off offs : Fin 2 → ℕ} (inb : ∀ a, off a + S16x128.size a ≤ S16x1536.size a) (hs : S8x1536.Slices offs S8x128)
    (w : (Rect.unit (s := S16x1536) off S16x128.size inb).shape.Idx → Elt F .bf16)
    (hoff : off = ![0, 128 * N]) (hoffs : offs = ![0, 128 * N]) (hw : w = dbtTile dl offs hs)
    (ih : dbtReady dl N (dbtM.view.writes (Elt F) g L)) :
    dbtReady dl (N + 1) (dbtM.view.writes (Elt F) g (⟨Rect.unit (s := S16x1536) off S16x128.size inb, w⟩ :: L)) := by
  intro n t ht
  by_cases h : t.val < 128 * N
  · exact (View.read_writes_cons_unit_of_not_mem dbtM.view g inb w L (ix2 n t) hoff 1 (Or.inl h)).trans (ih n t h)
  · refine (View.read_writes_cons_unit_of_mem dbtM.view g inb w L (ix2 n t) (ix2 (n0 := 16) (n1 := 128) n ⟨t.val - 128 * N, by omega⟩) hoff ?_).trans ?_
    · intro i
      match i with
      | ⟨0, _⟩ => show n.val = 0 + n.val; omega
      | ⟨1, _⟩ => show t.val = 128 * N + (t.val - 128 * N); omega
    · subst hoffs
      rw [hw]
      refine (dbtTile_apply dl N hN hs _ _).trans ?_
      exact congrArg (dbEl dl n.val) (Fin.ext (by show 128 * N + (t.val - 128 * N) = t.val; omega))

theorem dbReady_zero (g) : dbReady dl 0 g := fun t n h => absurd h (by omega)
theorem dbtReady_zero (g) : dbtReady dl 0 g := fun t n h => absurd h (by omega)

theorem dbReady_done (g) (h : dbReady dl 12 g) : g = dbC dl := by
  funext (j : S1536x128.Idx)
  have h1 := h (j 0) (j 1) (by have : (j 0).val < 1536 := (j 0).isLt; omega)
  rw [← eq_ix2 j] at h1
  exact h1
theorem dbtReady_done (g) (h : dbtReady dl 12 g) : g = dbtC dl := by
  funext (j : S16x1536.Idx)
  have h1 := h (j 0) (j 1) (by have : (j 1).val < 1536 := (j 1).isLt; omega)
  rw [← eq_ix2 j] at h1
  exact h1

theorem dwr_done (G : dwrM.view.ty.Contents (Elt F)) (h : ∀ (n : Fin 8) (d : Fin 6144), dwrM.view.read (Elt F) G (ix2 n d) = Scalar.ofBits .f32 0x00000000#32) :
    G = dwrC := by
  funext (j : S8x6144.Idx)
  have h1 := h (j 0) (j 1)
  rw [← eq_ix2 j] at h1
  exact h1

theorem dwr_zero_at (g : dwrM.view.ty.Contents (Elt F)) {off : Fin 2 → ℕ} (inb : ∀ a, off a + S8x6144.size a ≤ S8x6144.size a) (hoff : off = ![0, 0])
    (w : (Rect.unit (s := S8x6144) off S8x6144.size inb).shape.Idx → Elt F .f32) (hw : w = k0_pay126) (n : Fin 8) (d : Fin 6144) :
    dwrM.view.read (Elt F) (dwrM.view.writes (Elt F) g [⟨Rect.unit (s := S8x6144) off S8x6144.size inb, w⟩]) (ix2 n d) = Scalar.ofBits .f32 0x00000000#32 := by
  refine (View.read_writes_cons_unit_of_mem dwrM.view g inb w [] (ix2 n d) (ix2 (n0 := 8) (n1 := 6144) n d) hoff ?_).trans ?_
  · intro i
    match i with
    | ⟨0, _⟩ => show n.val = 0 + n.val; omega
    | ⟨1, _⟩ => show d.val = 0 + d.val; omega
  · rw [hw]; unfold k0_pay126; pointwise

theorem dwr_zero (g : dwrM.view.ty.Contents (Elt F)) {off : Fin 2 → ℕ} (inb : ∀ a, off a + S8x6144.size a ≤ S8x6144.size a) (hoff : off = ![0, 0])
    (w : (Rect.unit (s := S8x6144) off S8x6144.size inb).shape.Idx → Elt F .f32) (hw : w = k0_pay126) :
    dwrM.view.writes (Elt F) g [⟨Rect.unit (s := S8x6144) off S8x6144.size inb, w⟩] = dwrC := by
  exact dwr_done _ fun n d => dwr_zero_at g inb hoff w hw n d

theorem dlv_at (g : dlvM.view.ty.Contents (Elt F)) {off : Fin 2 → ℕ} (inb : ∀ a, off a + S8x1536.size a ≤ S8x1536.size a) (hoff : off = ![0, 0])
    (w : (Rect.unit (s := S8x1536) off S8x1536.size inb).shape.Idx → Elt F .f32) (hw : w = shapeCast S8x1536 dl shapeCasts_S8x1536_S8x1536) (n : Fin 8) (t : Fin 1536) :
    dlvM.view.read (Elt F) (dlvM.view.writes (Elt F) g [⟨Rect.unit (s := S8x1536) off S8x1536.size inb, w⟩]) (ix2 n t) = dl (ix2 n t) := by
  refine (View.read_writes_cons_unit_of_mem dlvM.view g inb w [] (ix2 n t) (ix2 (n0 := 8) (n1 := 1536) n t) hoff ?_).trans ?_
  · intro i
    match i with
    | ⟨0, _⟩ => show n.val = 0 + n.val; omega
    | ⟨1, _⟩ => show t.val = 0 + t.val; omega
  · rw [hw]; pointwise

theorem dlv_done (G : dlvM.view.ty.Contents (Elt F)) (h : ∀ (n : Fin 8) (t : Fin 1536), dlvM.view.read (Elt F) G (ix2 n t) = dl (ix2 n t)) :
    dlvM.view.read (Elt F) G = dl := by
  funext (j : S8x1536.Idx)
  have h1 := h (j 0) (j 1)
  rw [← eq_ix2 j] at h1
  exact h1

end Arr

end Cert.Proof.Bits

end
-- ==== Proof.Bits.Body.lean ====
/-
  The body of the kernel.
-/
module

public import proofs.«01_k».proof.Proof.Bits.Loop
public import proofs.«01_k».proof.Proof.Bits.Head

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The kernel's body on its buffers. -/
abbrev bodyG : Prog (TpuEff nD τ sig (Elt F) Λ₀ .tc) PUnit := cc0_moe_combine_router_bwd (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15

/-! ## Around the loop -/

section Around
variable (c : Dev nD) (X : Buf (Elt F) (xM.view.loc (c : Thread nD τ)))
variable (fdb : Buf (Elt F) (dbM.view.loc (c : Thread nD τ))) (fdbt : Buf (Elt F) (dbtM.view.loc (c : Thread nD τ)))
  (fxs : Buf (Elt F) (xsM.view.loc (c : Thread nD τ))) (fwr : Buf (Elt F) (wrM.view.loc (c : Thread nD τ)))

theorem whole_eq {sp : Space} {s : Shape} {t : EltTy} (M : Memref sig .tc sp s t) {f g : Buf (Elt F) (M.view.loc (c : Thread nD τ))} (h : f = g) :
    wholeP c M f ⊢ wholeP c M g := by subst h; exact .rfl

theorem slot3_lit (p : ℕ) (s : Fin 3) (h : p % 3 = s.val) : Ring.sl 3 p = s := Fin.ext h
theorem slot6_lit (p : ℕ) (s : Fin 6) (h : p % 6 = s.val) : Ring.sl 6 p = s := Fin.ext h
theorem blk_lit (p : ℕ) (b : Fin 12) (h : p % 12 = b.val) : Ring.bk 12 p = b := Fin.ext h

theorem XR_start (p : ℕ) (s : Fin 3) (b : Fin 12) (hp : p < 12) (hs : p % 3 = s.val) (hb : p % 12 = b.val) (f) :
    xflightP c X s b f ⊢ XR c X p := by
  rw [XR_lt c X p hp, slot3_lit p s hs, blk_lit p b hb]; iintro H; iexists f; iexact H
theorem XR_end (p : ℕ) (s : Fin 3) (hp : 12 ≤ p) (hs : p % 3 = s.val) :
    XR c X p ⊢ iprop((∃ f, xslotP (F := F) c s f) ∗ xcellP c s) := by
  rw [XR_ge c X p hp, slot3_lit p s hs]
theorem OR_start (p : ℕ) (s : Fin 6) (hp : p < 6) (hs : p % 6 = s.val) :
    iprop((∃ f, oslotP (F := F) c s f) ∗ ocellP c s) ⊢ OR c X fdb fdbt fxs fwr p := by
  rw [OR_lt c X fdb fdbt fxs fwr p hp, slot6_lit p s hs]
theorem OR_end (p : ℕ) (s : Fin 6) (b : Fin 12) (hp : 6 ≤ p) (hs : p % 6 = s.val) (hb : (p - 6) % 12 = b.val) :
    OR c X fdb fdbt fxs fwr p ⊢ oflightP c s b (dxB c X fdb fdbt fxs fwr b) := by
  rw [OR_ge c X fdb fdbt fxs fwr p hp, slot6_lit p s hs, blk_lit (p - 6) b hb]

theorem behind_all (Φ : Fin 12 → sProp 𝕄) :
    iprop(Φ 6 ∗ Φ 7 ∗ Φ 8 ∗ Φ 9 ∗ Φ 10 ∗ Φ 11 ∗ bigSep (Ring.behindSet 6 12) Φ) ⊢ bigSep Finset.univ Φ := by
  have e : (Finset.univ : Finset (Fin 12)) = insert 6 (insert 7 (insert 8 (insert 9 (insert 10 (insert 11 (Ring.behindSet 6 12)))))) := by decide
  rw [e, bigSep_insert (by decide), bigSep_insert (by decide), bigSep_insert (by decide), bigSep_insert (by decide), bigSep_insert (by decide), bigSep_insert (by decide)]
  exact .rfl

theorem loop_rule (v300 : FVec F S128x128 .f32) (fd0 : Buf (Elt F) (dwrM.view.loc (c : Thread nD τ))) {β : Type} {kk : Unit → Prog (TpuEff nD τ sig (Elt F) Λ₀ .tc) β} {Q : β → sProp 𝕄} :
    invAt c X fdb fdbt fxs fwr fd0 0 ⊢ iprop((∀ acc, invAt c X fdb fdbt fxs fwr fd0 k0_t1_loop.trips -∗ wp frame (wpE (defs₀ (F := F)) 𝒱₀ (c : Thread nD τ) none) Set.univ (kk acc) Q)
      -∗ wp frame (wpE (defs₀ (F := F)) 𝒱₀ (c : Thread nD τ) none) Set.univ (Scf.for k0_t1_loop.lb k0_t1_loop.ub k0_t1_loop.st k0_t1_ok () (fun k a => k0_t1_body (F := F) (Memref.whole main_v3) (Memref.isWhole_whole _) (Memref.whole main_v4) (Memref.isWhole_whole _) (Memref.whole main_v5) (Memref.isWhole_whole _) (Memref.whole main_v6) (Memref.isWhole_whole _) (Memref.whole main_v2) (Memref.isWhole_whole _) (Memref.whole main_arg6) (Memref.isWhole_whole _) (Memref.whole main_arg7) (Memref.isWhole_whole _) (Memref.whole main_arg3) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 v300 k a) >>= kk) Q) :=
  exec_loop frame (wpE (defs₀ (F := F)) 𝒱₀ (c : Thread nD τ) none) Set.univ _ _ _ _ _ _ (loopInv c X fdb fdbt fxs fwr fd0 v300)

theorem home_last (Φ : Fin 12 → sProp 𝕄) : bigSep (Ring.homeSet 3 12) Φ = bigSep Finset.univ Φ := by
  rw [Ring.homeSet_last 3 12 (by decide)]

theorem inv_exit (fd0 : Buf (Elt F) (dwrM.view.loc (c : Thread nD τ))) :
    invAt c X fdb fdbt fxs fwr fd0 k0_t1_loop.trips ⊢
      iprop(wholeP c dbM fdb ∗ wholeP c dbtM fdbt ∗ wholeP c xsM fxs ∗ wholeP c wrM fwr
        ∗ wholeP c dwrM (dwrAcc c X fdb fdbt fxs fwr fd0 12) ∗ bigSep Finset.univ (homeF c X)
        ∗ ((∃ f, xslotP (F := F) c 0 f) ∗ xcellP c 0) ∗ ((∃ f, xslotP (F := F) c 1 f) ∗ xcellP c 1) ∗ ((∃ f, xslotP (F := F) c 2 f) ∗ xcellP c 2)
        ∗ bigSep (Ring.behindSet 6 12) (behindF c X fdb fdbt fxs fwr)
        ∗ oflightP c 0 6 (dxB c X fdb fdbt fxs fwr 6) ∗ oflightP c 1 7 (dxB c X fdb fdbt fxs fwr 7) ∗ oflightP c 2 8 (dxB c X fdb fdbt fxs fwr 8) ∗ oflightP c 3 9 (dxB c X fdb fdbt fxs fwr 9) ∗ oflightP c 4 10 (dxB c X fdb fdbt fxs fwr 10) ∗ oflightP c 5 11 (dxB c X fdb fdbt fxs fwr 11)
        ∗ ∃ W, owes (c : Thread nD τ) 0 W) := by
  rw [trips_eq]; unfold invAt; rw [home_last]
  iintro ⟨Hdb, Hdbt, Hxs, Hwr, Hd, Hh, HX0, HX1, HX2, Ha, Hb, HO0, HO1, HO2, HO3, HO4, HO5, HW⟩
  iclear Ha
  isplitl [Hdb]; · iexact Hdb
  isplitl [Hdbt]; · iexact Hdbt
  isplitl [Hxs]; · iexact Hxs
  isplitl [Hwr]; · iexact Hwr
  isplitl [Hd]; · iexact Hd
  isplitl [Hh]; · iexact Hh
  isplitl [HX0]; · iapply (XR_end c X 12 0 (by decide) rfl); iexact HX0
  isplitl [HX1]; · iapply (XR_end c X 13 1 (by decide) rfl); iexact HX1
  isplitl [HX2]; · iapply (XR_end c X 14 2 (by decide) rfl); iexact HX2
  isplitl [Hb]; · iexact Hb
  isplitl [HO0]; · iapply (OR_end c X fdb fdbt fxs fwr 12 0 6 (by decide) rfl rfl); iexact HO0
  isplitl [HO1]; · iapply (OR_end c X fdb fdbt fxs fwr 13 1 7 (by decide) rfl rfl); iexact HO1
  isplitl [HO2]; · iapply (OR_end c X fdb fdbt fxs fwr 14 2 8 (by decide) rfl rfl); iexact HO2
  isplitl [HO3]; · iapply (OR_end c X fdb fdbt fxs fwr 15 3 9 (by decide) rfl rfl); iexact HO3
  isplitl [HO4]; · iapply (OR_end c X fdb fdbt fxs fwr 16 4 10 (by decide) rfl rfl); iexact HO4
  isplitl [HO5]; · iapply (OR_end c X fdb fdbt fxs fwr 17 5 11 (by decide) rfl rfl); iexact HO5
  iexact HW

theorem landed_mk (b : Fin 12) (fo : Buf (Elt F) ((oblk b).view.loc (c : Thread nD τ))) (v' v : S128x6144.Idx → Elt F .bf16) (h : v' = v) :
    oblkP c b ((oblk b).view.writes (Elt F) fo [⟨Rect.whole S128x6144, v'⟩]) ⊢ landedP c b v := by
  unfold landedP
  iintro H; iexists fo; iexists v'; isplitl [H]; · iexact H
  ipureintro; exact h

/-- Whole contents written over a buffer are its contents. -/
theorem writes_whole {sp : Space} {s : Shape} {e : EltTy} (v : View sig .tc sp s e) (f : v.ty.Contents (Elt F)) (w : s.Idx → Elt F e) (g : v.ty.Contents (Elt F))
    (hv : ∀ f g : v.ty.Contents (Elt F), v.read (Elt F) f = v.read (Elt F) g → f = g) (hg : v.read (Elt F) g = w) :
    v.writes (Elt F) f [⟨Rect.whole s, w⟩] = g := hv _ _ ((read_writes_whole v f w).trans hg.symm)
end Around

section Body
variable (c : Dev nD)

set_option maxRecDepth 20000 in
set_option maxHeartbeats 20000000 in
theorem bodyRun (X) (Vdw Vids Vlg Vxsc Vwr Vf Vaux Vdwr Vdl) (gf gaux gids glg gxs gwr gdwr gdl gdw gdb gdbt g0 g1 g2) W :
   iprop(wholeP (F := F) c dwM Vdw ∗ wholeP c idsM Vids ∗ wholeP c lgM Vlg ∗ wholeP c xscM Vxsc ∗ wholeP c wr16M Vwr ∗ wholeP c fM Vf ∗ wholeP c auxM Vaux
     ∗ wholeP c dwrOutM Vdwr ∗ wholeP c dlOutM Vdl
     ∗ wholeP c fsM gf ∗ wholeP c auxsM gaux ∗ wholeP c idsvM gids ∗ wholeP c lgvM glg ∗ wholeP c xsM gxs ∗ wholeP c wrM gwr ∗ wholeP c dwrM gdwr ∗ wholeP c dlvM gdl
     ∗ wholeP c dwvM gdw ∗ wholeP c dbM gdb ∗ wholeP c dbtM gdbt
     ∗ xblkP c X 0 ∗ xblkP c X 1 ∗ xblkP c X 2 ∗ xslotP c 0 g0 ∗ xslotP c 1 g1 ∗ xslotP c 2 g2 ∗ xcellP c 0 ∗ xcellP c 1 ∗ xcellP c 2
     ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
     ∗ owes (c : Thread nD τ) 0 W
     ∗ bigSep (Ring.homeSet 3 0) (homeF c X) ∗ bigSep Finset.univ (aheadF (F := F) c)
     ∗ ((∃ f, oslotP (F := F) c 0 f) ∗ ocellP c 0) ∗ ((∃ f, oslotP (F := F) c 1 f) ∗ ocellP c 1) ∗ ((∃ f, oslotP (F := F) c 2 f) ∗ ocellP c 2) ∗ ((∃ f, oslotP (F := F) c 3 f) ∗ ocellP c 3) ∗ ((∃ f, oslotP (F := F) c 4 f) ∗ ocellP c 4) ∗ ((∃ f, oslotP (F := F) c 5 f) ∗ ocellP c 5))
   ⊢ wp frame (wpE (defs₀ (F := F)) 𝒱₀ (c : Thread nD τ) none) Set.univ bodyG (fun _ =>
     iprop(wholeP (F := F) c dwM Vdw ∗ wholeP c idsM Vids ∗ wholeP c lgM Vlg ∗ wholeP c xscM Vxsc ∗ wholeP c wr16M Vwr ∗ wholeP c fM Vf ∗ wholeP c auxM Vaux
     ∗ wholeP c dwrOutM (dwrAcc c X (dbC (dlV Vdw Vids Vlg Vf Vaux)) (dbtC (dlV Vdw Vids Vlg Vf Vaux)) Vxsc Vwr dwrC 12) ∗ wholeP c dlOutM (dlV Vdw Vids Vlg Vf Vaux)
     ∗ (∃ g, wholeP (F := F) c fsM g) ∗ (∃ g, wholeP (F := F) c auxsM g) ∗ (∃ g, wholeP (F := F) c idsvM g) ∗ (∃ g, wholeP (F := F) c lgvM g) ∗ (∃ g, wholeP (F := F) c xsM g) ∗ (∃ g, wholeP (F := F) c wrM g) ∗ (∃ g, wholeP (F := F) c dwrM g) ∗ (∃ g, wholeP (F := F) c dlvM g) ∗ (∃ g, wholeP (F := F) c dwvM g) ∗ (∃ g, wholeP (F := F) c dbM g) ∗ (∃ g, wholeP (F := F) c dbtM g)
     ∗ ((∃ f, xslotP (F := F) c 0 f) ∗ xcellP c 0) ∗ ((∃ f, xslotP (F := F) c 1 f) ∗ xcellP c 1) ∗ ((∃ f, xslotP (F := F) c 2 f) ∗ xcellP c 2)
     ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
     ∗ bigSep Finset.univ (homeF c X) ∗ bigSep Finset.univ (behindF c X (dbC (dlV Vdw Vids Vlg Vf Vaux)) (dbtC (dlV Vdw Vids Vlg Vf Vaux)) Vxsc Vwr)
     ∗ ((∃ f, oslotP (F := F) c 0 f) ∗ ocellP c 0) ∗ ((∃ f, oslotP (F := F) c 1 f) ∗ ocellP c 1) ∗ ((∃ f, oslotP (F := F) c 2 f) ∗ ocellP c 2) ∗ ((∃ f, oslotP (F := F) c 3 f) ∗ ocellP c 3) ∗ ((∃ f, oslotP (F := F) c 4 f) ∗ ocellP c 4) ∗ ((∃ f, oslotP (F := F) c 5 f) ∗ ocellP c 5)
     ∗ ∃ W', owes (c : Thread nD τ) 0 W')) := by
  iintro ⟨Hdw, Hids, Hlg, Hxsc, Hwr16, Hf, Haux, Hdwro, Hdlo, Hfs, Hauxs, Hidsv, Hlgv, Hxs, Hwr, Hd, Hdlv, Hdwv, Hdb, Hdbt, Hx0, Hx1, Hx2, Hs0, Hs1, Hs2, Hc0, Hc1, Hc2, Hm0, Hm1, Hm2, Hm3, Hm4, Hm5, Hm6, Hm7, Hm8, Hm9, HW, Hhome, Hahead, HO0, HO1, HO2, HO3, HO4, HO5⟩
  dsimp only [bodyG]
  sl_exec
  have hdl : bodyRun.sl.r_14 c Vdw Vids Vlg Vf Vaux = dlV Vdw Vids Vlg Vf Vaux := by
    refine dlK_congr ?_ ?_ ?_ ?_ ?_ ?_ ?_ ?_ ?_ ?_ ?_ ?_ ?_ ?_
    · unfold bodyRun.sl.v49; refine (all_landed (F := F) lgvM.view _ _).trans ?_; rfl
    · unfold bodyRun.sl.v60; refine (row_landed (F := F) dwvM.view _ 0 (by decide) _).trans ?_; rfl
    · unfold bodyRun.sl.v61; refine (row_landed (F := F) dwvM.view _ 1 (by decide) _).trans ?_; rfl
    · unfold bodyRun.sl.v62; refine (row_landed (F := F) idsvM.view _ 0 (by decide) _).trans ?_; rfl
    · unfold bodyRun.sl.v65; refine (row_landed (F := F) idsvM.view _ 1 (by decide) _).trans ?_; rfl
    · unfold bodyRun.sl.r_1 bodyRun.sl.f; refine (cell_landed (F := F) (n := 8) fsM.view _ 0 (by decide) _ _).trans ?_; rfl
    · unfold bodyRun.sl.r_4 bodyRun.sl.f_1; refine (cell_landed (F := F) (n := 8) fsM.view _ 1 (by decide) _ _).trans ?_; rfl
    · unfold bodyRun.sl.r_5 bodyRun.sl.f_2; refine (cell_landed (F := F) (n := 8) fsM.view _ 2 (by decide) _ _).trans ?_; rfl
    · unfold bodyRun.sl.r_6 bodyRun.sl.f_3; refine (cell_landed (F := F) (n := 8) fsM.view _ 3 (by decide) _ _).trans ?_; rfl
    · unfold bodyRun.sl.r_7 bodyRun.sl.f_4; refine (cell_landed (F := F) (n := 8) fsM.view _ 4 (by decide) _ _).trans ?_; rfl
    · unfold bodyRun.sl.r_8 bodyRun.sl.f_5; refine (cell_landed (F := F) (n := 8) fsM.view _ 5 (by decide) _ _).trans ?_; rfl
    · unfold bodyRun.sl.r_9 bodyRun.sl.f_6; refine (cell_landed (F := F) (n := 8) fsM.view _ 6 (by decide) _ _).trans ?_; rfl
    · unfold bodyRun.sl.r_10 bodyRun.sl.f_7; refine (cell_landed (F := F) (n := 8) fsM.view _ 7 (by decide) _ _).trans ?_; rfl
    · unfold bodyRun.sl.r_11 bodyRun.sl.f_8; refine (cell_landed (F := F) (n := 1) auxsM.view _ 0 (by decide) _ _).trans ?_; rfl
  have hdb : dbM.view.writes (Elt F) dbM.view.junk (bodyRun.sl.Hdb_12 c Vdw Vids Vlg Vf Vaux) = dbC (dlV Vdw Vids Vlg Vf Vaux) := by
    rw [← hdl]
    refine dbReady_done _ _ ?_
    refine dbReady_step _ 11 (by omega) _ _ _ slices_S8x1536_o0_1408_S8x128 _ rfl rfl rfl ?_
    refine dbReady_step _ 10 (by omega) _ _ _ slices_S8x1536_o0_1280_S8x128 _ rfl rfl rfl ?_
    refine dbReady_step _ 9 (by omega) _ _ _ slices_S8x1536_o0_1152_S8x128 _ rfl rfl rfl ?_
    refine dbReady_step _ 8 (by omega) _ _ _ slices_S8x1536_o0_1024_S8x128 _ rfl rfl rfl ?_
    refine dbReady_step _ 7 (by omega) _ _ _ slices_S8x1536_o0_896_S8x128 _ rfl rfl rfl ?_
    refine dbReady_step _ 6 (by omega) _ _ _ slices_S8x1536_o0_768_S8x128 _ rfl rfl rfl ?_
    refine dbReady_step _ 5 (by omega) _ _ _ slices_S8x1536_o0_640_S8x128 _ rfl rfl rfl ?_
    refine dbReady_step _ 4 (by omega) _ _ _ slices_S8x1536_o0_512_S8x128 _ rfl rfl rfl ?_
    refine dbReady_step _ 3 (by omega) _ _ _ slices_S8x1536_o0_384_S8x128 _ rfl rfl rfl ?_
    refine dbReady_step _ 2 (by omega) _ _ _ slices_S8x1536_o0_256_S8x128 _ rfl rfl rfl ?_
    refine dbReady_step _ 1 (by omega) _ _ _ slices_S8x1536_o0_128_S8x128 _ rfl rfl rfl ?_
    refine dbReady_step _ 0 (by omega) _ _ _ slices_S8x1536_o0_0_S8x128 _ rfl rfl rfl ?_
    exact dbReady_zero _ _
  have hdbt : dbtM.view.writes (Elt F) dbtM.view.junk (bodyRun.sl.Hdbt_12 c Vdw Vids Vlg Vf Vaux) = dbtC (dlV Vdw Vids Vlg Vf Vaux) := by
    rw [← hdl]
    refine dbtReady_done _ _ ?_
    refine dbtReady_step _ 11 (by omega) _ _ _ slices_S8x1536_o0_1408_S8x128 _ rfl rfl rfl ?_
    refine dbtReady_step _ 10 (by omega) _ _ _ slices_S8x1536_o0_1280_S8x128 _ rfl rfl rfl ?_
    refine dbtReady_step _ 9 (by omega) _ _ _ slices_S8x1536_o0_1152_S8x128 _ rfl rfl rfl ?_
    refine dbtReady_step _ 8 (by omega) _ _ _ slices_S8x1536_o0_1024_S8x128 _ rfl rfl rfl ?_
    refine dbtReady_step _ 7 (by omega) _ _ _ slices_S8x1536_o0_896_S8x128 _ rfl rfl rfl ?_
    refine dbtReady_step _ 6 (by omega) _ _ _ slices_S8x1536_o0_768_S8x128 _ rfl rfl rfl ?_
    refine dbtReady_step _ 5 (by omega) _ _ _ slices_S8x1536_o0_640_S8x128 _ rfl rfl rfl ?_
    refine dbtReady_step _ 4 (by omega) _ _ _ slices_S8x1536_o0_512_S8x128 _ rfl rfl rfl ?_
    refine dbtReady_step _ 3 (by omega) _ _ _ slices_S8x1536_o0_384_S8x128 _ rfl rfl rfl ?_
    refine dbtReady_step _ 2 (by omega) _ _ _ slices_S8x1536_o0_256_S8x128 _ rfl rfl rfl ?_
    refine dbtReady_step _ 1 (by omega) _ _ _ slices_S8x1536_o0_128_S8x128 _ rfl rfl rfl ?_
    refine dbtReady_step _ 0 (by omega) _ _ _ slices_S8x1536_o0_0_S8x128 _ rfl rfl rfl ?_
    exact dbtReady_zero _ _
  have hxs : xsM.view.writes (Elt F) xsM.view.junk [⟨Rect.whole S12x128, bodyRun.sl.dma0_5 c Vxsc⟩] = Vxsc := writes_whole xsM.view _ _ Vxsc (fun _ _ h => h) rfl
  have hwr : wrM.view.writes (Elt F) wrM.view.junk [⟨Rect.whole S16x6144, bodyRun.sl.dma0_6 c Vwr⟩] = Vwr := writes_whole wrM.view _ _ Vwr (fun _ _ h => h) rfl
  have hd : dwrM.view.writes (Elt F) dwrM.view.junk bodyRun.sl.Hd_1 = dwrC := dwr_zero _ _ rfl _ rfl
  ihave HI : invAt c X (dbC (dlV Vdw Vids Vlg Vf Vaux)) (dbtC (dlV Vdw Vids Vlg Vf Vaux)) Vxsc Vwr dwrC 0 $$ [Hdb Hdbt Hxs Hwr Hd Hhome Hc0 Hc1 Hc2 Hahead HO0 HO1 HO2 HO3 HO4 HO5 HW]
  · unfold invAt
    isplitl [Hdb]; · iapply (whole_eq c dbM hdb); iexact Hdb
    isplitl [Hdbt]; · iapply (whole_eq c dbtM hdbt); iexact Hdbt
    isplitl [Hxs]; · iapply (whole_eq c xsM hxs); iexact Hxs
    isplitl [Hwr]; · iapply (whole_eq c wrM hwr); iexact Hwr
    isplitl [Hd]; · iapply (whole_eq c dwrM hd); iexact Hd
    isplitl [Hhome]; · iexact Hhome
    isplitl [Hc0]; · iapply (XR_start c X 0 0 0 (by decide) rfl rfl _); iexact Hc0
    isplitl [Hc1]; · iapply (XR_start c X 1 1 1 (by decide) rfl rfl _); iexact Hc1
    isplitl [Hc2]; · iapply (XR_start c X 2 2 2 (by decide) rfl rfl _); iexact Hc2
    isplitl [Hahead]; · rw [Ring.aheadSet_zero]; iexact Hahead
    isplitr; · rw [Ring.behindSet_boot 6 0 (by decide), bigSep_empty]; iempintro
    isplitl [HO0]; · iapply (OR_start c X _ _ _ _ 0 0 (by decide) rfl); iexact HO0
    isplitl [HO1]; · iapply (OR_start c X _ _ _ _ 1 1 (by decide) rfl); iexact HO1
    isplitl [HO2]; · iapply (OR_start c X _ _ _ _ 2 2 (by decide) rfl); iexact HO2
    isplitl [HO3]; · iapply (OR_start c X _ _ _ _ 3 3 (by decide) rfl); iexact HO3
    isplitl [HO4]; · iapply (OR_start c X _ _ _ _ 4 4 (by decide) rfl); iexact HO4
    isplitl [HO5]; · iapply (OR_start c X _ _ _ _ 5 5 (by decide) rfl); iexact HO5
    iexists _; iexact HW
  iapply (loop_rule c X (dbC (dlV Vdw Vids Vlg Vf Vaux)) (dbtC (dlV Vdw Vids Vlg Vf Vaux)) Vxsc Vwr (bodyRun.sl.r_18 c Vdw Vids Vlg Vf Vaux) dwrC) $$ [HI]
  · iexact HI
  iintro %acc HI
  ihave HI := (inv_exit c X (dbC (dlV Vdw Vids Vlg Vf Vaux)) (dbtC (dlV Vdw Vids Vlg Vf Vaux)) Vxsc Vwr dwrC) $$ HI
  icases HI with ⟨Hdb, Hdbt, Hxs, Hwr, Hd, Hhome, HX0, HX1, HX2, Hb, HO0, HO1, HO2, HO3, HO4, HO5, %W', HW⟩
  unfold oflightP
  icases HO0 with ⟨%go0, %gs0, %gv0, HF0, %hv0⟩
  icases HO1 with ⟨%go1, %gs1, %gv1, HF1, %hv1⟩
  icases HO2 with ⟨%go2, %gs2, %gv2, HF2, %hv2⟩
  icases HO3 with ⟨%go3, %gs3, %gv3, HF3, %hv3⟩
  icases HO4 with ⟨%go4, %gs4, %gv4, HF4, %hv4⟩
  icases HO5 with ⟨%go5, %gs5, %gv5, HF5, %hv5⟩
  sl_exec
  sl_step
  have hdwro : dwrOutM.view.writes (Elt F) Vdwr [⟨Rect.whole S8x6144, bodyRun.sl.dma0_10 c X Vdw Vids Vlg Vxsc Vwr Vf Vaux⟩]
      = dwrAcc c X (dbC (dlV Vdw Vids Vlg Vf Vaux)) (dbtC (dlV Vdw Vids Vlg Vf Vaux)) Vxsc Vwr dwrC 12 := writes_whole dwrOutM.view _ _ _ (fun _ _ h => h) rfl
  have hdlr : dlvM.view.read (Elt F) (dlvM.view.writes (Elt F) gdl (bodyRun.sl.Hdlv_1 c Vdw Vids Vlg Vf Vaux)) = dlV Vdw Vids Vlg Vf Vaux :=
    (dlv_done _ _ fun n t => dlv_at (bodyRun.sl.r_14 c Vdw Vids Vlg Vf Vaux) gdl _ rfl _ rfl n t).trans hdl
  have hdlo : dlOutM.view.writes (Elt F) Vdl [⟨Rect.whole S8x1536, bodyRun.sl.dma66 c Vdw Vids Vlg Vf Vaux gdl⟩] = dlV Vdw Vids Vlg Vf Vaux :=
    writes_whole dlOutM.view _ _ _ (fun _ _ h => h) hdlr.symm
  isplitl [Hdw]; · iexact Hdw
  isplitl [Hids]; · iexact Hids
  isplitl [Hlg]; · iexact Hlg
  isplitl [Hxsc]; · iexact Hxsc
  isplitl [Hwr16]; · iexact Hwr16
  isplitl [Hf]; · iexact Hf
  isplitl [Haux]; · iexact Haux
  isplitl [Hdwro]; · iapply (whole_eq c dwrOutM hdwro); iexact Hdwro
  isplitl [Hdlo]; · iapply (whole_eq c dlOutM hdlo); iexact Hdlo
  isplitl [Hfs]; · iexists _; iexact Hfs
  isplitl [Hauxs]; · iexists _; iexact Hauxs
  isplitl [Hidsv]; · iexists _; iexact Hidsv
  isplitl [Hlgv]; · iexists _; iexact Hlgv
  isplitl [Hxs]; · iexists _; iexact Hxs
  isplitl [Hwr]; · iexists _; iexact Hwr
  isplitl [Hd]; · iexists _; iexact Hd
  isplitl [Hdlv]; · iexists _; iexact Hdlv
  isplitl [Hdwv]; · iexists _; iexact Hdwv
  isplitl [Hdb]; · iexists _; iexact Hdb
  isplitl [Hdbt]; · iexists _; iexact Hdbt
  isplitl [HX0]; · iexact HX0
  isplitl [HX1]; · iexact HX1
  isplitl [HX2]; · iexact HX2
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hhome]; · iexact Hhome
  isplitl [Hb HF0_dst HF1_dst HF2_dst HF3_dst HF4_dst HF5_dst]
  · iapply (behind_all (behindF c X (dbC (dlV Vdw Vids Vlg Vf Vaux)) (dbtC (dlV Vdw Vids Vlg Vf Vaux)) Vxsc Vwr))
    isplitl [HF0_dst]; · iapply (landed_mk c 6 go0 gv0 _ hv0); iexact HF0_dst
    isplitl [HF1_dst]; · iapply (landed_mk c 7 go1 gv1 _ hv1); iexact HF1_dst
    isplitl [HF2_dst]; · iapply (landed_mk c 8 go2 gv2 _ hv2); iexact HF2_dst
    isplitl [HF3_dst]; · iapply (landed_mk c 9 go3 gv3 _ hv3); iexact HF3_dst
    isplitl [HF4_dst]; · iapply (landed_mk c 10 go4 gv4 _ hv4); iexact HF4_dst
    isplitl [HF5_dst]; · iapply (landed_mk c 11 go5 gv5 _ hv5); iexact HF5_dst
    iexact Hb
  isplitl [HF0_src HF0]
  · isplitl [HF0_src]; · iexists _; iexact HF0_src
    iexact HF0
  isplitl [HF1_src HF1]
  · isplitl [HF1_src]; · iexists _; iexact HF1_src
    iexact HF1
  isplitl [HF2_src HF2]
  · isplitl [HF2_src]; · iexists _; iexact HF2_src
    iexact HF2
  isplitl [HF3_src HF3]
  · isplitl [HF3_src]; · iexists _; iexact HF3_src
    iexact HF3
  isplitl [HF4_src HF4]
  · isplitl [HF4_src]; · iexists _; iexact HF4_src
    iexact HF4
  isplitl [HF5_src HF5]
  · isplitl [HF5_src]; · iexists _; iexact HF5_src
    iexact HF5
  iexists _; iexact HW
end Body

end Cert.Proof.Bits

end
-- ==== Proof.Bits.Split.lean ====
/-
  The buffers that the kernel moves in pieces, cut into their pieces before the body and joined again after it.
-/
module

public import proofs.«01_k».proof.Proof.Bits.Body
public import Idealize.ShloMosaic.Lib.ViewIndex

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

abbrev BlkSet (b : Fin 12) : Finset S1536x6144.Idx := (Rect.unit (s := S1536x6144) (blkOff b) S128x6144.size (blkOff_inb b)).set
abbrev XsSet (s : Fin 3) : Finset S3x128x6144.Idx := (Rect.unit (s := S3x128x6144) (xsOff s) S1x128x6144.size (xsOff_inb s)).set
abbrev OsSet (s : Fin 6) : Finset S6x128x6144.Idx := (Rect.unit (s := S6x128x6144) (osOff s) S1x128x6144.size (osOff_inb s)).set

theorem off_two (n : ℕ) : ∀ a : Fin 2, a ≠ 0 → (![n, 0] : Fin 2 → ℕ) a = 0 := fun a h => match a with
  | ⟨0, _⟩ => absurd rfl h
  | ⟨1, _⟩ => rfl
theorem off_three (n : ℕ) : ∀ a : Fin 3, a ≠ 0 → (![n, 0, 0] : Fin 3 → ℕ) a = 0 := fun a h => match a with
  | ⟨0, _⟩ => absurd rfl h
  | ⟨1, _⟩ => rfl
  | ⟨2, _⟩ => rfl
theorem size_blk : ∀ a : Fin 2, a ≠ 0 → S128x6144.size a = S1536x6144.size a := fun a h => match a with
  | ⟨0, _⟩ => absurd rfl h
  | ⟨1, _⟩ => rfl
theorem size_xs : ∀ a : Fin 3, a ≠ 0 → S1x128x6144.size a = S3x128x6144.size a := fun a h => match a with
  | ⟨0, _⟩ => absurd rfl h
  | ⟨1, _⟩ => rfl
  | ⟨2, _⟩ => rfl
theorem size_os : ∀ a : Fin 3, a ≠ 0 → S1x128x6144.size a = S6x128x6144.size a := fun a h => match a with
  | ⟨0, _⟩ => absurd rfl h
  | ⟨1, _⟩ => rfl
  | ⟨2, _⟩ => rfl

theorem Blk_disjoint : ∀ b b' : Fin 12, b ≠ b' → Disjoint (BlkSet b) (BlkSet b') := fun b b' h =>
  Ring.lead_disjoint (s := S1536x6144) (NB := 12) (0 : Fin 2) 128 blkOff S128x6144.size blkOff_inb (fun _ => rfl) rfl b b' h
theorem Blk_cover : (Finset.univ : Finset (Fin 12)).biUnion BlkSet = Finset.univ :=
  Ring.lead_cover (s := S1536x6144) (NB := 12) (0 : Fin 2) 128 blkOff S128x6144.size blkOff_inb (fun _ => rfl) (fun b => off_two _) rfl size_blk rfl
theorem Xs_disjoint : ∀ b b' : Fin 3, b ≠ b' → Disjoint (XsSet b) (XsSet b') := fun b b' h =>
  Ring.lead_disjoint (s := S3x128x6144) (NB := 3) (0 : Fin 3) 1 xsOff S1x128x6144.size xsOff_inb (fun b => (Nat.one_mul b.val).symm) rfl b b' h
theorem Xs_cover : (Finset.univ : Finset (Fin 3)).biUnion XsSet = Finset.univ :=
  Ring.lead_cover (s := S3x128x6144) (NB := 3) (0 : Fin 3) 1 xsOff S1x128x6144.size xsOff_inb (fun b => (Nat.one_mul b.val).symm) (fun b => off_three _) rfl size_xs rfl
theorem Os_disjoint : ∀ b b' : Fin 6, b ≠ b' → Disjoint (OsSet b) (OsSet b') := fun b b' h =>
  Ring.lead_disjoint (s := S6x128x6144) (NB := 6) (0 : Fin 3) 1 osOff S1x128x6144.size osOff_inb (fun b => (Nat.one_mul b.val).symm) rfl b b' h
theorem Os_cover : (Finset.univ : Finset (Fin 6)).biUnion OsSet = Finset.univ :=
  Ring.lead_cover (s := S6x128x6144) (NB := 6) (0 : Fin 3) 1 osOff S1x128x6144.size osOff_inb (fun b => (Nat.one_mul b.val).symm) (fun b => off_three _) rfl size_os rfl

theorem xblk_set (b : Fin 12) : (xblk b).view.set = BlkSet b := View.set_slice_whole _ _
theorem oblk_set (b : Fin 12) : (oblk b).view.set = BlkSet b := View.set_slice_whole _ _
theorem xslot_set (s : Fin 3) : (xslot s).view.set = XsSet s := (View.set_reshape _ _).trans (View.set_slice_whole _ _)
theorem oslot_set (s : Fin 6) : (oslot s).view.set = OsSet s := (View.set_reshape _ _).trans (View.set_slice_whole _ _)

section Cut
variable (c : Dev nD)

/-- `x` whole is its twelve blocks. -/
theorem x_eq (X : Buf (Elt F) (xM.view.loc (c : Thread nD τ))) :
    (((c : Thread nD τ).loc main_arg3) ↦{fullShare} X : sProp 𝕄) = bigSep Finset.univ (homeF c X) := by
  rw [Ring.pointsTo_blocks (ℓ := (c : Thread nD τ).loc main_arg3) BlkSet Blk_disjoint Blk_cover]
  exact bigSep_congr fun b _ => by rw [← xblk_set]; rfl
/-- The first three blocks apart from the rest. -/
theorem home_zero (Φ : Fin 12 → sProp 𝕄) : bigSep Finset.univ Φ = iprop(Φ 0 ∗ Φ 1 ∗ Φ 2 ∗ bigSep (Ring.homeSet 3 0) Φ) := by
  rw [show (Finset.univ : Finset (Fin 12)) = insert 0 (insert 1 (insert 2 (Ring.homeSet (NB := 12) 3 0))) from by decide,
    bigSep_insert (by decide), bigSep_insert (by decide), bigSep_insert (by decide)]; rfl

/-- `dx` whole is its twelve blocks, at whatever they hold. -/
theorem dx_split (f : Buf (Elt F) (dxM.view.loc (c : Thread nD τ))) :
    (((c : Thread nD τ).loc main_v7_0) ↦{fullShare} f : sProp 𝕄) ⊢ bigSep Finset.univ (aheadF (F := F) c) := by
  rw [Ring.pointsTo_blocks (ℓ := (c : Thread nD τ).loc main_v7_0) BlkSet Blk_disjoint Blk_cover]
  refine Idealize.SL.BI.bigSep_mono fun b _ => ?_
  rw [← oblk_set]
  show oblkP c b f ⊢ iprop(∃ f, oblkP c b f)
  iintro H; iexists f; iexact H

/-- The contents of `dx` whose block `b` is `v b`. -/
def dxOf (v : Fin 12 → S128x6144.Idx → Elt F .bf16) : S1536x6144.Idx → Elt F .bf16 := fun j =>
  v ⟨(j 0).val / 128, by have h : (j 0).val < 1536 := (j 0).isLt; omega⟩
    (ix2 (n0 := 128) (n1 := 6144) ⟨(j 0).val % 128, Nat.mod_lt _ (by omega)⟩ (j 1))

theorem dxOf_read (v : Fin 12 → S128x6144.Idx → Elt F .bf16) (b : Fin 12) (j : S128x6144.Idx) :
    (oblk b).view.read (Elt F) (dxOf v) j = v b j := by
  have h0 : (j 0).val < 128 := (j 0).isLt
  have h1 : (j 1).val < 6144 := (j 1).isLt
  have e : (oblk b).view.read (Elt F) (dxOf v) j
      = dxOf v (ix2 (n0 := 1536) (n1 := 6144) ⟨128 * b.val + (j 0).val, by have := b.isLt; omega⟩ ⟨(j 1).val, h1⟩) :=
    congrArg (dxOf v) (funext fun i => Fin.ext (match i with
      | ⟨0, _⟩ => show 128 * b.val + 1 * (j 0).val = 128 * b.val + (j 0).val by omega
      | ⟨1, _⟩ => show 0 + 1 * (j 1).val = (j 1).val by omega))
  rw [e]
  have hb : ∀ (b' : Fin 12) (j' : S128x6144.Idx), b' = b → j' = j → v b' j' = v b j := fun b' j' h h' => by rw [h, h']
  refine hb _ _ (Fin.ext (show (128 * b.val + (j 0).val) / 128 = b.val by omega)) (funext fun i => Fin.ext ?_)
  match i with
  | ⟨0, _⟩ => show (128 * b.val + (j 0).val) % 128 = (j 0).val; omega
  | ⟨1, _⟩ => rfl

/-- A block that landed is the block of those contents. -/
theorem landed_block (v : Fin 12 → S128x6144.Idx → Elt F .bf16) (b : Fin 12) (fo : Buf (Elt F) ((oblk b).view.loc (c : Thread nD τ))) :
    oblkP c b ((oblk b).view.writes (Elt F) fo [⟨Rect.whole S128x6144, v b⟩]) ⊢ oblkP c b (dxOf v) := by
  have e : oblkP c b ((oblk b).view.writes (Elt F) fo [⟨Rect.whole S128x6144, v b⟩]) = oblkP c b (dxOf v) := by
    refine pointsTo_congr fun i hi => ?_
    obtain ⟨x, -, rfl⟩ := Finset.mem_map.mp hi
    exact View.eq_of_read_eq ((congrFun (read_writes_whole (oblk b).view fo (v b)) x).trans (dxOf_read v b x).symm)
  exact Entails.of_eq e
theorem landed_at (v : Fin 12 → S128x6144.Idx → Elt F .bf16) (b : Fin 12) :
    landedP c b (v b) ⊢ oblkP c b (dxOf v) := by
  unfold landedP
  iintro ⟨%fo, %v', H, %hv⟩
  rw [hv]
  iapply (landed_block c v b fo); iexact H

/-- The twelve blocks that landed are `dx` whole. -/
theorem dx_join (v : Fin 12 → S128x6144.Idx → Elt F .bf16) :
    bigSep Finset.univ (fun b => landedP c b (v b)) ⊢ (((c : Thread nD τ).loc main_v7_0) ↦{fullShare} dxOf v : sProp 𝕄) := by
  rw [Ring.pointsTo_blocks (ℓ := (c : Thread nD τ).loc main_v7_0) BlkSet Blk_disjoint Blk_cover]
  refine Idealize.SL.BI.bigSep_mono fun b _ => ?_
  rw [← oblk_set]
  exact landed_at c v b

/-- The ring for `x` whole is its three slots, and back. -/
theorem xslotP_eq (s : Fin 3) (f) : xslotP (F := F) c s f = (((c : Thread nD τ).loc cc0_scratch10) ↦[XsSet s]{fullShare} f : sProp 𝕄) :=
  congrArg (fun S => (_ ↦[S]{fullShare} f : sProp 𝕄)) (xslot_set s)
theorem fin3_list (Φ : Fin 3 → sProp 𝕄) : bigSep Finset.univ Φ = iprop(Φ 0 ∗ Φ 1 ∗ Φ 2) :=
  bigSep_univ_eq_bigSepL [(0 : Fin 3), 1, 2] (by decide) (by decide) Φ
theorem xring_split (f : Buf (Elt F) ((c : Thread nD τ).loc cc0_scratch10)) :
    (((c : Thread nD τ).loc cc0_scratch10) ↦{fullShare} f : sProp 𝕄) ⊢ iprop((∃ f, xslotP (F := F) c 0 f) ∗ (∃ f, xslotP (F := F) c 1 f) ∗ (∃ f, xslotP (F := F) c 2 f)) := by
  refine BIBase.Entails.trans ?_ (Entails.of_eq (fin3_list (fun s => iprop(∃ f, xslotP (F := F) c s f))))
  rw [Ring.pointsTo_blocks (ℓ := (c : Thread nD τ).loc cc0_scratch10) XsSet Xs_disjoint Xs_cover]
  refine Idealize.SL.BI.bigSep_mono fun b _ => ?_
  show (((c : Thread nD τ).loc cc0_scratch10) ↦[XsSet b]{fullShare} f : sProp 𝕄) ⊢ iprop(∃ f, xslotP c b f)
  iintro H; iexists f; iapply (Entails.of_eq (xslotP_eq c b f).symm); iexact H
theorem xring_join :
    iprop((∃ f, xslotP (F := F) c 0 f) ∗ (∃ f, xslotP (F := F) c 1 f) ∗ (∃ f, xslotP (F := F) c 2 f)) ⊢ (iprop(∃ f : Buf (Elt F) ((c : Thread nD τ).loc cc0_scratch10), ((c : Thread nD τ).loc cc0_scratch10) ↦{fullShare} f) : sProp 𝕄) := by
  iintro ⟨⟨%f0, H0⟩, H⟩
  iapply (Ring.pointsTo_blocks_join_exists (Ix := Unit) (Name := ℕ) (U := UU nD τ) (Lvl := ℕ) (q := fullShare) (ℓ := (c : Thread nD τ).loc cc0_scratch10) XsSet Xs_disjoint Xs_cover f0)
  iapply (show iprop((∃ f, xslotP (F := F) c 0 f) ∗ (∃ f, xslotP (F := F) c 1 f) ∗ (∃ f, xslotP (F := F) c 2 f)) ⊢ bigSep Finset.univ (fun s => iprop(∃ f, ((c : Thread nD τ).loc cc0_scratch10) ↦[XsSet s]{fullShare} f)) from by
    refine (Entails.of_eq (fin3_list (fun s => iprop(∃ f, xslotP (F := F) c s f))).symm).trans ?_
    refine Idealize.SL.BI.bigSep_mono fun b _ => ?_
    show iprop(∃ f, xslotP c b f) ⊢ iprop(∃ f, ((c : Thread nD τ).loc cc0_scratch10) ↦[XsSet b]{fullShare} f)
    iintro ⟨%f, H⟩; iexists f; iapply (Entails.of_eq (xslotP_eq c b f)); iexact H)
  isplitl [H0]; · iexists f0; iexact H0
  iexact H

/-- The ring for `dx` whole is its six slots, and back. -/
theorem oslotP_eq (s : Fin 6) (f) : oslotP (F := F) c s f = (((c : Thread nD τ).loc cc0_scratch9) ↦[OsSet s]{fullShare} f : sProp 𝕄) :=
  congrArg (fun S => (_ ↦[S]{fullShare} f : sProp 𝕄)) (oslot_set s)
theorem fin6_list (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem oring_split (f : Buf (Elt F) ((c : Thread nD τ).loc cc0_scratch9)) :
    (((c : Thread nD τ).loc cc0_scratch9) ↦{fullShare} f : sProp 𝕄) ⊢ iprop((∃ f, oslotP (F := F) c 0 f) ∗ (∃ f, oslotP (F := F) c 1 f) ∗ (∃ f, oslotP (F := F) c 2 f) ∗ (∃ f, oslotP (F := F) c 3 f) ∗ (∃ f, oslotP (F := F) c 4 f) ∗ (∃ f, oslotP (F := F) c 5 f)) := by
  refine BIBase.Entails.trans ?_ (Entails.of_eq (fin6_list (fun s => iprop(∃ f, oslotP (F := F) c s f))))
  rw [Ring.pointsTo_blocks (ℓ := (c : Thread nD τ).loc cc0_scratch9) OsSet Os_disjoint Os_cover]
  refine Idealize.SL.BI.bigSep_mono fun b _ => ?_
  show (((c : Thread nD τ).loc cc0_scratch9) ↦[OsSet b]{fullShare} f : sProp 𝕄) ⊢ iprop(∃ f, oslotP c b f)
  iintro H; iexists f; iapply (Entails.of_eq (oslotP_eq c b f).symm); iexact H
theorem oring_join :
    iprop((∃ f, oslotP (F := F) c 0 f) ∗ (∃ f, oslotP (F := F) c 1 f) ∗ (∃ f, oslotP (F := F) c 2 f) ∗ (∃ f, oslotP (F := F) c 3 f) ∗ (∃ f, oslotP (F := F) c 4 f) ∗ (∃ f, oslotP (F := F) c 5 f)) ⊢ (iprop(∃ f : Buf (Elt F) ((c : Thread nD τ).loc cc0_scratch9), ((c : Thread nD τ).loc cc0_scratch9) ↦{fullShare} f) : sProp 𝕄) := by
  iintro ⟨⟨%f0, H0⟩, H⟩
  iapply (Ring.pointsTo_blocks_join_exists (Ix := Unit) (Name := ℕ) (U := UU nD τ) (Lvl := ℕ) (q := fullShare) (ℓ := (c : Thread nD τ).loc cc0_scratch9) OsSet Os_disjoint Os_cover f0)
  iapply (show iprop((∃ f, oslotP (F := F) c 0 f) ∗ (∃ f, oslotP (F := F) c 1 f) ∗ (∃ f, oslotP (F := F) c 2 f) ∗ (∃ f, oslotP (F := F) c 3 f) ∗ (∃ f, oslotP (F := F) c 4 f) ∗ (∃ f, oslotP (F := F) c 5 f)) ⊢ bigSep Finset.univ (fun s => iprop(∃ f, ((c : Thread nD τ).loc cc0_scratch9) ↦[OsSet s]{fullShare} f)) from by
    refine (Entails.of_eq (fin6_list (fun s => iprop(∃ f, oslotP (F := F) c s f))).symm).trans ?_
    refine Idealize.SL.BI.bigSep_mono fun b _ => ?_
    show iprop(∃ f, oslotP c b f) ⊢ iprop(∃ f, ((c : Thread nD τ).loc cc0_scratch9) ↦[OsSet b]{fullShare} f)
    iintro ⟨%f, H⟩; iexists f; iapply (Entails.of_eq (oslotP_eq c b f)); iexact H)
  isplitl [H0]; · iexists f0; iexact H0
  iexact H

end Cut

end Cert.Proof.Bits

end
-- ==== Proof.Bits.Launch.lean ====
/-
  The kernel's launch: its buffers handed to the body and taken back, and what the three results hold at the end.
-/
module

public import proofs.«01_k».proof.Proof.Bits.Split
public import proofs.«01_k».proof.Proof.Gen.Kernel.Frame
public import Idealize.ShloMosaic.Lib.Pipeline.FrameBody

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the results hold at the end -/

/-- The gradient of the logits, transposed. -/
def kDL (c : Dev nD) : FVec F S8x1536 .f32 := dlV (V m c main_v3) (V m c main_v4) (V m c main_v5) (V m c main_arg6) (V m c main_arg7)
/-- The gradient of the router's input. -/
def kDX (c : Dev nD) : S1536x6144.Idx → Elt F .bf16 :=
  dxOf fun b => dxB c (V m c main_arg3) (dbC (kDL m c)) (dbtC (kDL m c)) (V m c main_v6) (V m c main_v2) b
/-- The gradient of the router's weights, transposed. -/
def kDW (c : Dev nD) : S8x6144.Idx → Elt F .f32 :=
  dwrAcc c (V m c main_arg3) (dbC (kDL m c)) (dbtC (kDL m c)) (V m c main_v6) (V m c main_v2) dwrC 12
/-- The buffers at the end. -/
def GG (c : Dev nD) : (b : Ref sig .tc) → Buf (Elt F) ((c : Thread nD τ).loc b) :=
  Function.update (Function.update (Function.update (V m c) main_v7_0 (kDX m c)) main_v7_1 (kDW m c)) main_v7_2 (kDL m c)

/-! ## The launch's lists -/

/-- The buffers the body writes, and those it reads, among the arrays. -/
def R0 : Finset (Ref sig .tc) := {main_v7_0, main_v7_1, main_v7_2}
def H0 : Finset (Ref sig .tc) := {main_v3, main_v4, main_v5, main_v6, main_v2, main_arg6, main_arg7, main_arg3}
theorem H0_sub : H0 ⊆ Pipeline.restRefs sig (cfg0.spec) := by decide
theorem R0_sub : R0 ⊆ Pipeline.restRefs sig (cfg0.spec) \ H0 := by decide
abbrev osem0 : Fin 21 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 21 → SemLoc sig) j
theorem ownSemFacts0 : Pipeline.OwnSemFacts (cfg0.spec) osem0 := by decide

theorem hmainD (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8, 9, 10, 11, 12, 13, 14, 15, 16, 17, 18, 19, 20] (by decide) (by decide)]; rfl
theorem hbmPts0_eq (c : Dev nD) :
    (bigSep H0 (fun b => ((c : Thread nD τ).loc b) ↦{fullShare} V m c b) : sProp 𝕄)
      = iprop((((c : Thread nD τ).loc main_v3) ↦{fullShare} V m c main_v3) ∗ (((c : Thread nD τ).loc main_v4) ↦{fullShare} V m c main_v4) ∗ (((c : Thread nD τ).loc main_v5) ↦{fullShare} V m c main_v5) ∗ (((c : Thread nD τ).loc main_v6) ↦{fullShare} V m c main_v6) ∗ (((c : Thread nD τ).loc main_v2) ↦{fullShare} V m c main_v2) ∗ (((c : Thread nD τ).loc main_arg6) ↦{fullShare} V m c main_arg6) ∗ (((c : Thread nD τ).loc main_arg7) ↦{fullShare} V m c main_arg7) ∗ (((c : Thread nD τ).loc main_arg3) ↦{fullShare} V m c main_arg3)) := by
  rw [BI.bigSep_eq_bigSepL_of_eq [main_v3, main_v4, main_v5, main_v6, main_v2, main_arg6, main_arg7, main_arg3] (by decide) (by decide)]; rfl
theorem routed_V (c : Dev nD) :
    (Pipeline.routed R0 c (V m c) : sProp 𝕄)
      = iprop((((c : Thread nD τ).loc main_v7_0) ↦{fullShare} V m c main_v7_0) ∗ (((c : Thread nD τ).loc main_v7_1) ↦{fullShare} V m c main_v7_1) ∗ ((c : Thread nD τ).loc main_v7_2) ↦{fullShare} V m c main_v7_2) := by
  unfold Pipeline.routed; rw [BI.bigSep_eq_bigSepL_of_eq [main_v7_0, main_v7_1, main_v7_2] (by decide) (by decide)]; rfl
theorem GG_0 (c : Dev nD) : GG m c main_v7_0 = kDX m c := by
  unfold GG; rw [Function.update_of_ne (by decide), Function.update_of_ne (by decide), Function.update_self]
theorem GG_1 (c : Dev nD) : GG m c main_v7_1 = kDW m c := by
  unfold GG; rw [Function.update_of_ne (by decide), Function.update_self]
theorem GG_2 (c : Dev nD) : GG m c main_v7_2 = kDL m c := by
  unfold GG; rw [Function.update_self]
theorem routed_G (c : Dev nD) :
    (Pipeline.routed R0 c (GG m c) : sProp 𝕄)
      = iprop((((c : Thread nD τ).loc main_v7_0) ↦{fullShare} kDX m c) ∗ (((c : Thread nD τ).loc main_v7_1) ↦{fullShare} kDW m c) ∗ ((c : Thread nD τ).loc main_v7_2) ↦{fullShare} kDL m c) := by
  unfold Pipeline.routed; rw [BI.bigSep_eq_bigSepL_of_eq [main_v7_0, main_v7_1, main_v7_2] (by decide) (by decide)]
  simp only [BI.bigSepL_cons_cons, BI.bigSepL_singleton, GG_0, GG_1, GG_2]; rfl

/-- A buffer held whole, as the body holds it. -/
theorem held_eq (c : Dev nD) (b : Ref sig .tc) (f : Buf (Elt F) ((c : Thread nD τ).loc b)) :
    (((c : Thread nD τ).loc b) ↦{fullShare} f : sProp 𝕄) = wholeP c (Memref.whole b) f :=
  congrArg (fun S => (((c : Thread nD τ).loc b) ↦[S]{fullShare} f : sProp 𝕄)) (View.set_whole b).symm
theorem to_body (c : Dev nD) (b : Ref sig .tc) (f : Buf (Elt F) ((c : Thread nD τ).loc b)) :
    (((c : Thread nD τ).loc b) ↦{fullShare} f : sProp 𝕄) ⊢ wholeP c (Memref.whole b) f := Entails.of_eq (held_eq c b f)
theorem of_body (c : Dev nD) (b : Ref sig .tc) (f : Buf (Elt F) ((c : Thread nD τ).loc b)) :
    wholeP c (Memref.whole b) f ⊢ (((c : Thread nD τ).loc b) ↦{fullShare} f : sProp 𝕄) := Entails.of_eq (held_eq c b f).symm

/-! ## The body under the launch -/

set_option maxHeartbeats 4000000 in
/-- The body, from the launch's invariant at the start to the launch's invariant at the end. -/
theorem body_launch (c : Dev nD) (W : Waits sig Unit) :
    iprop(Pipeline.ΦDRG osem0 (cfg0.spec) H0 R0 (V m) (V m) c ∗ owes (c : Thread nD τ) 0 W)
      ⊢ wp frame (wpE (defs₀ (F := F)) 𝒱₀ (c : Thread nD τ) none) Set.univ bodyG
          (fun _ => iprop(Pipeline.ΦDRG osem0 (cfg0.spec) H0 R0 (V m) (GG m) c ∗ ∃ W', owes (c : Thread nD τ) 0 W')) := by
  rw [Pipeline.ΦDRG_eq, Pipeline.ΦDRG_eq, scopedRest0_eq, ownSems00_eq, hbmPts0_eq, routed_V, routed_G]
  iintro ⟨⟨⟨⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s0, S0⟩, ⟨%s1, S1⟩⟩, Hg, ⟨Q0, Q1, Q2, Q3, Q4, Q5, Q6, Q7, Q8, Q9, Q10, Q11, Q12, Q13, Q14, Q15, Q16, Q17, Q18, Q19, Q20⟩, ⟨Hdw, Hids, Hlg, Hxsc, Hwr16, Hf, Haux, Hx⟩, ⟨Hdx, Hdwo, Hdlo⟩⟩, HW⟩
  ihave Hx2 := (Entails.of_eq ((x_eq c (V m c main_arg3)).trans (home_zero _))) $$ [Hx]; · iexact Hx
  icases Hx2 with ⟨Hx0, Hx1, Hx2, Hxh⟩
  ihave Ha := (dx_split c (V m c main_v7_0)) $$ [Hdx]; · iexact Hdx
  ihave S10s := (xring_split c s10) $$ [S10]; · iexact S10
  icases S10s with ⟨⟨%t0, X0⟩, ⟨%t1, X1⟩, ⟨%t2, X2⟩⟩
  ihave S9s := (oring_split c s9) $$ [S9]; · iexact S9
  icases S9s with ⟨O0, O1, O2, O3, O4, O5⟩
  iapply (wp_wand_r Idealize.ShloMosaic.frame (wpE (defs₀ (F := F)) 𝒱₀ (c : Thread nD τ) none) Set.univ)
  isplitl [Hdw Hids Hlg Hxsc Hwr16 Hf Haux Hdwo Hdlo S0 S1 S2 S3 S4 S5 S6 S7 S8 S11 S12 Hx0 Hx1 Hx2 X0 X1 X2 Q12 Q13 Q14 Q0 Q1 Q2 Q3 Q4 Q5 Q6 Q7 Q8 Q9 HW Hxh Ha O0 O1 O2 O3 O4 O5 Q15 Q16 Q17 Q18 Q19 Q20]
  · iapply (bodyRun c (V m c main_arg3) (V m c main_v3) (V m c main_v4) (V m c main_v5) (V m c main_v6) (V m c main_v2) (V m c main_arg6) (V m c main_arg7) (V m c main_v7_1) (V m c main_v7_2) s0 s1 s2 s3 s4 s5 s6 s7 s8 s11 s12 t0 t1 t2 W)
    isplitl [Hdw]; · iapply (to_body c main_v3 _); iexact Hdw
    isplitl [Hids]; · iapply (to_body c main_v4 _); iexact Hids
    isplitl [Hlg]; · iapply (to_body c main_v5 _); iexact Hlg
    isplitl [Hxsc]; · iapply (to_body c main_v6 _); iexact Hxsc
    isplitl [Hwr16]; · iapply (to_body c main_v2 _); iexact Hwr16
    isplitl [Hf]; · iapply (to_body c main_arg6 _); iexact Hf
    isplitl [Haux]; · iapply (to_body c main_arg7 _); iexact Haux
    isplitl [Hdwo]; · iapply (to_body c main_v7_1 _); iexact Hdwo
    isplitl [Hdlo]; · iapply (to_body c main_v7_2 _); iexact Hdlo
    isplitl [S0]; · iapply (to_body c cc0_scratch0 _); iexact S0
    isplitl [S1]; · iapply (to_body c cc0_scratch1 _); iexact S1
    isplitl [S2]; · iapply (to_body c cc0_scratch2 _); iexact S2
    isplitl [S3]; · iapply (to_body c cc0_scratch3 _); iexact S3
    isplitl [S4]; · iapply (to_body c cc0_scratch4 _); iexact S4
    isplitl [S5]; · iapply (to_body c cc0_scratch5 _); iexact S5
    isplitl [S6]; · iapply (to_body c cc0_scratch6 _); iexact S6
    isplitl [S7]; · iapply (to_body c cc0_scratch7 _); iexact S7
    isplitl [S8]; · iapply (to_body c cc0_scratch8 _); iexact S8
    isplitl [S11]; · iapply (to_body c cc0_scratch11 _); iexact S11
    isplitl [S12]; · iapply (to_body c cc0_scratch12 _); iexact S12
    isplitl [Hx0]; · iexact Hx0
    isplitl [Hx1]; · iexact Hx1
    isplitl [Hx2]; · iexact Hx2
    isplitl [X0]; · iexact X0
    isplitl [X1]; · iexact X1
    isplitl [X2]; · iexact X2
    isplitl [Q12]; · iexact Q12
    isplitl [Q13]; · iexact Q13
    isplitl [Q14]; · iexact Q14
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [HW]; · iexact HW
    isplitl [Hxh]; · iexact Hxh
    isplitl [Ha]; · iexact Ha
    isplitl [O0 Q15]
    · isplitl [O0]; · iexact O0
      iexact Q15
    isplitl [O1 Q16]
    · isplitl [O1]; · iexact O1
      iexact Q16
    isplitl [O2 Q17]
    · isplitl [O2]; · iexact O2
      iexact Q17
    isplitl [O3 Q18]
    · isplitl [O3]; · iexact O3
      iexact Q18
    isplitl [O4 Q19]
    · isplitl [O4]; · iexact O4
      iexact Q19
    isplitl [O5]; · iexact O5
    iexact Q20
  · iintro %_ ⟨Hdw, Hids, Hlg, Hxsc, Hwr16, Hf, Haux, Hdwo, Hdlo, ⟨%r0, S0⟩, ⟨%r1, S1⟩, ⟨%r2, S2⟩, ⟨%r3, S3⟩, ⟨%r4, S4⟩, ⟨%r5, S5⟩, ⟨%r6, S6⟩, ⟨%r7, S7⟩, ⟨%r8, S8⟩, ⟨%r11, S11⟩, ⟨%r12, S12⟩, ⟨X0, Q12⟩, ⟨X1, Q13⟩, ⟨X2, Q14⟩, Q0, Q1, Q2, Q3, Q4, Q5, Q6, Q7, Q8, Q9, Hxh, Hb, ⟨O0, Q15⟩, ⟨O1, Q16⟩, ⟨O2, Q17⟩, ⟨O3, Q18⟩, ⟨O4, Q19⟩, ⟨O5, Q20⟩, HW⟩
    ihave Hdx := (dx_join c (fun b => dxB c (V m c main_arg3) (dbC (kDL m c)) (dbtC (kDL m c)) (V m c main_v6) (V m c main_v2) b)) $$ [Hb]; · iexact Hb
    ihave S10 := (xring_join c) $$ [X0 X1 X2]
    · isplitl [X0]; · iexact X0
      isplitl [X1]; · iexact X1
      iexact X2
    ihave S9 := (oring_join c) $$ [O0 O1 O2 O3 O4 O5]
    · isplitl [O0]; · iexact O0
      isplitl [O1]; · iexact O1
      isplitl [O2]; · iexact O2
      isplitl [O3]; · iexact O3
      isplitl [O4]; · iexact O4
      iexact O5
    isplitr [HW]
    · isplitl [S2 S3 S4 S5 S6 S7 S8 S9 S10 S11 S12 S0 S1]
      · isplitl [S2]; · iexists _; iapply (of_body c cc0_scratch2 _); iexact S2
        isplitl [S3]; · iexists _; iapply (of_body c cc0_scratch3 _); iexact S3
        isplitl [S4]; · iexists _; iapply (of_body c cc0_scratch4 _); iexact S4
        isplitl [S5]; · iexists _; iapply (of_body c cc0_scratch5 _); iexact S5
        isplitl [S6]; · iexists _; iapply (of_body c cc0_scratch6 _); iexact S6
        isplitl [S7]; · iexists _; iapply (of_body c cc0_scratch7 _); iexact S7
        isplitl [S8]; · iexists _; iapply (of_body c cc0_scratch8 _); iexact S8
        isplitl [S9]; · iexact S9
        isplitl [S10]; · iexact S10
        isplitl [S11]; · iexists _; iapply (of_body c cc0_scratch11 _); iexact S11
        isplitl [S12]; · iexists _; iapply (of_body c cc0_scratch12 _); iexact S12
        isplitl [S0]; · iexists _; iapply (of_body c cc0_scratch0 _); iexact S0
        iexists _; iapply (of_body c cc0_scratch1 _); iexact S1
      isplitl [Hg]; · iexact Hg
      isplitl [Q0 Q1 Q2 Q3 Q4 Q5 Q6 Q7 Q8 Q9 Q10 Q11 Q12 Q13 Q14 Q15 Q16 Q17 Q18 Q19 Q20]
      · isplitl [Q0]; · iexact Q0
        isplitl [Q1]; · iexact Q1
        isplitl [Q2]; · iexact Q2
        isplitl [Q3]; · iexact Q3
        isplitl [Q4]; · iexact Q4
        isplitl [Q5]; · iexact Q5
        isplitl [Q6]; · iexact Q6
        isplitl [Q7]; · iexact Q7
        isplitl [Q8]; · iexact Q8
        isplitl [Q9]; · iexact Q9
        isplitl [Q10]; · iexact Q10
        isplitl [Q11]; · iexact Q11
        isplitl [Q12]; · iexact Q12
        isplitl [Q13]; · iexact Q13
        isplitl [Q14]; · iexact Q14
        isplitl [Q15]; · iexact Q15
        isplitl [Q16]; · iexact Q16
        isplitl [Q17]; · iexact Q17
        isplitl [Q18]; · iexact Q18
        isplitl [Q19]; · iexact Q19
        iexact Q20
      isplitl [Hdw Hids Hlg Hxsc Hwr16 Hf Haux Hxh]
      · isplitl [Hdw]; · iapply (of_body c main_v3 _); iexact Hdw
        isplitl [Hids]; · iapply (of_body c main_v4 _); iexact Hids
        isplitl [Hlg]; · iapply (of_body c main_v5 _); iexact Hlg
        isplitl [Hxsc]; · iapply (of_body c main_v6 _); iexact Hxsc
        isplitl [Hwr16]; · iapply (of_body c main_v2 _); iexact Hwr16
        isplitl [Hf]; · iapply (of_body c main_arg6 _); iexact Hf
        isplitl [Haux]; · iapply (of_body c main_arg7 _); iexact Haux
        iapply (Entails.of_eq (x_eq c (V m c main_arg3)).symm); iexact Hxh
      isplitl [Hdx]; · iexact Hdx
      isplitl [Hdwo]; · iapply (of_body c main_v7_1 _); iexact Hdwo
      iapply (of_body c main_v7_2 _); iexact Hdlo
    iexact HW

/-! ## The run -/

/-- The proof data of the one call: no windows; the launch's invariant before the one point and after it. -/
def dats (_ : Fin 1) (c : Dev nD) : Dat τ (Elt F) Unit ℕ (Pipeline.UD sig nD τ) ℕ cfg0 c where
  A w := w.elim0
  after w _ := w.elim0
  Φ i := if i.val = 0 then Pipeline.ΦDRG osem0 (cfg0.spec) H0 R0 (V m) (V m) c else Pipeline.ΦDRG osem0 (cfg0.spec) H0 R0 (V m) (GG m) c
  q _ := fullShare
  owed _ := 0

theorem defs₀_row (t : Fin cfg0.N) :
    defs₀ (F := F) .tc cfg0.body (cfg0.bodyArgs t (cfg0.slots t)) = bodyG := by
  unfold defs₀; rw [Defs.onTc_tc]

theorem Phi_start (c : Dev nD) (t : Fin cfg0.N) : (dats m 0 c).Φ t.castSucc = Pipeline.ΦDRG osem0 (cfg0.spec) H0 R0 (V m) (V m) c := by
  have ht : t.castSucc.val = 0 := by rw [fin_N0 t]; rfl
  show (if t.castSucc.val = 0 then _ else _) = _
  rw [if_pos ht]
theorem Phi_end (c : Dev nD) (t : Fin cfg0.N) : (dats m 0 c).Φ t.succ = Pipeline.ΦDRG osem0 (cfg0.spec) H0 R0 (V m) (GG m) c := by
  show (if t.succ.val = 0 then Pipeline.ΦDRG osem0 (cfg0.spec) H0 R0 (V m) (V m) c else Pipeline.ΦDRG osem0 (cfg0.spec) H0 R0 (V m) (GG m) c) = _
  rw [if_neg (by rw [Fin.val_succ]; omega)]

theorem body_obligation (c : Dev nD) : BodyObligation (dats (F := F) m 0 c) (defs₀ (F := F)) Variants.none () Set.univ := fun t => by
  rw [defs₀_row, Phi_start, Phi_end, show (Finset.univ : Finset (Fin cfg0.W)) = ∅ from rfl, bigSep_empty, bigSep_empty]
  unfold Dat.owesAt Pipeline.owesWithin
  rw [show (dats m 0 c).owed t.castSucc = 0 from rfl, show (dats m 0 c).owed t.succ = 0 from rfl]
  show iprop(Pipeline.ΦDRG osem0 (cfg0.spec) H0 R0 (V m) (V m) c ∗ (∃ W, ⌜_⌝ ∗ owes (c : Thread nD τ) 0 W) ∗ emp) ⊢ _
  iintro ⟨HP, ⟨%W, -, HW⟩, -⟩
  iapply (wp_wand_r Idealize.ShloMosaic.frame (wpE (defs₀ (F := F)) 𝒱₀ (c : Thread nD τ) none) Set.univ)
  isplitl [HP HW]
  · iapply (body_launch m c W)
    isplitl [HP]; · iexact HP
    iexact HW
  · iintro %_ ⟨HP, ⟨%W', HW⟩⟩
    isplitl [HP]; · iexact HP
    isplitl [HW]
    · iexists W'; isplitr; · ipureintro; exact fun _ _ => Or.inl trivial
      iexact HW
    iempintro

set_option backward.isDefEq.respectTransparency.types false in
theorem run_main : θ_run defs (onTc (τ := τ) (main (F := F))) (s₀ m ρ)
    (fun r => Pipeline.FramePostRG cfgs (dats m) 0 R0 (V m) (GG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ w => w.elim0) (G := GG m)
    (hin := fun _ => .rfl) (hout := fun c => by
      show Pipeline.ΦDRG osem0 (cfg0.spec) H0 R0 (V m) (GG m) c ⊢ _
      exact .rfl)

/-- The kernel's run: its arguments end unchanged, its results at the contents stated above, every counter at zero. -/
theorem run_value : θ_run defs (onTc (τ := τ) (main (F := F))) ⟨m, fun _ => 0, ρ⟩ (fun r => (∀ c : Dev nD,
      (r.2.mem ((c.tc : Thread nD τ).loc main_v7_0) = kDX m c
      ∧ r.2.mem ((c.tc : Thread nD τ).loc main_v7_1) = kDW m c
      ∧ r.2.mem ((c.tc : Thread nD τ).loc main_v7_2) = kDL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨⟨(h.1.written c (by decide)).trans (GG_0 m c), (h.1.written c (by decide)).trans (GG_1 m c), (h.1.written c (by decide)).trans (GG_2 m c)⟩,
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c),
      ((h.1.toR c).2 main_arg7 (Finset.mem_sdiff.mpr ⟨Pipeline.mem_restRefs_of main_arg7 (by decide) (by decide), by decide⟩)).trans (V_main_arg7 m c)⟩, h.2⟩) (run_main m ρ)

end Cert.Proof.Bits

end
-- ==== Proof.RefHost.lean ====
/-
  What the reference's host part leaves: the gradient of the logits as one expression of the arguments.
-/
module

public import proofs.«01_k».proof.Proof.Gen.ReferenceIdeal.Value
public import Idealize.ShloMosaic.Lib.Pointwise
public import Idealize.ShloMosaic.Lib.Claim

@[expose] public section

noncomputable section

namespace Cert.Proof.Ref

open Cert.ReferenceIdeal Cert.ReferenceIdeal.Gen
open Idealize.ShloMosaic Idealize.SL.Sem
open Idealize.ShloMosaic.TcCoe Idealize.ShloMosaic.Tactic

variable {F : FTy → Type} [FloatOps F]
variable (m : (ℓ : Loc nD τ sig) → Buf (Elt F) ℓ) (c : Dev nD)

theorem V_v53 : V m c main_v53 = broadcastInDim S1536x1 ![0] bcast_S1536_S1536x1_0 (m ((c : Thread nD τ).loc main_arg4)) := by
  unfold_abbrev_sides
  simp only [hostOps0, hostOps0_1, hostOps0_2, hostOps0_3, hostOps0_4, List.flatten_cons, List.flatten_nil, List.append_nil, List.cons_append, List.nil_append]
  run_tidy

/-- The softmax over the experts. -/
def smR (lg : Vec F S8x1536 .f32) : Vec F S8x1536 .f32 :=
  let e := Host.exp (subf lg (broadcastInDim S8x1536 ![0, 1] bcast_S1x1536_S8x1536_0_1 (broadcastInDim S1x1536 ![1] bcast_S1536_S1x1536_1
    (maximumf (broadcastInDim S1536 ![] bcast_S_S1536 (constant S_ .f32 0xFF800000#32)) (Host.reduce FloatOps.maximumf lg (constant S_ .f32 0xFF800000#32) reducesTo_S8x1536_S1536_d0 h_S_)))))
  Host.divf e (broadcastInDim S8x1536 ![0, 1] bcast_S1x1536_S8x1536_0_1 (broadcastInDim S1x1536 ![1] bcast_S1536_S1x1536_1
    (Host.reduceAdd e (constant S_ .f32 0x00000000#32) reducesTo_S8x1536_S1536_d0 h_S_)))

/-- Which expert each of a token's two choices names. -/
def selR (ids : Vec F S2x1536 .i32) : IVec S2x8x1536 1 :=
  cmpi .eq (broadcastInDim S2x8x1536 ![0, 1, 2] bcast_S2x1x1536_S2x8x1536_0_1_2 (broadcastInDim S2x1x1536 ![0, 2] bcast_S2x1536_S2x1x1536_0_2 ids))
    (broadcastInDim S2x8x1536 ![0, 1, 2] bcast_S1x8x1_S2x8x1536_0_1_2 (broadcastInDim S1x8x1 ![1] bcast_S8_S1x8x1_1 (iotaInDim S8 32 0)))

/-- The probabilities of the chosen experts. -/
def gR (sel : IVec S2x8x1536 1) (p : Vec F S8x1536 .f32) : Vec F S2x1536 .f32 :=
  Host.reduceAdd (select sel (broadcastInDim S2x8x1536 ![0, 1, 2] bcast_S1x8x1536_S2x8x1536_0_1_2 (broadcastInDim S1x8x1536 ![1, 2] bcast_S8x1536_S1x8x1536_1_2 p))
    (broadcastInDim S2x8x1536 ![] bcast_S_S2x8x1536 (constant S_ .f32 0x00000000#32))) (constant S_ .f32 0x00000000#32) reducesTo_S2x8x1536_S2x1536_d1 h_S_

/-- The gradient of those probabilities. -/
def dgR (dw g : Vec F S2x1536 .f32) : Vec F S2x1536 .f32 :=
  let S := addf (broadcastInDim S1x1536 ![1] bcast_S1536_S1x1536_1 (Host.reduceAdd g (constant S_ .f32 0x00000000#32) reducesTo_S2x1536_S1536_d0 h_S_))
    (broadcastInDim S1x1536 ![] bcast_S_S1x1536 (constant S_ .f32 0x1E3CE508#32))
  Host.divf (subf dw (broadcastInDim S2x1536 ![0, 1] bcast_S1x1536_S2x1536_0_1 (Host.divf (broadcastInDim S1x1536 ![1] bcast_S1536_S1x1536_1
    (Host.reduceAdd (mulf dw g) (constant S_ .f32 0x00000000#32) reducesTo_S2x1536_S1536_d0 h_S_)) S)))
    (broadcastInDim S2x1536 ![0, 1] bcast_S1x1536_S2x1536_0_1 S)

/-- The gradient of the balancing loss. -/
def auxR (f : Vec F S8 .f32) (aux : Vec F S1 .f32) : Vec F S8 .f32 :=
  Host.divf (mulf (broadcastInDim S8 ![0] bcast_S1_S8_0 (mulf aux (broadcastInDim S1 ![] bcast_S_S1 (constant S_ .f32 0x41000000#32)))) f)
    (broadcastInDim S8 ![] bcast_S_S8 (constant S_ .f32 0x44C00000#32))

/-- The gradient of every expert's probability. -/
def dpR (sel : IVec S2x8x1536 1) (dg : Vec F S2x1536 .f32) (A : Vec F S8 .f32) : Vec F S8x1536 .f32 :=
  addf (Host.reduceAdd (select sel (broadcastInDim S2x8x1536 ![0, 1, 2] bcast_S2x1x1536_S2x8x1536_0_1_2 (broadcastInDim S2x1x1536 ![0, 2] bcast_S2x1536_S2x1x1536_0_2 dg))
    (broadcastInDim S2x8x1536 ![] bcast_S_S2x8x1536 (constant S_ .f32 0x00000000#32))) (constant S_ .f32 0x00000000#32) reducesTo_S2x8x1536_S8x1536_d0 h_S_)
    (broadcastInDim S8x1536 ![0, 1] bcast_S8x1_S8x1536_0_1 (broadcastInDim S8x1 ![0] bcast_S8_S8x1_0 A))

/-- The gradient of the logits. -/
def dlR (p dp : Vec F S8x1536 .f32) : Vec F S8x1536 .f32 :=
  mulf p (subf dp (broadcastInDim S8x1536 ![0, 1] bcast_S1x1536_S8x1536_0_1 (broadcastInDim S1x1536 ![1] bcast_S1536_S1x1536_1
    (Host.reduceAdd (mulf dp p) (constant S_ .f32 0x00000000#32) reducesTo_S8x1536_S1536_d0 h_S_))))

/-- The gradient of the logits, from the arguments. -/
def refDL (dw : Vec F S1536x2 .f32) (ids : Vec F S1536x2 .i32) (lg : Vec F S1536x8 .f32) (f : Vec F S8 .f32) (aux : Vec F S1 .f32) : Vec F S8x1536 .f32 :=
  let p := smR (transpose S8x1536 [1, 0] lg transposes_S1536x8_S8x1536_1_0)
  let sel := selR (F := F) (transpose S2x1536 [1, 0] ids transposes_S1536x2_S2x1536_1_0)
  let g := gR sel p
  let dg := dgR (transpose S2x1536 [1, 0] dw transposes_S1536x2_S2x1536_1_0) g
  dlR p (dpR sel dg (auxR f aux))

set_option maxRecDepth 100000 in
theorem V_v52 : V m c main_v52 = refDL (m ((c : Thread nD τ).loc main_arg0)) (m ((c : Thread nD τ).loc main_arg1)) (m ((c : Thread nD τ).loc main_arg2))
    (m ((c : Thread nD τ).loc main_arg6)) (m ((c : Thread nD τ).loc main_arg7)) := by
  unfold_abbrev_sides
  simp only [hostOps0, hostOps0_1, hostOps0_2, hostOps0_3, hostOps0_4, List.flatten_cons, List.flatten_nil, List.append_nil, List.cons_append, List.nil_append]
  run_tidy
  unfold refDL smR selR gR dgR auxR dpR dlR
  dsimp only
  rfl

end Cert.Proof.Ref
end
-- ==== Proof.RefValue.lean ====
/-
  Over the extended reals: what the reference's results hold, entry by entry.
-/
module

public import proofs.«01_k».proof.Proof.Gen.ReferenceIdeal.Value
public import Idealize.ShloMosaic.Lib.Pointwise
public import Idealize.ShloMosaic.Lib.Claim

@[expose] public section

noncomputable section

namespace Cert.Proof.Ref

open Cert.ReferenceIdeal Cert.ReferenceIdeal.Gen
open Idealize.ShloMosaic Idealize.SL.Sem
open Idealize.ShloMosaic.TcCoe Idealize.ShloMosaic.Tactic
open Idealize.ShloMosaic.Pipeline (Dat)

/-! ## The products -/

/-- An entry of the reference's first product. -/
theorem first_at (dl : Vec Ideal S8x1536 .f32) (W : Vec Ideal S6144x8 .bf16) (t : Fin 1536) (d : Fin 6144) :
    k0_pay2 dl W (ix2 (n0 := 1536) (n1 := 6144) t d) = ∑ q : Fin 8, dl (ix2 (n0 := 8) (n1 := 1536) q t) * W (ix2 (n0 := 6144) (n1 := 8) d q) := by
  pointwise [k0_pay2, k0_pay1]

/-- An entry of the reference's second product. -/
theorem second_at (dl : Vec Ideal S8x1536 .f32) (X : Vec Ideal S1536x6144 .fp8e4m3) (s : Vec Ideal S1536x1 .f32) (r : Fin 8) (d : Fin 6144) :
    k0_pay3 dl X s (ix2 (n0 := 8) (n1 := 6144) r d)
      = ∑ t : Fin 1536, dl (ix2 (n0 := 8) (n1 := 1536) r t) * (X (ix2 (n0 := 1536) (n1 := 6144) t d) * s (ix2 (n0 := 1536) (n1 := 1) t 0)) := by
  pointwise [k0_pay3, k0_pay1]

/-! ## The run -/

section Run
variable {F : FTy → Type} [FloatOps F]
variable (m : (ℓ : Loc nD τ sig) → Buf (Elt F) ℓ) (ρ : Dev nD → PrngReg) (c : Dev nD)

/-- The one grid point. -/
def t₀ : Fin cfg0.N := ⟨0, by decide⟩

theorem hz : (![0, 0] : Fin 2 → Nat) = fun _ => 0 := funext fun a => by fin_cases a <;> rfl

theorem out4 (x0 : Vec F S8x1536 .f32) (x1 : Vec F S1536x6144 .fp8e4m3) (x2 : Vec F S1536x1 .f32) (x3 : Vec F S6144x8 .bf16) :
    out0_4 x0 x1 x2 x3 = k0_pay2 x0 x3 := by
  unfold out0_4
  rw [View.canon_unit_zero (S := S1536x6144) hz, View.ld_unit_zero (S := S8x1536) hz, View.ld_unit_zero (S := S6144x8) hz]
theorem out5 (x0 : Vec F S8x1536 .f32) (x1 : Vec F S1536x6144 .fp8e4m3) (x2 : Vec F S1536x1 .f32) (x3 : Vec F S6144x8 .bf16) :
    out0_5 x0 x1 x2 x3 = k0_pay3 x0 x1 x2 := by
  unfold out0_5
  rw [View.canon_unit_zero (S := S8x6144) hz, View.ld_unit_zero (S := S8x1536) hz, View.ld_unit_zero (S := S1536x6144) hz, View.ld_unit_zero (S := S1536x1) hz]

theorem blk0 : iblk m c 0 t₀ = V m c main_v52 :=
  Memref.read_access_unit_zero (Elt F) main_v52 (funext fun a => by fin_cases a <;> decide) (fun a => by fin_cases a <;> decide) _
theorem blk1 : iblk m c 1 t₀ = V m c main_arg3 :=
  Memref.read_access_unit_zero (Elt F) main_arg3 (funext fun a => by fin_cases a <;> decide) (fun a => by fin_cases a <;> decide) _
theorem blk2 : iblk m c 2 t₀ = V m c main_v53 :=
  Memref.read_access_unit_zero (Elt F) main_v53 (funext fun a => by fin_cases a <;> decide) (fun a => by fin_cases a <;> decide) _
theorem blk3 : iblk m c 3 t₀ = V m c main_arg5 :=
  Memref.read_access_unit_zero (Elt F) main_arg5 (funext fun a => by fin_cases a <;> decide) (fun a => by fin_cases a <;> decide) _

theorem arr4 : (dats m 0 c).arrAt 4 cfg0.N = k0_pay2 (V m c main_v52) (V m c main_arg5) := by
  have h := Cert.ReferenceIdeal.Value.blocks4 m c t₀ (by decide)
  rw [Cert.ReferenceIdeal.Value.flushed4, out4, blk0, blk3] at h
  exact (Memref.read_access_unit_zero (Elt F) main_v54_0 (funext fun a => by fin_cases a <;> decide) (fun a => by fin_cases a <;> decide) _).symm.trans h
theorem arr5 : (dats m 0 c).arrAt 5 cfg0.N = k0_pay3 (V m c main_v52) (V m c main_arg3) (V m c main_v53) := by
  have h := Cert.ReferenceIdeal.Value.blocks5 m c t₀ (by decide)
  rw [Cert.ReferenceIdeal.Value.flushed5, out5, blk0, blk1, blk2] at h
  exact (Memref.read_access_unit_zero (Elt F) main_v54_1 (funext fun a => by fin_cases a <;> decide) (fun a => by fin_cases a <;> decide) _).symm.trans h

/-- The reference's run with its three results named. -/
theorem run_named : θ_run defs (onTc (τ := τ) (main (F := F))) ⟨m, fun _ => 0, ρ⟩ fun r => ∀ c : Dev nD,
      r.2.mem ((c : Thread nD τ).loc main_v54_0) = k0_pay2 (V m c main_v52) (V m c main_arg5)
      ∧ r.2.mem ((c : Thread nD τ).loc main_v54_1) = k0_pay3 (V m c main_v52) (V m c main_arg3) (V m c main_v53)
      ∧ r.2.mem ((c : Thread nD τ).loc main_v52) = V m c main_v52
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(Cert.ReferenceIdeal.Value.post4 m r h c).trans (arr4 m c),
      (Cert.ReferenceIdeal.Value.post5 m r h c).trans (arr5 m c),
      ((h c).1 0).trans (((dats m 0 c).arrAt_in 0 rfl _).trans (A_eq m c 0)),
      Cert.ReferenceIdeal.Value.kept_main_arg0 m r h c,
      Cert.ReferenceIdeal.Value.kept_main_arg1 m r h c,
      Cert.ReferenceIdeal.Value.kept_main_arg2 m r h c,
      Cert.ReferenceIdeal.Value.kept_main_arg3 m r h c,
      Cert.ReferenceIdeal.Value.kept_main_arg4 m r h c,
      Cert.ReferenceIdeal.Value.kept_main_arg5 m r h c,
      Cert.ReferenceIdeal.Value.kept_main_arg6 m r h c,
      Cert.ReferenceIdeal.Value.kept_main_arg7 m r h c⟩)
    (run_main m ρ)
end Run

end Cert.Proof.Ref
end
-- ==== Proof.Equation.lean ====
/-
  Over the extended reals: the kernel's gradient of the logits is the reference's, entry by entry.
-/
module

public import proofs.«01_k».proof.Proof.RefHost
public import proofs.«01_k».proof.Proof.Head
public import Idealize.ShloMosaic.Lib.Pointwise

@[expose] public section

noncomputable section

namespace Cert.Proof.Eq

open Idealize.ShloMosaic Idealize.SL.Sem
open Idealize.ShloMosaic.TcCoe Idealize.ShloMosaic.Tactic
open Cert.Proof.Ref Cert.Proof.Ideal Cert.KernelIdeal Cert.KernelIdeal.Gen

/-- Both programs compute the same probabilities. -/
theorem softmax_eq (x : Vec Ideal S8x1536 .f32) (q : Fin 8) (t : Fin 1536) :
    k0_pay82 x (ix2 (n0 := 8) (n1 := 1536) q t) = smR x (ix2 (n0 := 8) (n1 := 1536) q t) := by
  have hm : max (Ideal.ofBits FTy.f32 0xFF800000#32)
        (Finset.fold max (Ideal.ofBits FTy.f32 0xFF800000#32) (fun k : Fin 8 => x (ix2 (n0 := 8) (n1 := 1536) k t)) Finset.univ)
      = Finset.fold max (Ideal.ofBits FTy.f32 0xFF800000#32) (fun k : Fin 8 => x (ix2 (n0 := 8) (n1 := 1536) k t)) Finset.univ :=
    max_eq_right (Finset.le_fold_max _ |>.mpr (Or.inl le_rfl))
  pointwise [k0_pay82, smR]
  rw [hm]

theorem softmax_eqv (x : Vec Ideal S8x1536 .f32) : k0_pay82 x = smR x := by
  funext j
  rw [show j = ix2 (n0 := 8) (n1 := 1536) (j 0) (j 1) from funext fun a => by fin_cases a <;> rfl]
  exact softmax_eq x _ _

/-- The kernel's chain of selections reads the coefficient of its row. -/
theorem coef_eq (f : Fin 8 → EReal) (q : Fin 8) :
    Scalar.select (IntOp.cmpi CmpIPredicate.eq (BitVec.ofNat 32 q.val) 7#32) (f 7)
            (Scalar.select (IntOp.cmpi CmpIPredicate.eq (BitVec.ofNat 32 q.val) 6#32) (f 6)
              (Scalar.select (IntOp.cmpi CmpIPredicate.eq (BitVec.ofNat 32 q.val) 5#32) (f 5)
                (Scalar.select (IntOp.cmpi CmpIPredicate.eq (BitVec.ofNat 32 q.val) 4#32) (f 4)
                  (Scalar.select (IntOp.cmpi CmpIPredicate.eq (BitVec.ofNat 32 q.val) 3#32) (f 3)
                    (Scalar.select (IntOp.cmpi CmpIPredicate.eq (BitVec.ofNat 32 q.val) 2#32) (f 2)
                      (Scalar.select (IntOp.cmpi CmpIPredicate.eq (BitVec.ofNat 32 q.val) 1#32) (f 1)
                        (Scalar.select (IntOp.cmpi CmpIPredicate.eq (BitVec.ofNat 32 q.val) 0#32) (f 0) 0))))))) = f q := by
  fin_cases q <;> rfl

section Router
variable (p : Vec Ideal S8x1536 .f32) (dw : Vec Ideal S2x1536 .f32) (ids : Vec Ideal S2x1536 .i32) (f : Vec Ideal S8 .f32) (aux : Vec Ideal S1 .f32)
  (q : Fin 8) (t : Fin 1536)

/-- What reaches a probability through the routing weights. -/
def dgF (p : Vec Ideal S8x1536 .f32) (dw : Vec Ideal S2x1536 .f32) (ids : Vec Ideal S2x1536 .i32) : Vec Ideal S8x1536 .f32 :=
  k0_pay83 p expertI (fun j => dw (ix2 (n0 := 2) (n1 := 1536) 0 (j 1))) (fun j => dw (ix2 (n0 := 2) (n1 := 1536) 1 (j 1)))
    (fun j => ids (ix2 (n0 := 2) (n1 := 1536) 0 (j 1))) (fun j => ids (ix2 (n0 := 2) (n1 := 1536) 1 (j 1)))

theorem router_at : dgF p dw ids (ix2 (n0 := 8) (n1 := 1536) q t)
    = ∑ k : Fin 2, Scalar.select (selR (F := Ideal) ids (ix3 (n0 := 2) (n1 := 8) (n2 := 1536) k q t))
        (dgR dw (gR (selR (F := Ideal) ids) p) (ix2 (n0 := 2) (n1 := 1536) k t)) (0 : EReal) := by
  pointwise [dgF, k0_pay83, expertI, dgR, gR, selR]
  simp only [Fin.sum_univ_two]

/-- The kernel's gradient of every probability. -/
def dpF (p : Vec Ideal S8x1536 .f32) (dw : Vec Ideal S2x1536 .f32) (ids : Vec Ideal S2x1536 .i32) (f : Vec Ideal S8 .f32) (aux : Vec Ideal S1 .f32) :
    Vec Ideal S8x1536 .f32 :=
  k0_pay86 expertI (dgF p dw ids) (k0_pay84 expertI (f (ix1 (n0 := 8) 0))) (k0_pay85 expertI) (f (ix1 (n0 := 8) 1)) (f (ix1 (n0 := 8) 2)) (f (ix1 (n0 := 8) 3))
    (f (ix1 (n0 := 8) 4)) (f (ix1 (n0 := 8) 5)) (f (ix1 (n0 := 8) 6)) (f (ix1 (n0 := 8) 7)) (aux (ix1 (n0 := 1) 0))

theorem dp_at : dpF p dw ids f aux (ix2 (n0 := 8) (n1 := 1536) q t)
    = dpR (selR (F := Ideal) ids) (dgR dw (gR (selR (F := Ideal) ids) p)) (auxR f aux) (ix2 (n0 := 8) (n1 := 1536) q t) := by
  have h1 : dpF p dw ids f aux (ix2 (n0 := 8) (n1 := 1536) q t) = (dgF p dw ids (ix2 (n0 := 8) (n1 := 1536) q t) : EReal)
      + Ideal.div (aux (ix1 (n0 := 1) 0) * Ideal.ofBits FTy.f32 0x41000000#32 * f (ix1 (n0 := 8) q)) (Ideal.ofBits FTy.f32 0x44C00000#32) := by
    rw [← coef_eq (fun k => f (ix1 (n0 := 8) k)) q]
    pointwise [dpF, k0_pay86, k0_pay84, k0_pay85, expertI]
  have h2 : ∀ (sel : IVec Cert.ReferenceIdeal.S2x8x1536 1) (dg : Vec Ideal S2x1536 .f32) (A : Vec Ideal S8 .f32),
      dpR sel dg A (ix2 (n0 := 8) (n1 := 1536) q t)
        = (∑ k : Fin 2, Scalar.select (sel (ix3 (n0 := 2) (n1 := 8) (n2 := 1536) k q t)) (dg (ix2 (n0 := 2) (n1 := 1536) k t)) (0 : EReal)) + A (ix1 (n0 := 8) q) := by
    intro sel dg A
    pointwise [dpR]
  have h3 : auxR f aux (ix1 (n0 := 8) q)
      = Ideal.div (aux (ix1 (n0 := 1) 0) * Ideal.ofBits FTy.f32 0x41000000#32 * f (ix1 (n0 := 8) q)) (Ideal.ofBits FTy.f32 0x44C00000#32) := by
    pointwise [auxR]
  rw [h1, router_at, h2, h3]

theorem dp_eq : dpF p dw ids f aux = dpR (selR (F := Ideal) ids) (dgR dw (gR (selR (F := Ideal) ids) p)) (auxR f aux) := by
  funext j
  rw [show j = ix2 (n0 := 8) (n1 := 1536) (j 0) (j 1) from funext fun a => by fin_cases a <;> rfl]
  exact dp_at p dw ids f aux _ _
end Router

/-- The last step, from the probabilities and their gradient. -/
theorem last_eq (p dp : Vec Ideal S8x1536 .f32) (q : Fin 8) (t : Fin 1536) (v : FVec Ideal S8x1536 .f32)
    (hv : v (ix2 (n0 := 8) (n1 := 1536) q t) = ∑ k : Fin 8, dp (ix2 (n0 := 8) (n1 := 1536) k t) * p (ix2 (n0 := 8) (n1 := 1536) k t)) :
    k0_pay88 p dp v (ix2 (n0 := 8) (n1 := 1536) q t) = dlR p dp (ix2 (n0 := 8) (n1 := 1536) q t) := by
  pointwise [k0_pay88, dlR]
  rw [hv]

/-- Both programs compute the same gradient of the logits. -/
theorem dl_eq (dw : Vec Ideal S2x1536 .f32) (ids : Vec Ideal S2x1536 .i32) (lg : Vec Ideal S8x1536 .f32) (f : Vec Ideal S8 .f32) (aux : Vec Ideal S1 .f32) :
    (dlV dw ids lg f aux : Vec Ideal S8x1536 .f32)
      = dlR (smR lg) (dpR (selR (F := Ideal) ids) (dgR dw (gR (selR (F := Ideal) ids) (smR lg))) (auxR f aux)) := by
  rw [← softmax_eqv, ← dp_eq]
  funext j
  rw [show j = ix2 (n0 := 8) (n1 := 1536) (j 0) (j 1) from funext fun a => by fin_cases a <;> rfl]
  refine last_eq (k0_pay82 lg) (dpF (k0_pay82 lg) dw ids f aux) (j 0) (j 1) _ ?_
  unfold k0_pay87
  generalize hd : (dpF (k0_pay82 lg) dw ids f aux) = dp
  show broadcastTo S8x1536 (shapeCast S1x1536 (multiReduction .add [0] S1536 (mulf (dpF (k0_pay82 lg) dw ids f aux) (k0_pay82 lg)) 0x00000000#32 reduces_S8x1536_S1536 (.inl rfl) rfl)
    shapeCasts_S1536_S1x1536) broadcasts_S1x1536_S8x1536 (ix2 (n0 := 8) (n1 := 1536) (j 0) (j 1)) = _
  rw [hd]
  generalize k0_pay82 lg = p
  generalize (j 0 : Fin 8) = q
  generalize (j 1 : Fin 1536) = t
  pointwise []

end Cert.Proof.Eq
end
-- ==== Proof.TileValue.lean ====
/-
  Over the extended reals: what one tile's product holds, entry by entry.
-/
module

public import proofs.«01_k».proof.Proof.Head
public import Idealize.ShloMosaic.Lib.Pointwise

@[expose] public section

noncomputable section

namespace Cert.Proof.Ideal

open Cert.KernelIdeal Cert.KernelIdeal.Gen
open Idealize.ShloMosaic
open Idealize.ShloMosaic.TcCoe Idealize.ShloMosaic.Tactic

/-- The rows of a tile's product that go out: token `a` of the chunk against column `b` of the weights. -/
theorem outRows_at (A : Vec Ideal S128x128 .bf16) (B : Vec Ideal S16x128 .bf16) (s : Vec Ideal S1x128 .f32) (X : Vec Ideal S1x128x256 .fp8e4m3)
    (W : Vec Ideal S16x256 .bf16) (a : Fin 128) (b : Fin 256) :
    k0_pay8 (k0_pay1 A B) (k0_pay2 s) X W (ix3 (n0 := 1) (n1 := 128) (n2 := 256) 0 a b)
      = ∑ q : Fin 16, A (ix2 (n0 := 128) (n1 := 128) a ⟨q.val, by omega⟩) * W (ix2 (n0 := 16) (n1 := 256) q b) := by
  pointwise [k0_pay8, k0_pay7, k0_pay1, k0_pay2]
  simp only [dite_eq_ite, ite_self, zero_mul, Finset.sum_const_zero, zero_add, add_zero]

/-- The rows of a tile's product that are summed over the tokens: expert `r` against column `b` of the inputs. -/
theorem sumRows_at (A : Vec Ideal S128x128 .bf16) (B : Vec Ideal S16x128 .bf16) (s : Vec Ideal S1x128 .f32) (X : Vec Ideal S1x128x256 .fp8e4m3)
    (W : Vec Ideal S16x256 .bf16) (acc : Vec Ideal S8x256 .f32) (r : Fin 8) (b : Fin 256) :
    k0_pay9 (k0_pay1 A B) (k0_pay2 s) X W acc (ix2 (n0 := 8) (n1 := 256) r b)
      = acc (ix2 (n0 := 8) (n1 := 256) r b) + ∑ q : Fin 128, B (ix2 (n0 := 16) (n1 := 128) ⟨r.val, by omega⟩ q)
          * (X (ix3 (n0 := 1) (n1 := 128) (n2 := 256) 0 q b) * s (ix2 (n0 := 1) (n1 := 128) 0 q)) := by
  pointwise [k0_pay9, k0_pay7, k0_pay1, k0_pay2]
  simp only [dite_eq_ite, ite_self, zero_mul, Finset.sum_const_zero, zero_add, add_zero]

/-! ## The trips -/

section Trips
variable (X : Vec Ideal S1536x6144 .fp8e4m3) (fdb : Vec Ideal S1536x128 .bf16) (fdbt : Vec Ideal S16x1536 .bf16)
  (fxs : Vec Ideal S12x128 .f32) (fwr : Vec Ideal S16x6144 .bf16)

theorem tok_lt (k : Trip) (a : Fin 128) : 128 * k.val + a.val < 1536 := by have := trip_lt k; omega

theorem db_read (k : Trip) (a q : Fin 128) :
    dbM.view.readAt (Elt Ideal) (Rect.unit (s := S1536x128) (k0_off9 k) S128x128.size (k0_off9_inb k)).toLoadRect fdb (ix2 a q)
      = fdb (ix2 (n0 := 1536) (n1 := 128) ⟨128 * k.val + a.val, tok_lt k a⟩ q) := by
  have h0 : k0_off9 k 0 = 128 * k.val := congrFun (k0_off9_eq k) 0
  have h1 : k0_off9 k 1 = 0 := congrFun (k0_off9_eq k) 1
  refine congrArg fdb (funext fun i => Fin.ext ?_)
  match i with
  | ⟨0, _⟩ => show k0_off9 k 0 + 1 * a.val = 128 * k.val + a.val; omega
  | ⟨1, _⟩ => show k0_off9 k 1 + 1 * q.val = q.val; omega

theorem dbt_read (k : Trip) (r : Fin 16) (q : Fin 128) :
    dbtM.view.readAt (Elt Ideal) (Rect.unit (s := S16x1536) (k0_off10 k) S16x128.size (k0_off10_inb k)).toLoadRect fdbt (ix2 r q)
      = fdbt (ix2 (n0 := 16) (n1 := 1536) r ⟨128 * k.val + q.val, tok_lt k q⟩) := by
  have h0 : k0_off10 k 0 = 0 := congrFun (k0_off10_eq k) 0
  have h1 : k0_off10 k 1 = 128 * k.val := congrFun (k0_off10_eq k) 1
  refine congrArg fdbt (funext fun i => Fin.ext ?_)
  match i with
  | ⟨0, _⟩ => show k0_off10 k 0 + 1 * r.val = r.val; omega
  | ⟨1, _⟩ => show k0_off10 k 1 + 1 * q.val = 128 * k.val + q.val; omega

theorem xs_read (k : Trip) (q : Fin 128) :
    xsV fxs k (ix2 (n0 := 1) (n1 := 128) 0 q) = fxs (ix2 (n0 := 12) (n1 := 128) ⟨k.val, trip_lt k⟩ q) := by
  have h0 : k0_off11 k 0 = k.val := congrFun (k0_off11_eq k) 0
  have h1 : k0_off11 k 1 = 0 := congrFun (k0_off11_eq k) 1
  refine congrArg fxs (funext fun i => Fin.ext ?_)
  match i with
  | ⟨0, _⟩ => show k0_off11 k 0 + 1 * 0 = k.val; omega
  | ⟨1, _⟩ => show k0_off11 k 1 + 1 * q.val = q.val; omega

theorem wt_read (n : Fin 24) (r : Fin 16) (q : Fin 256) (d : Fin 6144) (hd : d.val = 256 * n.val + q.val) :
    wtV fwr n (ix2 (n0 := 16) (n1 := 256) r q) = fwr (ix2 (n0 := 16) (n1 := 6144) r d) := by
  refine congrArg fwr (funext fun i => Fin.ext ?_)
  match i with
  | ⟨0, _⟩ => show 0 + 1 * r.val = r.val; omega
  | ⟨1, _⟩ => show 256 * n.val + 1 * q.val = d.val; omega

theorem xt_read (k : Trip) (n : Fin 24) (q : Fin 128) (b : Fin 256) (d : Fin 6144) (hd : d.val = 256 * n.val + b.val) :
    xtV X (Ring.bk 12 k.val) n (ix3 (n0 := 1) (n1 := 128) (n2 := 256) 0 q b) = X (ix2 (n0 := 1536) (n1 := 6144) ⟨128 * k.val + q.val, tok_lt k q⟩ d) := by
  have hk : (Ring.bk 12 k.val).val = k.val := Ring.bk_val (trip_lt k)
  refine congrArg X (funext fun i => Fin.ext ?_)
  match i with
  | ⟨0, _⟩ => show 128 * (Ring.bk 12 k.val).val + 1 * q.val = 128 * k.val + q.val; omega
  | ⟨1, _⟩ => show 0 + 1 * (256 * n.val + b.val) = d.val; omega

/-- An entry of the block of `dx` that trip `k` computes. -/
theorem dxv_at (k : Trip) (a : Fin 128) (d : Fin 6144) :
    dxv X fdb fdbt fxs fwr k (ix2 a d)
      = ∑ q : Fin 16, fdb (ix2 (n0 := 1536) (n1 := 128) ⟨128 * k.val + a.val, tok_lt k a⟩ ⟨q.val, by omega⟩) * fwr (ix2 (n0 := 16) (n1 := 6144) q d) := by
  refine (outRows_at _ _ _ _ _ a ⟨d.val % 256, Nat.mod_lt _ (by omega)⟩).trans (Finset.sum_congr rfl fun q _ => ?_)
  exact congrArg₂ (fun u v : EReal => u * v) (db_read fdb k a ⟨q.val, by omega⟩)
    (wt_read fwr ⟨d.val / 256, by omega⟩ q ⟨d.val % 256, Nat.mod_lt _ (by omega)⟩ d (by show d.val = 256 * (d.val / 256) + d.val % 256; omega))

/-- An entry of the accumulator of `dWr` after trip `k`. -/
theorem dwrStep_at (k : Trip) (fd : Vec Ideal S8x6144 .f32) (r : Fin 8) (d : Fin 6144) :
    dwrStep X fdb fdbt fxs fwr k fd (ix2 (n0 := 8) (n1 := 6144) r d)
      = fd (ix2 (n0 := 8) (n1 := 6144) r d) + ∑ q : Fin 128, fdbt (ix2 (n0 := 16) (n1 := 1536) ⟨r.val, by omega⟩ ⟨128 * k.val + q.val, tok_lt k q⟩)
          * (X (ix2 (n0 := 1536) (n1 := 6144) ⟨128 * k.val + q.val, tok_lt k q⟩ d) * fxs (ix2 (n0 := 12) (n1 := 128) ⟨k.val, trip_lt k⟩ q)) := by
  have hd : d.val = 256 * (d.val / 256) + d.val % 256 := by omega
  refine (sumRows_at _ _ _ _ _ _ r ⟨d.val % 256, Nat.mod_lt _ (by omega)⟩).trans ?_
  refine congrArg₂ (fun u v : EReal => u + v) ?_ (Finset.sum_congr rfl fun q _ => ?_)
  · refine congrArg fd (funext fun i => Fin.ext ?_)
    match i with
    | ⟨0, _⟩ => show 0 + 1 * r.val = r.val; omega
    | ⟨1, _⟩ => show 256 * (d.val / 256) + 1 * (d.val % 256) = d.val; omega
  · exact congrArg₂ (fun u v : EReal => u * v) (dbt_read fdbt k ⟨r.val, by omega⟩ q)
      (congrArg₂ (fun u v : EReal => u * v) (xt_read X k ⟨d.val / 256, by omega⟩ q _ d hd) (xs_read fxs k q))
end Trips

end Cert.Proof.Ideal
end
-- ==== Proof.KernelValue.lean ====
/-
  Over the extended reals: what the kernel's three results hold, entry by entry, as functions of its arguments.
-/
module

public import proofs.«01_k».proof.Proof.TileValue
public import proofs.«01_k».proof.Proof.Launch
public import Idealize.ShloMosaic.Lib.StableHlo.Run
public import Idealize.ShloMosaic.Lib.Claim

@[expose] public section

noncomputable section

namespace Cert.Proof.Ideal

open Cert.KernelIdeal Cert.KernelIdeal.Gen
open Idealize.ShloMosaic
open Idealize.ShloMosaic.TcCoe Idealize.ShloMosaic.Tactic

/-! ## The arrays that the host prepares -/

section Host
variable {F : FTy → Type} [FloatOps F] (m : (ℓ : Loc nD τ sig) → Buf (Elt F) ℓ) (c : Dev nD)

theorem V_v3 : V m c main_v3 = transpose S2x1536 [1, 0] (m ((c : Thread nD τ).loc main_arg0)) transposes_S1536x2_S2x1536_1_0 := by
  unfold_abbrev_sides
  after_results
theorem V_v4 : V m c main_v4 = transpose S2x1536 [1, 0] (m ((c : Thread nD τ).loc main_arg1)) transposes_S1536x2_S2x1536_1_0 := by
  unfold_abbrev_sides
  after_results
theorem V_v5 : V m c main_v5 = transpose S8x1536 [1, 0] (m ((c : Thread nD τ).loc main_arg2)) transposes_S1536x8_S8x1536_1_0 := by
  unfold_abbrev_sides
  after_results
theorem V_v6 : V m c main_v6 = shapeCast S12x128 (m ((c : Thread nD τ).loc main_arg4)) shapeCasts_S1536_S12x128 := by
  unfold_abbrev_sides
  after_results
  rfl
theorem V_v2 : V m c main_v2 = concatenate S16x6144 0 [⟨S8x6144, transpose S8x6144 [1, 0] (m ((c : Thread nD τ).loc main_arg5)) transposes_S6144x8_S8x6144_1_0⟩,
    ⟨S8x6144, broadcastInDim S8x6144 ![] bcast_S_S8x6144 (constant S_ .bf16 0x0000#16)⟩] concatenates_S8x6144_S8x6144_S16x6144_d0 := by
  unfold_abbrev_sides
  after_results
end Host

section Values
variable (m : (ℓ : Loc nD τ sig) → Buf (Elt Ideal) ℓ) (c : Dev nD)

/-- The arguments, as arrays. -/
abbrev aDw : Vec Ideal S1536x2 .f32 := m ((c : Thread nD τ).loc main_arg0)
abbrev aIds : Vec Ideal S1536x2 .i32 := m ((c : Thread nD τ).loc main_arg1)
abbrev aLg : Vec Ideal S1536x8 .f32 := m ((c : Thread nD τ).loc main_arg2)
abbrev aX : Vec Ideal S1536x6144 .fp8e4m3 := m ((c : Thread nD τ).loc main_arg3)
abbrev aXs : Vec Ideal S1536 .f32 := m ((c : Thread nD τ).loc main_arg4)
abbrev aWr : Vec Ideal S6144x8 .bf16 := m ((c : Thread nD τ).loc main_arg5)
abbrev aF : Vec Ideal S8 .f32 := m ((c : Thread nD τ).loc main_arg6)
abbrev aAux : Vec Ideal S1 .f32 := m ((c : Thread nD τ).loc main_arg7)

/-! ## The padded arrangements -/

theorem dbC_lo (dl : FVec Ideal S8x1536 .f32) (t : Fin 1536) (q : Fin 8) :
    (dbC dl : Vec Ideal S1536x128 .bf16) (ix2 (n0 := 1536) (n1 := 128) t ⟨q.val, by omega⟩) = dl (ix2 (n0 := 8) (n1 := 1536) q t) := by
  show dbEl dl q.val t = _
  unfold dbEl
  rw [dif_pos q.isLt]
  rfl
theorem dbC_hi (dl : FVec Ideal S8x1536 .f32) (t : Fin 1536) (q : Fin 128) (h : ¬ q.val < 8) :
    (dbC dl : Vec Ideal S1536x128 .bf16) (ix2 (n0 := 1536) (n1 := 128) t q) = (0 : EReal) := by
  show dbEl dl q.val t = _
  unfold dbEl
  rw [dif_neg h]
  exact Ideal.ofBits_zero_f32
theorem dbtC_lo (dl : FVec Ideal S8x1536 .f32) (t : Fin 1536) (q : Fin 8) :
    (dbtC dl : Vec Ideal S16x1536 .bf16) (ix2 (n0 := 16) (n1 := 1536) ⟨q.val, by omega⟩ t) = dl (ix2 (n0 := 8) (n1 := 1536) q t) :=
  dbC_lo dl t q

theorem wr_lo (q : Fin 8) (d : Fin 6144) :
    (V m c main_v2 : Vec Ideal S16x6144 .bf16) (ix2 (n0 := 16) (n1 := 6144) ⟨q.val, by omega⟩ d) = aWr m c (ix2 (n0 := 6144) (n1 := 8) d q) := by
  rw [V_v2]
  have h : q.val < 8 := q.isLt
  pointwise

theorem xs_at (k : Fin 12) (q : Fin 128) :
    (V m c main_v6 : Vec Ideal S12x128 .f32) (ix2 (n0 := 12) (n1 := 128) k q) = aXs m c (ix1 (n0 := 1536) ⟨128 * k.val + q.val, by omega⟩) := by
  rw [V_v6]
  refine shapeCast_apply _ _ (ix2 k q) (ix1 (n0 := 1536) ⟨128 * k.val + q.val, by omega⟩) ?_
  rw [Shape.rowMajor_val_one, Shape.rowMajor_val_two]
  show 128 * k.val + q.val = k.val * 128 + q.val
  omega

/-! ## The products -/

/-- The gradient of the router's input: the gradient of the logits against the router's weights. -/
theorem kDX_at (t : Fin 1536) (d : Fin 6144) :
    (kDX m c : Vec Ideal S1536x6144 .bf16) (ix2 (n0 := 1536) (n1 := 6144) t d)
      = ∑ q : Fin 8, kDL m c (ix2 (n0 := 8) (n1 := 1536) q t) * aWr m c (ix2 (n0 := 6144) (n1 := 8) d q) := by
  have ht : 128 * (t.val / 128) + t.val % 128 = t.val := by omega
  refine (dxv_at (V m c main_arg3) (dbC (kDL m c)) (dbtC (kDL m c)) (V m c main_v6) (V m c main_v2) (tripOf ⟨t.val / 128, by omega⟩)
    ⟨t.val % 128, Nat.mod_lt _ (by omega)⟩ d).trans ?_
  have e : (⟨128 * (tripOf ⟨t.val / 128, by omega⟩).val + t.val % 128, tok_lt (tripOf ⟨t.val / 128, by omega⟩) ⟨t.val % 128, Nat.mod_lt _ (by omega)⟩⟩ : Fin 1536) = t :=
    Fin.ext ht
  refine (Fin.sum_univ_add (a := 8) (b := 8) _).trans ?_
  refine (congrArg₂ (fun u v : EReal => u + v) (Finset.sum_congr rfl fun q _ => ?_) (Finset.sum_eq_zero fun q _ => ?_)).trans (add_zero _)
  · refine congrArg₂ (fun u v : EReal => u * v) ?_ (wr_lo m c q d)
    exact (congrArg (fun t' => (dbC (kDL m c) : Vec Ideal S1536x128 .bf16) (ix2 (n0 := 1536) (n1 := 128) t' ⟨q.val, by omega⟩)) e).trans (dbC_lo _ t q)
  · refine (congrArg (fun u : EReal => u * _) (dbC_hi (kDL m c) _ _ ?_)).trans (zero_mul _)
    show ¬ 8 + q.val < 8
    omega

/-- One trip adds its 128 tokens to the gradient of the router's weights. -/
theorem dwr_trip (fd : Vec Ideal S8x6144 .f32) (k : Trip) (r : Fin 8) (d : Fin 6144) :
    dwrStep (V m c main_arg3) (dbC (kDL m c)) (dbtC (kDL m c)) (V m c main_v6) (V m c main_v2) k fd (ix2 (n0 := 8) (n1 := 6144) r d)
      = fd (ix2 (n0 := 8) (n1 := 6144) r d) + ∑ q : Fin 128, kDL m c (ix2 (n0 := 8) (n1 := 1536) r ⟨128 * k.val + q.val, tok_lt k q⟩)
          * (aX m c (ix2 (n0 := 1536) (n1 := 6144) ⟨128 * k.val + q.val, tok_lt k q⟩ d) * aXs m c (ix1 (n0 := 1536) ⟨128 * k.val + q.val, tok_lt k q⟩)) := by
  refine (dwrStep_at (V m c main_arg3) (dbC (kDL m c)) (dbtC (kDL m c)) (V m c main_v6) (V m c main_v2) k fd r d).trans ?_
  refine congrArg (fun v : EReal => fd (ix2 (n0 := 8) (n1 := 6144) r d) + v) (Finset.sum_congr rfl fun q _ => ?_)
  exact congrArg₂ (fun u v : EReal => u * v) (dbtC_lo (kDL m c) _ r)
    (congrArg₂ (fun u v : EReal => u * v) (congrFun (V_main_arg3 m c) _) (xs_at m c ⟨k.val, trip_lt k⟩ q))

/-- The gradient of the router's weights: the gradient of the logits against the scaled inputs. -/
theorem kDW_at (r : Fin 8) (d : Fin 6144) :
    (kDW m c : Vec Ideal S8x6144 .f32) (ix2 (n0 := 8) (n1 := 6144) r d)
      = ∑ t : Fin 1536, kDL m c (ix2 (n0 := 8) (n1 := 1536) r t) * (aX m c (ix2 (n0 := 1536) (n1 := 6144) t d) * aXs m c (ix1 (n0 := 1536) t)) := by
  let T : Fin 1536 → EReal := fun t => kDL m c (ix2 (n0 := 8) (n1 := 1536) r t) * (aX m c (ix2 (n0 := 1536) (n1 := 6144) t d) * aXs m c (ix1 (n0 := 1536) t))
  let A : ℕ → EReal := fun k => (dwrAcc c (V m c main_arg3) (dbC (kDL m c)) (dbtC (kDL m c)) (V m c main_v6) (V m c main_v2) dwrC k : Vec Ideal S8x6144 .f32) (ix2 (n0 := 8) (n1 := 6144) r d)
  have h : ∀ k : ℕ, (hk : k ≤ 12) → A k = ∑ p : Fin k, ∑ q : Fin 128, T ⟨128 * p.val + q.val, by omega⟩ := by
    intro k
    induction k with
    | zero => intro _; exact Ideal.ofBits_zero_f32
    | succ k ih =>
      intro hk
      have e : A (k + 1) = _ := (congrFun (dwrAcc_succ c (V m c main_arg3) (dbC (kDL m c)) (dbtC (kDL m c)) (V m c main_v6) (V m c main_v2) dwrC (tripOf ⟨k, by omega⟩)) _).trans
        (dwr_trip m c _ (tripOf ⟨k, by omega⟩) r d)
      refine e.trans (Eq.trans ?_ (Fin.sum_univ_castSucc _).symm)
      exact congrArg (fun u : EReal => u + ∑ q : Fin 128, T ⟨128 * k + q.val, by omega⟩) (ih (by omega))
  refine (h 12 le_rfl).trans ?_
  rw [← Fintype.sum_prod_type']
  exact (Fintype.sum_equiv (finProdFinEquiv (m := 12) (n := 128)) _ T (fun p => congrArg T (Fin.ext (by
    show 128 * p.1.val + p.2.val = p.2.val + 128 * p.1.val; omega))))
end Values

end Cert.Proof.Ideal
end
-- ==== Proof.Agree.lean ====
/-
  Over the extended reals: from equal arguments, the reference's three results are the kernel's.
-/
module

public import proofs.«01_k».proof.Proof.RefHost
public import proofs.«01_k».proof.Proof.RefValue
public import proofs.«01_k».proof.Proof.Equation
public import proofs.«01_k».proof.Proof.KernelValue

@[expose] public section

noncomputable section

namespace Cert.Proof.Eq

open Idealize.ShloMosaic Idealize.SL.Sem
open Idealize.ShloMosaic.TcCoe Idealize.ShloMosaic.Tactic
open Cert.Proof.Ref Cert.Proof.Ideal

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The reference's arguments, as arrays. -/
abbrev bDw : Vec Ideal KernelIdeal.S1536x2 .f32 := m' ((c.tc : Thread ReferenceIdeal.nD ReferenceIdeal.τ).loc ReferenceIdeal.main_arg0)
abbrev bIds : Vec Ideal KernelIdeal.S1536x2 .i32 := m' ((c.tc : Thread ReferenceIdeal.nD ReferenceIdeal.τ).loc ReferenceIdeal.main_arg1)
abbrev bLg : Vec Ideal KernelIdeal.S1536x8 .f32 := m' ((c.tc : Thread ReferenceIdeal.nD ReferenceIdeal.τ).loc ReferenceIdeal.main_arg2)
abbrev bX : Vec Ideal KernelIdeal.S1536x6144 .fp8e4m3 := m' ((c.tc : Thread ReferenceIdeal.nD ReferenceIdeal.τ).loc ReferenceIdeal.main_arg3)
abbrev bXs : Vec Ideal KernelIdeal.S1536 .f32 := m' ((c.tc : Thread ReferenceIdeal.nD ReferenceIdeal.τ).loc ReferenceIdeal.main_arg4)
abbrev bWr : Vec Ideal KernelIdeal.S6144x8 .bf16 := m' ((c.tc : Thread ReferenceIdeal.nD ReferenceIdeal.τ).loc ReferenceIdeal.main_arg5)
abbrev bF : Vec Ideal KernelIdeal.S8 .f32 := m' ((c.tc : Thread ReferenceIdeal.nD ReferenceIdeal.τ).loc ReferenceIdeal.main_arg6)
abbrev bAux : Vec Ideal KernelIdeal.S1 .f32 := m' ((c.tc : Thread ReferenceIdeal.nD ReferenceIdeal.τ).loc ReferenceIdeal.main_arg7)

/-- The gradients of the logits agree. -/
theorem dl_agree (h0 : bDw m' c = aDw m c) (h1 : bIds m' c = aIds m c) (h2 : bLg m' c = aLg m c) (h6 : bF m' c = aF m c) (h7 : bAux m' c = aAux m c) :
    (ReferenceIdeal.Gen.V m' c ReferenceIdeal.main_v52 : Vec Ideal KernelIdeal.S8x1536 .f32) = kDL m c := by
  refine (V_v52 m' c).trans ?_
  have hk : (kDL m c : Vec Ideal KernelIdeal.S8x1536 .f32) = refDL (aDw m c) (aIds m c) (aLg m c) (aF m c) (aAux m c) := by
    unfold kDL
    rw [Cert.Proof.Ideal.V_v3, Cert.Proof.Ideal.V_v4, Cert.Proof.Ideal.V_v5]
    rw [KernelIdeal.Gen.V_main_arg6, KernelIdeal.Gen.V_main_arg7]
    exact dl_eq _ _ _ _ _
  rw [hk, ← h0, ← h1, ← h2, ← h6, ← h7]

/-- The gradients of the router's input agree. -/
theorem dx_agree (hdl : (ReferenceIdeal.Gen.V m' c ReferenceIdeal.main_v52 : Vec Ideal KernelIdeal.S8x1536 .f32) = kDL m c) (h5 : bWr m' c = aWr m c) :
    (ReferenceIdeal.Gen.k0_pay2 (ReferenceIdeal.Gen.V m' c ReferenceIdeal.main_v52) (ReferenceIdeal.Gen.V m' c ReferenceIdeal.main_arg5) : Vec Ideal KernelIdeal.S1536x6144 .bf16)
      = kDX m c := by
  have h5' : (ReferenceIdeal.Gen.V m' c ReferenceIdeal.main_arg5 : Vec Ideal KernelIdeal.S6144x8 .bf16) = aWr m c :=
    (ReferenceIdeal.Gen.V_main_arg5 m' c).trans h5
  funext j
  rw [show j = ix2 (n0 := 1536) (n1 := 6144) (j 0) (j 1) from funext fun a => by fin_cases a <;> rfl]
  refine (first_at _ _ (j 0) (j 1)).trans (Eq.trans ?_ (kDX_at m c (j 0) (j 1)).symm)
  exact Finset.sum_congr rfl fun q _ => congrArg₂ (fun u v : EReal => u * v) (congrFun hdl _) (congrFun h5' _)

/-- The reference's scales, one to a row. -/
theorem scale_at (h4 : bXs m' c = aXs m c) (t : Fin 1536) :
    (ReferenceIdeal.Gen.V m' c ReferenceIdeal.main_v53 : Vec Ideal ReferenceIdeal.S1536x1 .f32) (ix2 (n0 := 1536) (n1 := 1) t 0) = aXs m c (ix1 (n0 := 1536) t) := by
  rw [← h4]
  have e : ∀ s : Vec Ideal ReferenceIdeal.S1536 .f32,
      broadcastInDim ReferenceIdeal.S1536x1 ![0] ReferenceIdeal.Gen.bcast_S1536_S1536x1_0 s (ix2 (n0 := 1536) (n1 := 1) t 0) = s (ix1 (n0 := 1536) t) := by
    intro s
    pointwise
  exact (congrFun (V_v53 m' c) _).trans (e (bXs m' c))

/-- The gradients of the router's weights agree. -/
theorem dw_agree (hdl : (ReferenceIdeal.Gen.V m' c ReferenceIdeal.main_v52 : Vec Ideal KernelIdeal.S8x1536 .f32) = kDL m c) (h3 : bX m' c = aX m c)
    (h4 : bXs m' c = aXs m c) :
    (ReferenceIdeal.Gen.k0_pay3 (ReferenceIdeal.Gen.V m' c ReferenceIdeal.main_v52) (ReferenceIdeal.Gen.V m' c ReferenceIdeal.main_arg3)
        (ReferenceIdeal.Gen.V m' c ReferenceIdeal.main_v53) : Vec Ideal KernelIdeal.S8x6144 .f32)
      = kDW m c := by
  have h3' : (ReferenceIdeal.Gen.V m' c ReferenceIdeal.main_arg3 : Vec Ideal KernelIdeal.S1536x6144 .fp8e4m3) = aX m c :=
    (ReferenceIdeal.Gen.V_main_arg3 m' c).trans h3
  funext j
  rw [show j = ix2 (n0 := 8) (n1 := 6144) (j 0) (j 1) from funext fun a => by fin_cases a <;> rfl]
  refine (second_at _ _ _ (j 0) (j 1)).trans (Eq.trans ?_ (kDW_at m c (j 0) (j 1)).symm)
  exact Finset.sum_congr rfl fun t _ => congrArg₂ (fun u v : EReal => u * v) (congrFun hdl _)
    (congrArg₂ (fun u v : EReal => u * v) (congrFun h3' _) (scale_at m m' c h4 t))

end Cert.Proof.Eq
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Bits.Launch
public import proofs.«01_k».proof.Proof.Agree
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, by
  refine ⟨?_, ?_, ?_, ?_, ?_⟩
  · intro m ρ _
    exact (θ_run _ _ _).mono (fun _ h => ⟨fun c => (h.1 c).2, h.2⟩) (Cert.Proof.Bits.run_value m ρ)
  · intro m ρ _
    exact (θ_run _ _ _).mono (fun _ h => ⟨fun c => (h.1 c).2, h.2⟩) (Cert.Proof.Ideal.run_value m ρ)
  · intro m ρ _
    exact Cert.ReferenceIdeal.Gen.frame m ρ
  · trivial
  · intro m g m' g' _ hm
    have hdl := fun c => Cert.Proof.Eq.dl_agree m m' c (hm c).1 (hm c).2.1 (hm c).2.2.1 (hm c).2.2.2.2.2.2.1 (hm c).2.2.2.2.2.2.2
    refine ⟨fun c => Cert.Proof.Ideal.kDX m c, fun c => Cert.Proof.Ideal.kDW m c, fun c => Cert.Proof.Ideal.kDL m c, ?_, ?_⟩
    · exact (θ_run _ _ _).mono (fun _ h c => ⟨(h.1 c).1.1, (h.1 c).1.2.1, (h.1 c).1.2.2, (h.1 c).2⟩) (Cert.Proof.Ideal.run_value m g)
    · exact (θ_run _ _ _).mono (fun _ h c => ⟨(h c).1.trans (Cert.Proof.Eq.dx_agree m m' c (hdl c) (hm c).2.2.2.2.2.1),
        (h c).2.1.trans (Cert.Proof.Eq.dw_agree m m' c (hdl c) (hm c).2.2.2.1 (hm c).2.2.2.2.1),
        (h c).2.2.1.trans (hdl c), (h c).2.2.2⟩) (Cert.Proof.Ref.run_named m' g')⟩

end Cert.Proof

end
